-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v26) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v15)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v17)) (v3 : (c : Dev Cert.Kernel2Ideal.nD) → Buf (Elt Ideal) ((c.tc : Thread Cert.Kernel2Ideal.nD Cert.Kernel2Ideal.τ).loc Cert.Kernel2Ideal.main_v18)) (v4 : (c : Dev Cert.Kernel2Ideal.nD) → Buf (Elt Ideal) ((c.tc : Thread Cert.Kernel2Ideal.nD Cert.Kernel2Ideal.τ).loc Cert.Kernel2Ideal.main_v19)) (v5 : (c : Dev Cert.Kernel2Ideal.nD) → Buf (Elt Ideal) ((c.tc : Thread Cert.Kernel2Ideal.nD Cert.Kernel2Ideal.τ).loc Cert.Kernel2Ideal.main_v20)) (v6 : (c : Dev Cert.Kernel2Ideal.nD) → Buf (Elt Ideal) ((c.tc : Thread Cert.Kernel2Ideal.nD Cert.Kernel2Ideal.τ).loc Cert.Kernel2Ideal.main_v21)) (v7 : (c : Dev Cert.Kernel2Ideal.nD) → Buf (Elt Ideal) ((c.tc : Thread Cert.Kernel2Ideal.nD Cert.Kernel2Ideal.τ).loc Cert.Kernel2Ideal.main_v22)) (v8 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v17) = v2 c
          ∧ r.2.mem ((c.tc : Thread Cert.Kernel2Ideal.nD Cert.Kernel2Ideal.τ).loc Cert.Kernel2Ideal.main_v18) = v3 c
          ∧ r.2.mem ((c.tc : Thread Cert.Kernel2Ideal.nD Cert.Kernel2Ideal.τ).loc Cert.Kernel2Ideal.main_v19) = v4 c
          ∧ r.2.mem ((c.tc : Thread Cert.Kernel2Ideal.nD Cert.Kernel2Ideal.τ).loc Cert.Kernel2Ideal.main_v20) = v5 c
          ∧ r.2.mem ((c.tc : Thread Cert.Kernel2Ideal.nD Cert.Kernel2Ideal.τ).loc Cert.Kernel2Ideal.main_v21) = v6 c
          ∧ r.2.mem ((c.tc : Thread Cert.Kernel2Ideal.nD Cert.Kernel2Ideal.τ).loc Cert.Kernel2Ideal.main_v22) = v7 c
          ∧ r.2.mem ((c.tc : Thread Cert.Kernel2Ideal.nD Cert.Kernel2Ideal.τ).loc Cert.Kernel2Ideal.main_v23) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_v3) = v2 c
          ∧ r.2.mem ((c.tc : Thread Cert.Reference2Ideal.nD Cert.Reference2Ideal.τ).loc Cert.Reference2Ideal.main_v4) = v3 c
          ∧ r.2.mem ((c.tc : Thread Cert.Reference2Ideal.nD Cert.Reference2Ideal.τ).loc Cert.Reference2Ideal.main_v5) = v4 c
          ∧ r.2.mem ((c.tc : Thread Cert.Reference2Ideal.nD Cert.Reference2Ideal.τ).loc Cert.Reference2Ideal.main_v6) = v5 c
          ∧ r.2.mem ((c.tc : Thread Cert.Reference2Ideal.nD Cert.Reference2Ideal.τ).loc Cert.Reference2Ideal.main_v7) = v6 c
          ∧ r.2.mem ((c.tc : Thread Cert.Reference2Ideal.nD Cert.Reference2Ideal.τ).loc Cert.Reference2Ideal.main_v8) = v7 c
          ∧ r.2.mem ((c.tc : Thread Cert.Reference2Ideal.nD Cert.Reference2Ideal.τ).loc Cert.Reference2Ideal.main_v9) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v8)) (v1 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_v11) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v3)) (v1 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_v4) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v2) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v36) = v0 c
          ∧ r.2.mem ((c.tc : Thread Cert.Reference22Ideal.nD Cert.Reference22Ideal.τ).loc Cert.Reference22Ideal.main_v21) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v3)) (v1 : (c : Dev Cert.Kernel24Ideal.nD) → Buf (Elt Ideal) ((c.tc : Thread Cert.Kernel24Ideal.nD Cert.Kernel24Ideal.τ).loc Cert.Kernel24Ideal.main_v1_0)) (v2 : (c : Dev Cert.Kernel24Ideal.nD) → Buf (Elt Ideal) ((c.tc : Thread Cert.Kernel24Ideal.nD Cert.Kernel24Ideal.τ).loc Cert.Kernel24Ideal.main_v4)) (v3 : (c : Dev Cert.Kernel24Ideal.nD) → Buf (Elt Ideal) ((c.tc : Thread Cert.Kernel24Ideal.nD Cert.Kernel24Ideal.τ).loc Cert.Kernel24Ideal.main_v5)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_v1_0) = v1 c
          ∧ r.2.mem ((c.tc : Thread Cert.Kernel24Ideal.nD Cert.Kernel24Ideal.τ).loc Cert.Kernel24Ideal.main_v4) = v2 c
          ∧ r.2.mem ((c.tc : Thread Cert.Kernel24Ideal.nD Cert.Kernel24Ideal.τ).loc Cert.Kernel24Ideal.main_v5) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v25) = v0 c
          ∧ r.2.mem ((c.tc : Thread Cert.Reference24Ideal.nD Cert.Reference24Ideal.τ).loc Cert.Reference24Ideal.main_v31) = v1 c
          ∧ r.2.mem ((c.tc : Thread Cert.Reference24Ideal.nD Cert.Reference24Ideal.τ).loc Cert.Reference24Ideal.main_v51) = v2 c
          ∧ r.2.mem ((c.tc : Thread Cert.Reference24Ideal.nD Cert.Reference24Ideal.τ).loc Cert.Reference24Ideal.main_v37) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v4)) (v1 : (c : Dev Cert.Kernel25Ideal.nD) → Buf (Elt Ideal) ((c.tc : Thread Cert.Kernel25Ideal.nD Cert.Kernel25Ideal.τ).loc Cert.Kernel25Ideal.main_v5)) (v2 : (c : Dev Cert.Kernel25Ideal.nD) → Buf (Elt Ideal) ((c.tc : Thread Cert.Kernel25Ideal.nD Cert.Kernel25Ideal.τ).loc Cert.Kernel25Ideal.main_v6)) (v3 : (c : Dev Cert.Kernel25Ideal.nD) → Buf (Elt Ideal) ((c.tc : Thread Cert.Kernel25Ideal.nD Cert.Kernel25Ideal.τ).loc Cert.Kernel25Ideal.main_v7)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4) = v0 c
          ∧ r.2.mem ((c.tc : Thread Cert.Kernel25Ideal.nD Cert.Kernel25Ideal.τ).loc Cert.Kernel25Ideal.main_v5) = v1 c
          ∧ r.2.mem ((c.tc : Thread Cert.Kernel25Ideal.nD Cert.Kernel25Ideal.τ).loc Cert.Kernel25Ideal.main_v6) = v2 c
          ∧ r.2.mem ((c.tc : Thread Cert.Kernel25Ideal.nD Cert.Kernel25Ideal.τ).loc Cert.Kernel25Ideal.main_v7) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v71) = v0 c
          ∧ r.2.mem ((c.tc : Thread Cert.Reference25Ideal.nD Cert.Reference25Ideal.τ).loc Cert.Reference25Ideal.main_v51) = v1 c
          ∧ r.2.mem ((c.tc : Thread Cert.Reference25Ideal.nD Cert.Reference25Ideal.τ).loc Cert.Reference25Ideal.main_v57) = v2 c
          ∧ r.2.mem ((c.tc : Thread Cert.Reference25Ideal.nD Cert.Reference25Ideal.τ).loc Cert.Reference25Ideal.main_v37) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v10) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S1x2048x8x128 : Shape := ⟨4, ![1, 2048, 8, 128]⟩
abbrev S1x2048x8x64 : Shape := ⟨4, ![1, 2048, 8, 64]⟩
abbrev S1x2048x64 : Shape := ⟨3, ![1, 2048, 64]⟩
abbrev S1x2048x1024 : Shape := ⟨3, ![1, 2048, 1024]⟩
abbrev S_ : Shape := ⟨0, ![]⟩

class Facts : Prop where
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_
  h_S_ : 0 < S_.numel
  bcast_S_S1x2048x8x64 : S_.BroadcastsInDim S1x2048x8x64 (![] : Fin 0 → Fin S1x2048x8x64.rank)
  reducesTo_S1x2048x8x64_S_d0_1_2_3 : S1x2048x8x64.ReducesTo [0, 1, 2, 3] S_
  bcast_S_S1x2048x64 : S_.BroadcastsInDim S1x2048x64 (![] : Fin 0 → Fin S1x2048x64.rank)
  reducesTo_S1x2048x64_S_d0_1_2 : S1x2048x64.ReducesTo [0, 1, 2] S_
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn_part1 {F : FTy → Type} [FloatOps F] (main_arg4 : FVec F S1x2048x8x128 .f32) (main_arg5 : FVec F S1x2048x1024 .f32) (main_v3 : IVec S_ 1) (main_v7 : IVec S_ 1) (main_v11 : IVec S_ 1) (main_v15 : IVec S_ 1) : IVec S_ 1 :=
  let main_v16 : FVec F S1x2048x8x128 .f32 := Host.absf main_arg4
  let main_cst_6 : FVec F S_ .f32 := constant S_ .f32 0x7F800000#32
  let main_v17 : FVec F S1x2048x8x128 .f32 := broadcastInDim S1x2048x8x128 ![] bcast_S_S1x2048x8x128 main_cst_6
  let main_v18 : IVec S1x2048x8x128 1 := cmpf .olt main_v16 main_v17
  let main_c_7 : IVec S_ 1 := constantI S_ 1 1#1
  let main_v19 : IVec S_ 1 := (fun x v => Host.reduce IntOp.andi x v reducesTo_S1x2048x8x128_S_d0_1_2_3 h_S_) main_v18 main_c_7
  let main_v20 : FVec F S1x2048x1024 .f32 := Host.absf main_arg5
  let main_cst_8 : FVec F S_ .f32 := constant S_ .f32 0x7F800000#32
  let main_v21 : FVec F S1x2048x1024 .f32 := broadcastInDim S1x2048x1024 ![] bcast_S_S1x2048x1024 main_cst_8
  let main_v22 : IVec S1x2048x1024 1 := cmpf .olt main_v20 main_v21
  let main_c_9 : IVec S_ 1 := constantI S_ 1 1#1
  let main_v23 : IVec S_ 1 := (fun x v => Host.reduce IntOp.andi x v reducesTo_S1x2048x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S1x2048x8x128 .f32) (main_arg1 : FVec F S1x2048x8x64 .f32) (main_arg2 : FVec F S1x2048x8x128 .f32) (main_arg3 : FVec F S1x2048x64 .f32) (main_arg4 : FVec F S1x2048x8x128 .f32) (main_arg5 : FVec F S1x2048x1024 .f32) : IVec S_ 1 :=
  let main_v0 : FVec F S1x2048x8x128 .f32 := Host.absf main_arg0
  let main_cst : FVec F S_ .f32 := constant S_ .f32 0x7F800000#32
  let main_v1 : FVec F S1x2048x8x128 .f32 := broadcastInDim S1x2048x8x128 ![] bcast_S_S1x2048x8x128 main_cst
  let main_v2 : IVec S1x2048x8x128 1 := cmpf .olt main_v0 main_v1
  let main_c : IVec S_ 1 := constantI S_ 1 1#1
  let main_v3 : IVec S_ 1 := (fun x v => Host.reduce IntOp.andi x v reducesTo_S1x2048x8x128_S_d0_1_2_3 h_S_) main_v2 main_c
  let main_v4 : FVec F S1x2048x8x64 .f32 := Host.absf main_arg1
  let main_cst_0 : FVec F S_ .f32 := constant S_ .f32 0x7F800000#32
  let main_v5 : FVec F S1x2048x8x64 .f32 := broadcastInDim S1x2048x8x64 ![] bcast_S_S1x2048x8x64 main_cst_0
  let main_v6 : IVec S1x2048x8x64 1 := cmpf .olt main_v4 main_v5
  let main_c_1 : IVec S_ 1 := constantI S_ 1 1#1
  let main_v7 : IVec S_ 1 := (fun x v => Host.reduce IntOp.andi x v reducesTo_S1x2048x8x64_S_d0_1_2_3 h_S_) main_v6 main_c_1
  let main_v8 : FVec F S1x2048x8x128 .f32 := Host.absf main_arg2
  let main_cst_2 : FVec F S_ .f32 := constant S_ .f32 0x7F800000#32
  let main_v9 : FVec F S1x2048x8x128 .f32 := broadcastInDim S1x2048x8x128 ![] bcast_S_S1x2048x8x128 main_cst_2
  let main_v10 : IVec S1x2048x8x128 1 := cmpf .olt main_v8 main_v9
  let main_c_3 : IVec S_ 1 := constantI S_ 1 1#1
  let main_v11 : IVec S_ 1 := (fun x v => Host.reduce IntOp.andi x v reducesTo_S1x2048x8x128_S_d0_1_2_3 h_S_) main_v10 main_c_3
  let main_v12 : FVec F S1x2048x64 .f32 := Host.absf main_arg3
  let main_cst_4 : FVec F S_ .f32 := constant S_ .f32 0x7F800000#32
  let main_v13 : FVec F S1x2048x64 .f32 := broadcastInDim S1x2048x64 ![] bcast_S_S1x2048x64 main_cst_4
  let main_v14 : IVec S1x2048x64 1 := cmpf .olt main_v12 main_v13
  let main_c_5 : IVec S_ 1 := constantI S_ 1 1#1
  let main_v15 : IVec S_ 1 := (fun x v => Host.reduce IntOp.andi x v reducesTo_S1x2048x64_S_d0_1_2 h_S_) main_v14 main_c_5
  fn_part1 (F := F) main_arg4 main_arg5 main_v3 main_v7 main_v11 main_v15
-- ==== Kernel.lean ====
abbrev S1x2048x8x128 : Shape := ⟨4, ![1, 2048, 8, 128]⟩
abbrev S1x2048x8x64 : Shape := ⟨4, ![1, 2048, 8, 64]⟩
abbrev S1x2048x64 : Shape := ⟨3, ![1, 2048, 64]⟩
abbrev S1x2048x1024 : Shape := ⟨3, ![1, 2048, 1024]⟩
abbrev S2048x8x128 : Shape := ⟨3, ![2048, 8, 128]⟩
abbrev S2048x8x64 : Shape := ⟨3, ![2048, 8, 64]⟩
abbrev S_ : Shape := ⟨0, ![]⟩
abbrev S2048x8x256 : Shape := ⟨3, ![2048, 8, 256]⟩
abbrev S2048x2048 : Shape := ⟨2, ![2048, 2048]⟩
abbrev S2048x1024 : Shape := ⟨2, ![2048, 1024]⟩
abbrev S2048x64 : Shape := ⟨2, ![2048, 64]⟩
abbrev S2048x128 : Shape := ⟨2, ![2048, 128]⟩
abbrev S256x256 : Shape := ⟨2, ![256, 256]⟩
abbrev S256x128 : Shape := ⟨2, ![256, 128]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S1024x256 : Shape := ⟨2, ![1024, 256]⟩
abbrev S1024x128 : Shape := ⟨2, ![1024, 128]⟩
abbrev S1024x2048 : Shape := ⟨2, ![1024, 2048]⟩
abbrev S1024x1 : Shape := ⟨2, ![1024, 1]⟩
abbrev S1024 : Shape := ⟨1, ![1024]⟩
abbrev S1x2048x8x256 : Shape := ⟨4, ![1, 2048, 8, 256]⟩

abbrev nBuf : Space → Nat
  | .hbm => 39
  | .vmem => 32
  | .smem => 0
  | _ => 0

abbrev bufTy : (tb : Table) → Fin (tcTables nBuf tb) → BufTy
  | .hbm, ⟨0, _⟩ => ⟨S1x2048x8x128, .f32⟩
  | .hbm, ⟨1, _⟩ => ⟨S1x2048x8x64, .f32⟩
  | .hbm, ⟨2, _⟩ => ⟨S1x2048x8x128, .f32⟩
  | .hbm, ⟨3, _⟩ => ⟨S1x2048x64, .f32⟩
  | .hbm, ⟨4, _⟩ => ⟨S1x2048x8x128, .f32⟩
  | .hbm, ⟨5, _⟩ => ⟨S1x2048x1024, .f32⟩
  | .hbm, ⟨6, _⟩ => ⟨S2048x8x128, .f32⟩
  | .hbm, ⟨7, _⟩ => ⟨S2048x8x64, .f32⟩
  | .hbm, ⟨8, _⟩ => ⟨S_, .f32⟩
  | .hbm, ⟨9, _⟩ => ⟨S2048x8x64, .f32⟩
  | .hbm, ⟨10, _⟩ => ⟨S2048x8x256, .f32⟩
  | .hbm, ⟨11, _⟩ => ⟨S2048x2048, .f32⟩
  | .hbm, ⟨12, _⟩ => ⟨S2048x2048, .bf16⟩
  | .hbm, ⟨13, _⟩ => ⟨S2048x8x128, .f32⟩
  | .hbm, ⟨14, _⟩ => ⟨S2048x1024, .f32⟩
  | .hbm, ⟨15, _⟩ => ⟨S2048x8x128, .f32⟩
  | .hbm, ⟨16, _⟩ => ⟨S2048x1024, .f32⟩
  | .hbm, ⟨17, _⟩ => ⟨S2048x2048, .f32⟩
  | .hbm, ⟨18, _⟩ => ⟨S2048x2048, .bf16⟩
  | .hbm, ⟨19, _⟩ => ⟨S2048x64, .f32⟩
  | .hbm, ⟨20, _⟩ => ⟨S_, .f32⟩
  | .hbm, ⟨21, _⟩ => ⟨S2048x64, .f32⟩
  | .hbm, ⟨22, _⟩ => ⟨S2048x128, .f32⟩
  | .hbm, ⟨23, _⟩ => ⟨S2048x128, .bf16⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x2048, .f32⟩
  | .hbm, ⟨28, _⟩ => ⟨S2048x2048, .f32⟩
  | .hbm, ⟨29, _⟩ => ⟨S2048x1024, .f32⟩
  | .hbm, ⟨30, _⟩ => ⟨S1x2048x8x256, .f32⟩
  | .hbm, ⟨31, _⟩ => ⟨S1x2048x8x256, .f32⟩
  | .hbm, ⟨32, _⟩ => ⟨S1x2048x8x128, .f32⟩
  | .hbm, ⟨33, _⟩ => ⟨S1x2048x8x64, .f32⟩
  | .hbm, ⟨34, _⟩ => ⟨S1x2048x8x128, .f32⟩
  | .hbm, ⟨35, _⟩ => ⟨S1x2048x8x64, .f32⟩
  | .hbm, ⟨36, _⟩ => ⟨S_, .f32⟩
  | .hbm, ⟨37, _⟩ => ⟨S1x2048x64, .f32⟩
  | .hbm, ⟨38, _⟩ => ⟨S1x2048x8x128, .f32⟩
  | .local _ .vmem, ⟨0, _⟩ => ⟨S256x256, .bf16⟩
  | .local _ .vmem, ⟨1, _⟩ => ⟨S256x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S2048x256, .bf16⟩
  | .local _ .vmem, ⟨12, _⟩ => ⟨S1024x256, .bf16⟩
  | .local _ .vmem, ⟨13, _⟩ => ⟨S1024x256, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x256, .f32⟩
  | .local _ .vmem, ⟨26, _⟩ => ⟨S1024x256, .f32⟩
  | .local _ .vmem, ⟨27, _⟩ => ⟨S2048x256, .f32⟩
  | .local _ .vmem, ⟨28, _⟩ => ⟨S2048x256, .f32⟩
  | .local _ .vmem, ⟨29, _⟩ => ⟨S2048x128, .f32⟩
  | .local _ .vmem, ⟨30, _⟩ => ⟨S2048x128, .f32⟩
  | .local _ .vmem, ⟨31, _⟩ => ⟨S2048x256, .bf16⟩
  | _, _ => ⟨S1x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 2], ![false, false]⟩

def k1_cond2 (i : grid1.Coords) : BitVec 1 :=
  let arg1 : BitVec 32 := BitVec.ofNat 32 (i 1).val
  let c0_i32_25 : BitVec 32 := 0#32
  let v39 : BitVec 1 := Scalar.cmpi .eq arg1 c0_i32_25
  let v40 : BitVec 32 := Scalar.extui v39
  let c0_i32_26 : BitVec 32 := 0#32
  let v41 : BitVec 1 := Scalar.cmpi .ne v40 c0_i32_26
  v41

def k1_cond3 (i : grid1.Coords) : BitVec 1 :=
  let arg1 : BitVec 32 := BitVec.ofNat 32 (i 1).val
  let c0_i32_27 : BitVec 32 := 0#32
  let v42 : BitVec 1 := Scalar.cmpi .sgt arg1 c0_i32_27
  let v43 : BitVec 32 := Scalar.extui v42
  let c0_i32_28 : BitVec 32 := 0#32
  let v44 : BitVec 1 := Scalar.cmpi .ne v43 c0_i32_28
  v44

def k1_cond6 (i : grid1.Coords) : BitVec 1 :=
  let arg1 : BitVec 32 := BitVec.ofNat 32 (i 1).val
  let c1_i32 : BitVec 32 := 1#32
  let v51 : BitVec 1 := Scalar.cmpi .eq arg1 c1_i32
  let v52 : BitVec 32 := Scalar.extui v51
  let c0_i32_33 : BitVec 32 := 0#32
  let v53 : BitVec 1 := Scalar.cmpi .ne v52 c0_i32_33
  v53

def k1_cond4 (i : grid1.Coords) : BitVec 1 :=
  let arg1 : BitVec 32 := BitVec.ofNat 32 (i 1).val
  let c0_i32_29 : BitVec 32 := 0#32
  let v45 : BitVec 1 := Scalar.cmpi .eq arg1 c0_i32_29
  let v46 : BitVec 32 := Scalar.extui v45
  let c0_i32_30 : BitVec 32 := 0#32
  let v47 : BitVec 1 := Scalar.cmpi .ne v46 c0_i32_30
  v47

def k1_cond5 (i : grid1.Coords) : BitVec 1 :=
  let arg1 : BitVec 32 := BitVec.ofNat 32 (i 1).val
  let c0_i32_31 : BitVec 32 := 0#32
  let v48 : BitVec 1 := Scalar.cmpi .sgt arg1 c0_i32_31
  let v49 : BitVec 32 := Scalar.extui v48
  let c0_i32_32 : BitVec 32 := 0#32
  let v50 : BitVec 1 := Scalar.cmpi .ne v49 c0_i32_32
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S2048x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== ReferenceIdeal.lean ====
abbrev S1x2048x8x128 : Shape := ⟨4, ![1, 2048, 8, 128]⟩
abbrev S1x2048x8x64 : Shape := ⟨4, ![1, 2048, 8, 64]⟩
abbrev S1x2048x64 : Shape := ⟨3, ![1, 2048, 64]⟩
abbrev S1x2048x1024 : Shape := ⟨3, ![1, 2048, 1024]⟩
abbrev S1x8x2048x2048 : Shape := ⟨4, ![1, 8, 2048, 2048]⟩
abbrev S1x2048x2048x8 : Shape := ⟨4, ![1, 2048, 2048, 8]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S8x2048 : Shape := ⟨2, ![8, 2048]⟩
abbrev S1x8x2048x128 : Shape := ⟨4, ![1, 8, 2048, 128]⟩

abbrev nBuf : Space → Nat
  | .hbm => 84
  | .vmem => 0
  | .smem => 0
  | _ => 0

abbrev bufTy : (tb : Table) → Fin (tcTables nBuf tb) → BufTy
  | .hbm, ⟨0, _⟩ => ⟨S1x2048x8x128, .f32⟩
  | .hbm, ⟨1, _⟩ => ⟨S1x2048x8x64, .f32⟩
  | .hbm, ⟨2, _⟩ => ⟨S1x2048x8x128, .f32⟩
  | .hbm, ⟨3, _⟩ => ⟨S1x2048x64, .f32⟩
  | .hbm, ⟨4, _⟩ => ⟨S1x2048x8x128, .f32⟩
  | .hbm, ⟨5, _⟩ => ⟨S1x2048x1024, .f32⟩
  | .hbm, ⟨6, _⟩ => ⟨S1x8x2048x2048, .f32⟩
  | .hbm, ⟨7, _⟩ => ⟨S1x2048x2048x8, .f32⟩
  | .hbm, ⟨8, _⟩ => ⟨S1x8x2048x2048, .f32⟩
  | .hbm, ⟨9, _⟩ => ⟨S1x8x2048x2048, .f32⟩
  | .hbm, ⟨10, _⟩ => ⟨S_, .f32⟩
  | .hbm, ⟨11, _⟩ => ⟨S1x8x2048x2048, .f32⟩
  | .hbm, ⟨12, _⟩ => ⟨S1x8x2048x2048, .f32⟩
  | .hbm, ⟨13, _⟩ => ⟨S_, .f32⟩
  | .hbm, ⟨14, _⟩ => ⟨S1x8x2048, .f32⟩
  | .hbm, ⟨15, _⟩ => ⟨S1x8x2048x1, .f32⟩
  | .hbm, ⟨16, _⟩ => ⟨S1x8x2048x2048, .f32⟩
  | .hbm, ⟨17, _⟩ => ⟨S1x8x2048x2048, .i1⟩
  | .hbm, ⟨18, _⟩ => ⟨S1x8x2048x2048, .f32⟩
  | .hbm, ⟨19, _⟩ => ⟨S_, .f32⟩
  | .hbm, ⟨20, _⟩ => ⟨S1x8x2048, .f32⟩
  | .hbm, ⟨21, _⟩ => ⟨S_, .f32⟩
  | .hbm, ⟨22, _⟩ => ⟨S1x8x2048, .f32⟩
  | .hbm, ⟨23, _⟩ => ⟨S1x8x2048, .f32⟩
  | .hbm, ⟨24, _⟩ => ⟨S_, .f32⟩
  | .hbm, ⟨25, _⟩ => ⟨S1x8x2048, .f32⟩
  | .hbm, ⟨26, _⟩ => ⟨S1x8x2048, .i1⟩
  | .hbm, ⟨27, _⟩ => ⟨S_, .f32⟩
  | .hbm, ⟨28, _⟩ => ⟨S1x8x2048, .f32⟩
  | .hbm, ⟨29, _⟩ => ⟨S1x8x2048, .i1⟩
  | .hbm, ⟨30, _⟩ => ⟨S_, .f32⟩
  | .hbm, ⟨31, _⟩ => ⟨S1x8x2048, .f32⟩
  | .hbm, ⟨32, _⟩ => ⟨S_, .f32⟩
  | .hbm, ⟨33, _⟩ => ⟨S1x8x2048, .f32⟩
  | .hbm, ⟨34, _⟩ => ⟨S_, .f32⟩
  | .hbm, ⟨35, _⟩ => ⟨S1x8x2048, .f32⟩
  | .hbm, ⟨36, _⟩ => ⟨S1x8x2048, .f32⟩
  | .hbm, ⟨37, _⟩ => ⟨S1x8x2048, .f32⟩
  | .hbm, ⟨38, _⟩ => ⟨S1x8x2048x1, .f32⟩
  | .hbm, ⟨39, _⟩ => ⟨S1x8x2048x2048, .f32⟩
  | .hbm, ⟨40, _⟩ => ⟨S1x8x2048x2048, .f32⟩
  | .hbm, ⟨41, _⟩ => ⟨S1x8x2048x2048, .f32⟩
  | .hbm, ⟨42, _⟩ => ⟨S_, .f32⟩
  | .hbm, ⟨43, _⟩ => ⟨S1x8x2048, .f32⟩
  | .hbm, ⟨44, _⟩ => ⟨S1x8x2048x1, .f32⟩
  | .hbm, ⟨45, _⟩ => ⟨S1x8x2048x2048, .f32⟩
  | .hbm, ⟨46, _⟩ => ⟨S1x8x2048x2048, .f32⟩
  | .hbm, ⟨47, _⟩ => ⟨S1x8x2048x1, .f32⟩
  | .hbm, ⟨48, _⟩ => ⟨S_, .f32⟩
  | .hbm, ⟨49, _⟩ => ⟨S1x8x2048x1, .f32⟩
  | .hbm, ⟨50, _⟩ => ⟨S1x8x2048x1, .f32⟩
  | .hbm, ⟨51, _⟩ => ⟨S1x8x128x2048, .f32⟩
  | .hbm, ⟨52, _⟩ => ⟨S1x2048x8x128, .f32⟩
  | .hbm, ⟨53, _⟩ => ⟨S1x2048x1024, .f32⟩
  | .hbm, ⟨54, _⟩ => ⟨S1x2048x8x128, .f32⟩
  | .hbm, ⟨55, _⟩ => ⟨S1x8x128x2048, .f32⟩
  | .hbm, ⟨56, _⟩ => ⟨S1x8x2048x2048, .f32⟩
  | .hbm, ⟨57, _⟩ => ⟨S1x8x128x2048, .f32⟩
  | .hbm, ⟨58, _⟩ => ⟨S1x2048x8x128, .f32⟩
  | .hbm, ⟨59, _⟩ => ⟨S1x8x2048x2048, .f32⟩
  | .hbm, ⟨60, _⟩ => ⟨S1x8x2048x2048, .f32⟩
  | .hbm, ⟨61, _⟩ => ⟨S1x8x2048x2048, .f32⟩
  | .hbm, ⟨62, _⟩ => ⟨S_, .f32⟩
  | .hbm, ⟨63, _⟩ => ⟨S1x8x2048, .f32⟩
  | .hbm, ⟨64, _⟩ => ⟨S1x8x2048x1, .f32⟩
  | .hbm, ⟨65, _⟩ => ⟨S1x8x2048x1, .f32⟩
  | .hbm, ⟨66, _⟩ => ⟨S1x8x2048x2048, .f32⟩
  | .hbm, ⟨67, _⟩ => ⟨S1x8x2048x2048, .f32⟩
  | .hbm, ⟨68, _⟩ => ⟨S_, .f32⟩
  | .hbm, ⟨69, _⟩ => ⟨S8x2048, .f32⟩
  | .hbm, ⟨70, _⟩ => ⟨S1x8x2048, .f32⟩
  | .hbm, ⟨71, _⟩ => ⟨S1x8x2048x2048, .f32⟩
  | .hbm, ⟨72, _⟩ => ⟨S1x8x2048x2048, .f32⟩
  | .hbm, ⟨73, _⟩ => ⟨S1x8x2048x2048, .f32⟩
  | .hbm, ⟨74, _⟩ => ⟨S_, .f32⟩
  | .hbm, ⟨75, _⟩ => ⟨S1x8x2048x2048, .f32⟩
  | .hbm, ⟨76, _⟩ => ⟨S1x8x2048x2048, .f32⟩
  | .hbm, ⟨77, _⟩ => ⟨S1x2048x2048x8, .f32⟩
  | .hbm, ⟨78, _⟩ => ⟨S1x2048x8x64, .f32⟩
  | .hbm, ⟨79, _⟩ => ⟨S1x2048x64, .f32⟩
  | .hbm, ⟨80, _⟩ => ⟨S1x8x2048x128, .f32⟩
  | .hbm, ⟨81, _⟩ => ⟨S1x2048x8x128, .f32⟩
  | .hbm, ⟨82, _⟩ => ⟨S1x8x2048x128, .f32⟩
  | .hbm, ⟨83, _⟩ => ⟨S1x2048x8x128, .f32⟩
  | _, _ => ⟨S1x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel2.lean ====
abbrev S2048x2048 : Shape := ⟨2, ![2048, 2048]⟩
abbrev S2048x10688 : Shape := ⟨2, ![2048, 10688]⟩
abbrev S10688x2048 : Shape := ⟨2, ![10688, 2048]⟩
abbrev S1024x2048 : Shape := ⟨2, ![1024, 2048]⟩
abbrev S512x2048 : Shape := ⟨2, ![512, 2048]⟩
abbrev S3072x2048 : Shape := ⟨2, ![3072, 2048]⟩
abbrev S64x2048 : Shape := ⟨2, ![64, 2048]⟩
abbrev S384x2048 : Shape := ⟨2, ![384, 2048]⟩
abbrev S_ : Shape := ⟨0, ![]⟩
abbrev S10752x2048 : Shape := ⟨2, ![10752, 2048]⟩
abbrev S2048x10752 : Shape := ⟨2, ![2048, 10752]⟩
abbrev S1024x512 : Shape := ⟨2, ![1024, 512]⟩
abbrev S2048x512 : Shape := ⟨2, ![2048, 512]⟩
abbrev S2048x64 : Shape := ⟨2, ![2048, 64]⟩
abbrev S2048x3072 : Shape := ⟨2, ![2048, 3072]⟩
abbrev S2048x384 : Shape := ⟨2, ![2048, 384]⟩
abbrev S2048x1024 : Shape := ⟨2, ![2048, 1024]⟩

abbrev nBuf : Space → Nat
  | .hbm => 27
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x10688, .f32⟩
  | .hbm, ⟨2, _⟩ => ⟨S2048x2048, .bf16⟩
  | .hbm, ⟨3, _⟩ => ⟨S10688x2048, .f32⟩
  | .hbm, ⟨4, _⟩ => ⟨S10688x2048, .bf16⟩
  | .hbm, ⟨5, _⟩ => ⟨S2048x2048, .bf16⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S512x2048, .bf16⟩
  | .hbm, ⟨10, _⟩ => ⟨S512x2048, .bf16⟩
  | .hbm, ⟨11, _⟩ => ⟨S3072x2048, .bf16⟩
  | .hbm, ⟨12, _⟩ => ⟨S64x2048, .bf16⟩
  | .hbm, ⟨13, _⟩ => ⟨S384x2048, .bf16⟩
  | .hbm, ⟨14, _⟩ => ⟨S_, .bf16⟩
  | .hbm, ⟨15, _⟩ => ⟨S64x2048, .bf16⟩
  | .hbm, ⟨16, _⟩ => ⟨S10752x2048, .bf16⟩
  | .hbm, ⟨17, _⟩ => ⟨S2048x10752, .f32⟩
  | .hbm, ⟨18, _⟩ => ⟨S2048x512, .f32⟩
  | .hbm, ⟨19, _⟩ => ⟨S2048x512, .f32⟩
  | .hbm, ⟨20, _⟩ => ⟨S2048x64, .f32⟩
  | .hbm, ⟨21, _⟩ => ⟨S2048x3072, .f32⟩
  | .hbm, ⟨22, _⟩ => ⟨S2048x384, .f32⟩
  | .hbm, ⟨23, _⟩ => ⟨S2048x1024, .f32⟩
  | .hbm, ⟨24, _⟩ => ⟨S2048x1024, .f32⟩
  | .hbm, ⟨25, _⟩ => ⟨S2048x2048, .f32⟩
  | .hbm, ⟨26, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 21, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x10688 : Shape := ⟨2, ![2048, 10688]⟩
abbrev S2048x512 : Shape := ⟨2, ![2048, 512]⟩
abbrev S2048x64 : Shape := ⟨2, ![2048, 64]⟩
abbrev S2048x3072 : Shape := ⟨2, ![2048, 3072]⟩
abbrev S2048x384 : Shape := ⟨2, ![2048, 384]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10688, .f32⟩
  | .hbm, ⟨2, _⟩ => ⟨S2048x10688, .f32⟩
  | .hbm, ⟨3, _⟩ => ⟨S2048x512, .f32⟩
  | .hbm, ⟨4, _⟩ => ⟨S2048x512, .f32⟩
  | .hbm, ⟨5, _⟩ => ⟨S2048x64, .f32⟩
  | .hbm, ⟨6, _⟩ => ⟨S2048x3072, .f32⟩
  | .hbm, ⟨7, _⟩ => ⟨S2048x384, .f32⟩
  | .hbm, ⟨8, _⟩ => ⟨S2048x1024, .f32⟩
  | .hbm, ⟨9, _⟩ => ⟨S2048x1024, .f32⟩
  | .hbm, ⟨10, _⟩ => ⟨S2048x2048, .f32⟩
  | .hbm, ⟨11, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel3.lean ====
abbrev S2048x2048 : Shape := ⟨2, ![2048, 2048]⟩
abbrev S2048x10688 : Shape := ⟨2, ![2048, 10688]⟩
abbrev S2048x1024 : Shape := ⟨2, ![2048, 1024]⟩
abbrev S2048x512 : Shape := ⟨2, ![2048, 512]⟩
abbrev S2048x3072 : Shape := ⟨2, ![2048, 3072]⟩
abbrev S2048x64 : Shape := ⟨2, ![2048, 64]⟩
abbrev S2048x384 : Shape := ⟨2, ![2048, 384]⟩
abbrev S_ : Shape := ⟨0, ![]⟩
abbrev S2048x10752 : Shape := ⟨2, ![2048, 10752]⟩
abbrev S10752x2048 : Shape := ⟨2, ![10752, 2048]⟩
abbrev S2048x896 : Shape := ⟨2, ![2048, 896]⟩
abbrev S896x1024 : Shape := ⟨2, ![896, 1024]⟩
abbrev S512x2048 : Shape := ⟨2, ![512, 2048]⟩
abbrev S64x2048 : Shape := ⟨2, ![64, 2048]⟩
abbrev S3072x2048 : Shape := ⟨2, ![3072, 2048]⟩
abbrev S384x2048 : Shape := ⟨2, ![384, 2048]⟩
abbrev S1024x2048 : Shape := ⟨2, ![1024, 2048]⟩
abbrev S10688x2048 : Shape := ⟨2, ![10688, 2048]⟩
abbrev S8x1336x2048 : Shape := ⟨3, ![8, 1336, 2048]⟩

abbrev nBuf : Space → Nat
  | .hbm => 32
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x10688, .f32⟩
  | .hbm, ⟨2, _⟩ => ⟨S2048x10688, .f32⟩
  | .hbm, ⟨3, _⟩ => ⟨S2048x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S2048x3072, .f32⟩
  | .hbm, ⟨10, _⟩ => ⟨S2048x64, .f32⟩
  | .hbm, ⟨11, _⟩ => ⟨S2048x384, .f32⟩
  | .hbm, ⟨12, _⟩ => ⟨S_, .f32⟩
  | .hbm, ⟨13, _⟩ => ⟨S2048x64, .f32⟩
  | .hbm, ⟨14, _⟩ => ⟨S2048x10752, .f32⟩
  | .hbm, ⟨15, _⟩ => ⟨S2048x10752, .bf16⟩
  | .hbm, ⟨16, _⟩ => ⟨S2048x2048, .bf16⟩
  | .hbm, ⟨17, _⟩ => ⟨S10752x2048, .bf16⟩
  | .hbm, ⟨18, _⟩ => ⟨S512x2048, .bf16⟩
  | .hbm, ⟨19, _⟩ => ⟨S512x2048, .bf16⟩
  | .hbm, ⟨20, _⟩ => ⟨S64x2048, .bf16⟩
  | .hbm, ⟨21, _⟩ => ⟨S3072x2048, .bf16⟩
  | .hbm, ⟨22, _⟩ => ⟨S384x2048, .bf16⟩
  | .hbm, ⟨23, _⟩ => ⟨S1024x2048, .bf16⟩
  | .hbm, ⟨24, _⟩ => ⟨S1024x2048, .bf16⟩
  | .hbm, ⟨25, _⟩ => ⟨S2048x2048, .bf16⟩
  | .hbm, ⟨26, _⟩ => ⟨S2048x2048, .bf16⟩
  | .hbm, ⟨27, _⟩ => ⟨S10688x2048, .bf16⟩
  | .hbm, ⟨28, _⟩ => ⟨S8x1336x2048, .bf16⟩
  | .hbm, ⟨29, _⟩ => ⟨S10688x2048, .bf16⟩
  | .hbm, ⟨30, _⟩ => ⟨S2048x10688, .bf16⟩
  | .hbm, ⟨31, _⟩ => ⟨S2048x10688, .f32⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S2048x10688 : Shape := ⟨2, ![2048, 10688]⟩
abbrev S10688x2048 : Shape := ⟨2, ![10688, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10688, .f32⟩
  | .hbm, ⟨2, _⟩ => ⟨S2048x10688, .f32⟩
  | .hbm, ⟨3, _⟩ => ⟨S2048x10688, .f32⟩
  | .hbm, ⟨4, _⟩ => ⟨S10688x2048, .f32⟩
  | .hbm, ⟨5, _⟩ => ⟨S2048x10688, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2048x2048 : Shape := ⟨2, ![2048, 2048]⟩
abbrev S2048x10688 : Shape := ⟨2, ![2048, 10688]⟩
abbrev S2048x1024 : Shape := ⟨2, ![2048, 1024]⟩
abbrev S2048x512 : Shape := ⟨2, ![2048, 512]⟩
abbrev S2048x3072 : Shape := ⟨2, ![2048, 3072]⟩
abbrev S2048x64 : Shape := ⟨2, ![2048, 64]⟩
abbrev S2048x384 : Shape := ⟨2, ![2048, 384]⟩
abbrev S_ : Shape := ⟨0, ![]⟩
abbrev S2048x10752 : Shape := ⟨2, ![2048, 10752]⟩
abbrev S10688x2048 : Shape := ⟨2, ![10688, 2048]⟩
abbrev S1024x2048 : Shape := ⟨2, ![1024, 2048]⟩
abbrev S512x2048 : Shape := ⟨2, ![512, 2048]⟩
abbrev S3072x2048 : Shape := ⟨2, ![3072, 2048]⟩
abbrev S64x2048 : Shape := ⟨2, ![64, 2048]⟩
abbrev S384x2048 : Shape := ⟨2, ![384, 2048]⟩
abbrev S10752x2048 : Shape := ⟨2, ![10752, 2048]⟩
abbrev S1024x1792 : Shape := ⟨2, ![1024, 1792]⟩
abbrev S1792x1024 : Shape := ⟨2, ![1792, 1024]⟩
abbrev S1024x1024 : Shape := ⟨2, ![1024, 1024]⟩

abbrev nBuf : Space → Nat
  | .hbm => 31
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x10688, .f32⟩
  | .hbm, ⟨2, _⟩ => ⟨S2048x10688, .f32⟩
  | .hbm, ⟨3, _⟩ => ⟨S2048x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S2048x3072, .f32⟩
  | .hbm, ⟨10, _⟩ => ⟨S2048x64, .f32⟩
  | .hbm, ⟨11, _⟩ => ⟨S2048x384, .f32⟩
  | .hbm, ⟨12, _⟩ => ⟨S_, .f32⟩
  | .hbm, ⟨13, _⟩ => ⟨S2048x64, .f32⟩
  | .hbm, ⟨14, _⟩ => ⟨S2048x10752, .f32⟩
  | .hbm, ⟨15, _⟩ => ⟨S2048x10752, .bf16⟩
  | .hbm, ⟨16, _⟩ => ⟨S10688x2048, .f32⟩
  | .hbm, ⟨17, _⟩ => ⟨S10688x2048, .bf16⟩
  | .hbm, ⟨18, _⟩ => ⟨S2048x2048, .bf16⟩
  | .hbm, ⟨19, _⟩ => ⟨S2048x2048, .bf16⟩
  | .hbm, ⟨20, _⟩ => ⟨S1024x2048, .bf16⟩
  | .hbm, ⟨21, _⟩ => ⟨S1024x2048, .bf16⟩
  | .hbm, ⟨22, _⟩ => ⟨S512x2048, .bf16⟩
  | .hbm, ⟨23, _⟩ => ⟨S512x2048, .bf16⟩
  | .hbm, ⟨24, _⟩ => ⟨S3072x2048, .bf16⟩
  | .hbm, ⟨25, _⟩ => ⟨S64x2048, .bf16⟩
  | .hbm, ⟨26, _⟩ => ⟨S384x2048, .bf16⟩
  | .hbm, ⟨27, _⟩ => ⟨S_, .bf16⟩
  | .hbm, ⟨28, _⟩ => ⟨S64x2048, .bf16⟩
  | .hbm, ⟨29, _⟩ => ⟨S10752x2048, .bf16⟩
  | .hbm, ⟨30, _⟩ => ⟨S2048x2048, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x10688 : Shape := ⟨2, ![2048, 10688]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10688, .f32⟩
  | .hbm, ⟨2, _⟩ => ⟨S2048x10688, .f32⟩
  | .hbm, ⟨3, _⟩ => ⟨S2048x10688, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S2048x512 : Shape := ⟨2, ![2048, 512]⟩
abbrev S512x1536 : Shape := ⟨2, ![512, 1536]⟩
abbrev S1536x512 : Shape := ⟨2, ![1536, 512]⟩
abbrev S8x192x512 : Shape := ⟨3, ![8, 192, 512]⟩
abbrev S_ : Shape := ⟨0, ![]⟩
abbrev S8x64x512 : Shape := ⟨3, ![8, 64, 512]⟩
abbrev S8x256x512 : Shape := ⟨3, ![8, 256, 512]⟩
abbrev S2048x2048 : Shape := ⟨2, ![2048, 2048]⟩
abbrev S1024x512 : Shape := ⟨2, ![1024, 512]⟩
abbrev S512x512 : Shape := ⟨2, ![512, 512]⟩
abbrev S2048x8x256 : Shape := ⟨3, ![2048, 8, 256]⟩
abbrev S2048x8x192 : Shape := ⟨3, ![2048, 8, 192]⟩

abbrev nBuf : Space → Nat
  | .hbm => 13
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x512, .bf16⟩
  | .hbm, ⟨3, _⟩ => ⟨S1536x512, .f32⟩
  | .hbm, ⟨4, _⟩ => ⟨S1536x512, .bf16⟩
  | .hbm, ⟨5, _⟩ => ⟨S8x192x512, .bf16⟩
  | .hbm, ⟨6, _⟩ => ⟨S_, .bf16⟩
  | .hbm, ⟨7, _⟩ => ⟨S8x64x512, .bf16⟩
  | .hbm, ⟨8, _⟩ => ⟨S8x256x512, .bf16⟩
  | .hbm, ⟨9, _⟩ => ⟨S2048x512, .bf16⟩
  | .hbm, ⟨10, _⟩ => ⟨S2048x2048, .f32⟩
  | .hbm, ⟨11, _⟩ => ⟨S2048x8x256, .f32⟩
  | .hbm, ⟨12, _⟩ => ⟨S2048x8x192, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x512 : Shape := ⟨2, ![2048, 512]⟩
abbrev S512x1536 : Shape := ⟨2, ![512, 1536]⟩
abbrev S2048x1536 : Shape := ⟨2, ![2048, 1536]⟩
abbrev S2048x8x192 : Shape := ⟨3, ![2048, 8, 192]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x1536, .f32⟩
  | .hbm, ⟨3, _⟩ => ⟨S2048x8x192, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S2048x512 : Shape := ⟨2, ![2048, 512]⟩
abbrev S512x1536 : Shape := ⟨2, ![512, 1536]⟩
abbrev S2048x8x192 : Shape := ⟨3, ![2048, 8, 192]⟩
abbrev S_ : Shape := ⟨0, ![]⟩
abbrev S2048x8x64 : Shape := ⟨3, ![2048, 8, 64]⟩
abbrev S2048x8x256 : Shape := ⟨3, ![2048, 8, 256]⟩
abbrev S2048x2048 : Shape := ⟨2, ![2048, 2048]⟩
abbrev S1536x512 : Shape := ⟨2, ![1536, 512]⟩
abbrev S8x192x512 : Shape := ⟨3, ![8, 192, 512]⟩
abbrev S8x64x512 : Shape := ⟨3, ![8, 64, 512]⟩
abbrev S8x256x512 : Shape := ⟨3, ![8, 256, 512]⟩
abbrev S1024x2048 : Shape := ⟨2, ![1024, 2048]⟩
abbrev S1024x512 : Shape := ⟨2, ![1024, 512]⟩

abbrev nBuf : Space → Nat
  | .hbm => 16
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x8x192, .f32⟩
  | .hbm, ⟨3, _⟩ => ⟨S_, .f32⟩
  | .hbm, ⟨4, _⟩ => ⟨S2048x8x64, .f32⟩
  | .hbm, ⟨5, _⟩ => ⟨S2048x8x256, .f32⟩
  | .hbm, ⟨6, _⟩ => ⟨S2048x2048, .f32⟩
  | .hbm, ⟨7, _⟩ => ⟨S2048x2048, .bf16⟩
  | .hbm, ⟨8, _⟩ => ⟨S1536x512, .f32⟩
  | .hbm, ⟨9, _⟩ => ⟨S1536x512, .bf16⟩
  | .hbm, ⟨10, _⟩ => ⟨S8x192x512, .bf16⟩
  | .hbm, ⟨11, _⟩ => ⟨S_, .bf16⟩
  | .hbm, ⟨12, _⟩ => ⟨S8x64x512, .bf16⟩
  | .hbm, ⟨13, _⟩ => ⟨S8x256x512, .bf16⟩
  | .hbm, ⟨14, _⟩ => ⟨S2048x512, .bf16⟩
  | .hbm, ⟨15, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x512 : Shape := ⟨2, ![2048, 512]⟩
abbrev S512x1536 : Shape := ⟨2, ![512, 1536]⟩
abbrev S2048x8x192 : Shape := ⟨3, ![2048, 8, 192]⟩
abbrev S2048x1536 : Shape := ⟨2, ![2048, 1536]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x8x192, .f32⟩
  | .hbm, ⟨3, _⟩ => ⟨S2048x1536, .f32⟩
  | .hbm, ⟨4, _⟩ => ⟨S2048x8x192, .f32⟩
  | .hbm, ⟨5, _⟩ => ⟨S2048x1536, .f32⟩
  | .hbm, ⟨6, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2048x512 : Shape := ⟨2, ![2048, 512]⟩
abbrev S512x1536 : Shape := ⟨2, ![512, 1536]⟩
abbrev S2048x8x192 : Shape := ⟨3, ![2048, 8, 192]⟩
abbrev S_ : Shape := ⟨0, ![]⟩
abbrev S2048x8x64 : Shape := ⟨3, ![2048, 8, 64]⟩
abbrev S2048x8x256 : Shape := ⟨3, ![2048, 8, 256]⟩
abbrev S2048x2048 : Shape := ⟨2, ![2048, 2048]⟩
abbrev S2048x1024 : Shape := ⟨2, ![2048, 1024]⟩
abbrev S1024x512 : Shape := ⟨2, ![1024, 512]⟩
abbrev S8x256x512 : Shape := ⟨3, ![8, 256, 512]⟩
abbrev S8x192x512 : Shape := ⟨3, ![8, 192, 512]⟩
abbrev S1536x512 : Shape := ⟨2, ![1536, 512]⟩

abbrev nBuf : Space → Nat
  | .hbm => 15
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x8x192, .f32⟩
  | .hbm, ⟨3, _⟩ => ⟨S_, .f32⟩
  | .hbm, ⟨4, _⟩ => ⟨S2048x8x64, .f32⟩
  | .hbm, ⟨5, _⟩ => ⟨S2048x8x256, .f32⟩
  | .hbm, ⟨6, _⟩ => ⟨S2048x2048, .f32⟩
  | .hbm, ⟨7, _⟩ => ⟨S2048x2048, .bf16⟩
  | .hbm, ⟨8, _⟩ => ⟨S2048x512, .bf16⟩
  | .hbm, ⟨9, _⟩ => ⟨S2048x512, .bf16⟩
  | .hbm, ⟨10, _⟩ => ⟨S8x256x512, .bf16⟩
  | .hbm, ⟨11, _⟩ => ⟨S8x192x512, .bf16⟩
  | .hbm, ⟨12, _⟩ => ⟨S1536x512, .bf16⟩
  | .hbm, ⟨13, _⟩ => ⟨S512x1536, .bf16⟩
  | .hbm, ⟨14, _⟩ => ⟨S512x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x512 : Shape := ⟨2, ![2048, 512]⟩
abbrev S512x1536 : Shape := ⟨2, ![512, 1536]⟩
abbrev S2048x8x192 : Shape := ⟨3, ![2048, 8, 192]⟩
abbrev S2048x1536 : Shape := ⟨2, ![2048, 1536]⟩
abbrev S1536x512 : Shape := ⟨2, ![1536, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x8x192, .f32⟩
  | .hbm, ⟨3, _⟩ => ⟨S2048x1536, .f32⟩
  | .hbm, ⟨4, _⟩ => ⟨S2048x8x192, .f32⟩
  | .hbm, ⟨5, _⟩ => ⟨S2048x1536, .f32⟩
  | .hbm, ⟨6, _⟩ => ⟨S1536x512, .f32⟩
  | .hbm, ⟨7, _⟩ => ⟨S512x1536, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x512 : Shape := ⟨2, ![2048, 512]⟩
abbrev S512x2048 : Shape := ⟨2, ![512, 2048]⟩
abbrev S512x8x2x128 : Shape := ⟨4, ![512, 8, 2, 128]⟩
abbrev S512x2x8x128 : Shape := ⟨4, ![512, 2, 8, 128]⟩
abbrev S2048x2048 : Shape := ⟨2, ![2048, 2048]⟩
abbrev S1024x512 : Shape := ⟨2, ![1024, 512]⟩
abbrev S512x512 : Shape := ⟨2, ![512, 512]⟩
abbrev S2048x1024 : Shape := ⟨2, ![2048, 1024]⟩
abbrev S2048x8x128 : Shape := ⟨3, ![2048, 8, 128]⟩

abbrev nBuf : Space → Nat
  | .hbm => 14
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x512, .bf16⟩
  | .hbm, ⟨3, _⟩ => ⟨S512x2048, .bf16⟩
  | .hbm, ⟨4, _⟩ => ⟨S512x8x2x128, .bf16⟩
  | .hbm, ⟨5, _⟩ => ⟨S512x2x8x128, .bf16⟩
  | .hbm, ⟨6, _⟩ => ⟨S512x2048, .bf16⟩
  | .hbm, ⟨7, _⟩ => ⟨S2048x2048, .bf16⟩
  | .hbm, ⟨8, _⟩ => ⟨S2048x1024, .bf16⟩
  | .hbm, ⟨9, _⟩ => ⟨S2048x8x128, .bf16⟩
  | .hbm, ⟨10, _⟩ => ⟨S2048x8x128, .f32⟩
  | .hbm, ⟨11, _⟩ => ⟨S2048x1024, .bf16⟩
  | .hbm, ⟨12, _⟩ => ⟨S2048x8x128, .bf16⟩
  | .hbm, ⟨13, _⟩ => ⟨S2048x8x128, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x512 : Shape := ⟨2, ![2048, 512]⟩
abbrev S512x2048 : Shape := ⟨2, ![512, 2048]⟩
abbrev S2048x2048 : Shape := ⟨2, ![2048, 2048]⟩
abbrev S2048x8x256 : Shape := ⟨3, ![2048, 8, 256]⟩
abbrev S2048x8x128 : Shape := ⟨3, ![2048, 8, 128]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .hbm, ⟨3, _⟩ => ⟨S2048x8x256, .f32⟩
  | .hbm, ⟨4, _⟩ => ⟨S2048x8x128, .f32⟩
  | .hbm, ⟨5, _⟩ => ⟨S2048x8x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x512 : Shape := ⟨2, ![2048, 512]⟩
abbrev S512x2048 : Shape := ⟨2, ![512, 2048]⟩
abbrev S2048x8x256 : Shape := ⟨3, ![2048, 8, 256]⟩
abbrev S2048x8x128 : Shape := ⟨3, ![2048, 8, 128]⟩
abbrev S2048x1024 : Shape := ⟨2, ![2048, 1024]⟩
abbrev S2048x2048 : Shape := ⟨2, ![2048, 2048]⟩
abbrev S512x8x2x128 : Shape := ⟨4, ![512, 8, 2, 128]⟩
abbrev S512x2x8x128 : Shape := ⟨4, ![512, 2, 8, 128]⟩
abbrev S1024x2048 : Shape := ⟨2, ![1024, 2048]⟩
abbrev S1024x512 : Shape := ⟨2, ![1024, 512]⟩

abbrev nBuf : Space → Nat
  | .hbm => 14
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x8x256, .f32⟩
  | .hbm, ⟨3, _⟩ => ⟨S2048x8x128, .f32⟩
  | .hbm, ⟨4, _⟩ => ⟨S2048x1024, .f32⟩
  | .hbm, ⟨5, _⟩ => ⟨S2048x8x128, .f32⟩
  | .hbm, ⟨6, _⟩ => ⟨S2048x1024, .f32⟩
  | .hbm, ⟨7, _⟩ => ⟨S2048x2048, .f32⟩
  | .hbm, ⟨8, _⟩ => ⟨S2048x2048, .bf16⟩
  | .hbm, ⟨9, _⟩ => ⟨S512x2048, .bf16⟩
  | .hbm, ⟨10, _⟩ => ⟨S512x8x2x128, .bf16⟩
  | .hbm, ⟨11, _⟩ => ⟨S512x2x8x128, .bf16⟩
  | .hbm, ⟨12, _⟩ => ⟨S512x2048, .bf16⟩
  | .hbm, ⟨13, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x512 : Shape := ⟨2, ![2048, 512]⟩
abbrev S512x2048 : Shape := ⟨2, ![512, 2048]⟩
abbrev S2048x8x256 : Shape := ⟨3, ![2048, 8, 256]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x8x256, .f32⟩
  | .hbm, ⟨3, _⟩ => ⟨S2048x2048, .f32⟩
  | .hbm, ⟨4, _⟩ => ⟨S2048x8x256, .f32⟩
  | .hbm, ⟨5, _⟩ => ⟨S2048x2048, .f32⟩
  | .hbm, ⟨6, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x512 : Shape := ⟨2, ![2048, 512]⟩
abbrev S512x2048 : Shape := ⟨2, ![512, 2048]⟩
abbrev S2048x8x256 : Shape := ⟨3, ![2048, 8, 256]⟩
abbrev S2048x8x128 : Shape := ⟨3, ![2048, 8, 128]⟩
abbrev S2048x1024 : Shape := ⟨2, ![2048, 1024]⟩
abbrev S2048x2048 : Shape := ⟨2, ![2048, 2048]⟩
abbrev S512x512 : Shape := ⟨2, ![512, 512]⟩
abbrev S512x2x8x128 : Shape := ⟨4, ![512, 2, 8, 128]⟩
abbrev S512x8x2x128 : Shape := ⟨4, ![512, 8, 2, 128]⟩

abbrev nBuf : Space → Nat
  | .hbm => 15
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x8x256, .f32⟩
  | .hbm, ⟨3, _⟩ => ⟨S2048x512, .bf16⟩
  | .hbm, ⟨4, _⟩ => ⟨S2048x8x128, .f32⟩
  | .hbm, ⟨5, _⟩ => ⟨S2048x1024, .f32⟩
  | .hbm, ⟨6, _⟩ => ⟨S2048x8x128, .f32⟩
  | .hbm, ⟨7, _⟩ => ⟨S2048x1024, .f32⟩
  | .hbm, ⟨8, _⟩ => ⟨S2048x2048, .f32⟩
  | .hbm, ⟨9, _⟩ => ⟨S2048x2048, .bf16⟩
  | .hbm, ⟨10, _⟩ => ⟨S512x2048, .bf16⟩
  | .hbm, ⟨11, _⟩ => ⟨S512x2x8x128, .bf16⟩
  | .hbm, ⟨12, _⟩ => ⟨S512x8x2x128, .bf16⟩
  | .hbm, ⟨13, _⟩ => ⟨S512x2048, .bf16⟩
  | .hbm, ⟨14, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x512 : Shape := ⟨2, ![2048, 512]⟩
abbrev S512x2048 : Shape := ⟨2, ![512, 2048]⟩
abbrev S2048x8x256 : Shape := ⟨3, ![2048, 8, 256]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x8x256, .f32⟩
  | .hbm, ⟨3, _⟩ => ⟨S2048x2048, .f32⟩
  | .hbm, ⟨4, _⟩ => ⟨S2048x8x256, .f32⟩
  | .hbm, ⟨5, _⟩ => ⟨S2048x2048, .f32⟩
  | .hbm, ⟨6, _⟩ => ⟨S2048x512, .f32⟩
  | .hbm, ⟨7, _⟩ => ⟨S512x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .bf16⟩
  | .hbm, ⟨3, _⟩ => ⟨S1024x2048, .bf16⟩
  | .hbm, ⟨4, _⟩ => ⟨S2048x2048, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S2048x1024 : Shape := ⟨2, ![2048, 1024]⟩
abbrev S1024x2048 : Shape := ⟨2, ![1024, 2048]⟩
abbrev S2048x2048 : Shape := ⟨2, ![2048, 2048]⟩
abbrev S512x2048 : Shape := ⟨2, ![512, 2048]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .bf16⟩
  | .hbm, ⟨4, _⟩ => ⟨S1024x2048, .bf16⟩
  | .hbm, ⟨5, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x1024 : Shape := ⟨2, ![2048, 1024]⟩
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .bf16⟩
  | .hbm, ⟨4, _⟩ => ⟨S2048x2048, .bf16⟩
  | .hbm, ⟨5, _⟩ => ⟨S1024x2048, .bf16⟩
  | .hbm, ⟨6, _⟩ => ⟨S1024x2048, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .f32⟩
  | .hbm, ⟨4, _⟩ => ⟨S2048x1024, .f32⟩
  | .hbm, ⟨5, _⟩ => ⟨S1024x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .bf16⟩
  | .hbm, ⟨3, _⟩ => ⟨S1024x2048, .bf16⟩
  | .hbm, ⟨4, _⟩ => ⟨S2048x2048, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S2048x1024 : Shape := ⟨2, ![2048, 1024]⟩
abbrev S1024x2048 : Shape := ⟨2, ![1024, 2048]⟩
abbrev S2048x2048 : Shape := ⟨2, ![2048, 2048]⟩
abbrev S512x2048 : Shape := ⟨2, ![512, 2048]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .bf16⟩
  | .hbm, ⟨4, _⟩ => ⟨S1024x2048, .bf16⟩
  | .hbm, ⟨5, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S2048x1024 : Shape := ⟨2, ![2048, 1024]⟩
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .bf16⟩
  | .hbm, ⟨4, _⟩ => ⟨S2048x2048, .bf16⟩
  | .hbm, ⟨5, _⟩ => ⟨S1024x2048, .bf16⟩
  | .hbm, ⟨6, _⟩ => ⟨S1024x2048, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .f32⟩
  | .hbm, ⟨4, _⟩ => ⟨S2048x1024, .f32⟩
  | .hbm, ⟨5, _⟩ => ⟨S1024x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel19.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .hbm, ⟨4, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S2048x512 : Shape := ⟨2, ![2048, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S1x512, .f32⟩
  | .hbm, ⟨6, _⟩ => ⟨S2048x512, .bf16⟩
  | .hbm, ⟨7, _⟩ => ⟨S2048x512, .bf16⟩
  | .hbm, ⟨8, _⟩ => ⟨S2048x512, .f32⟩
  | .hbm, ⟨9, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 36
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x512, .f32⟩
  | .hbm, ⟨16, _⟩ => ⟨S2048x512, .f32⟩
  | .hbm, ⟨17, _⟩ => ⟨S1x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x512, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel22.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32_17 : BitVec 32 := 0#32
  let v43 : BitVec 1 := Scalar.cmpi .sgt arg0 c0_i32_17
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel23.lean ====
abbrev S2048x2048 : Shape := ⟨2, ![2048, 2048]⟩
abbrev S256x2048 : Shape := ⟨2, ![256, 2048]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel24.lean ====
abbrev S2048x2048 : Shape := ⟨2, ![2048, 2048]⟩
abbrev S2048 : Shape := ⟨1, ![2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1x512x2048 : Shape := ⟨3, ![1, 512, 2048]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 13
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x128, .f32⟩
  | .hbm, ⟨8, _⟩ => ⟨S1x2048, .f32⟩
  | .hbm, ⟨9, _⟩ => ⟨S1x1, .f32⟩
  | .hbm, ⟨10, _⟩ => ⟨S_, .f32⟩
  | .hbm, ⟨11, _⟩ => ⟨S2048x2048, .f32⟩
  | .hbm, ⟨12, _⟩ => ⟨S2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x128, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_22 : BitVec 32 := 0#32
  let v57 : BitVec 1 := Scalar.cmpi .ne v56 c0_i32_22
  v57

def k0_cond2 (i : grid0.Coords) : BitVec 1 :=
  let arg0 : BitVec 32 := BitVec.ofNat 32 (i 0).val
  let c0_i32_23 : BitVec 32 := 0#32
  let v58 : BitVec 1 := Scalar.cmpi .sgt arg0 c0_i32_23
  let v59 : BitVec 32 := Scalar.extui v58
  let c0_i32_24 : BitVec 32 := 0#32
  let v60 : BitVec 1 := Scalar.cmpi .ne v59 c0_i32_24
  v60

def k0_cond3 (i : grid0.Coords) : BitVec 1 :=
  let arg0 : BitVec 32 := BitVec.ofNat 32 (i 0).val
  let c0_i32_25 : BitVec 32 := 0#32
  let v61 : BitVec 1 := Scalar.cmpi .eq arg0 c0_i32_25
  let v62 : BitVec 32 := Scalar.extui v61
  let c0_i32_26 : BitVec 32 := 0#32
  let v63 : BitVec 1 := Scalar.cmpi .ne v62 c0_i32_26
  v63

def k0_cond4 (i : grid0.Coords) : BitVec 1 :=
  let arg0 : BitVec 32 := BitVec.ofNat 32 (i 0).val
  let c0_i32_27 : BitVec 32 := 0#32
  let v64 : BitVec 1 := Scalar.cmpi .sgt arg0 c0_i32_27
  let v65 : BitVec 32 := Scalar.extui v64
  let c0_i32_28 : BitVec 32 := 0#32
  let v66 : BitVec 1 := Scalar.cmpi .ne v65 c0_i32_28
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference24Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Kernel25.lean ====
abbrev S2048x512 : Shape := ⟨2, ![2048, 512]⟩
abbrev S512 : Shape := ⟨1, ![512]⟩
abbrev S1x512 : Shape := ⟨2, ![1, 512]⟩
abbrev S2048x1024 : Shape := ⟨2, ![2048, 1024]⟩
abbrev S512x512 : Shape := ⟨2, ![512, 512]⟩
abbrev S512x1024 : Shape := ⟨2, ![512, 1024]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S2048x512, .f32⟩
  | .hbm, ⟨5, _⟩ => ⟨S2048x512, .f32⟩
  | .hbm, ⟨6, _⟩ => ⟨S1x512, .f32⟩
  | .hbm, ⟨7, _⟩ => ⟨S1x512, .f32⟩
  | .hbm, ⟨8, _⟩ => ⟨S2048x1024, .bf16⟩
  | .hbm, ⟨9, _⟩ => ⟨S1x512, .f32⟩
  | .hbm, ⟨10, _⟩ => ⟨S1x512, .f32⟩
  | .hbm, ⟨11, _⟩ => ⟨S2048x1024, .f32⟩
  | .hbm, ⟨12, _⟩ => ⟨S2048x512, .f32⟩
  | .hbm, ⟨13, _⟩ => ⟨S2048x512, .f32⟩
  | .hbm, ⟨14, _⟩ => ⟨S512, .f32⟩
  | .hbm, ⟨15, _⟩ => ⟨S512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1x512, .f32⟩
  | .local _ .vmem, ⟨13, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_28 : BitVec 32 := 0#32
  let v79 : BitVec 1 := Scalar.cmpi .ne v78 c0_i32_28
  v79

def k0_cond2 (i : grid0.Coords) : BitVec 1 :=
  let arg0 : BitVec 32 := BitVec.ofNat 32 (i 0).val
  let c0_i32_29 : BitVec 32 := 0#32
  let v80 : BitVec 1 := Scalar.cmpi .sgt arg0 c0_i32_29
  let v81 : BitVec 32 := Scalar.extui v80
  let c0_i32_30 : BitVec 32 := 0#32
  let v82 : BitVec 1 := Scalar.cmpi .ne v81 c0_i32_30
  v82

def k0_cond3 (i : grid0.Coords) : BitVec 1 :=
  let arg0 : BitVec 32 := BitVec.ofNat 32 (i 0).val
  let c0_i32_31 : BitVec 32 := 0#32
  let v83 : BitVec 1 := Scalar.cmpi .eq arg0 c0_i32_31
  let v84 : BitVec 32 := Scalar.extui v83
  let c0_i32_32 : BitVec 32 := 0#32
  let v85 : BitVec 1 := Scalar.cmpi .ne v84 c0_i32_32
  v85

def k0_cond4 (i : grid0.Coords) : BitVec 1 :=
  let arg0 : BitVec 32 := BitVec.ofNat 32 (i 0).val
  let c0_i32_33 : BitVec 32 := 0#32
  let v86 : BitVec 1 := Scalar.cmpi .sgt arg0 c0_i32_33
  let v87 : BitVec 32 := Scalar.extui v86
  let c0_i32_34 : BitVec 32 := 0#32
  let v88 : BitVec 1 := Scalar.cmpi .ne v87 c0_i32_34
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 96
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x512, .f32⟩
  | .hbm, ⟨22, _⟩ => ⟨S2048x512, .f32⟩
  | .hbm, ⟨23, _⟩ => ⟨S1x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x512, .f32⟩
  | .hbm, ⟨42, _⟩ => ⟨S2048x512, .f32⟩
  | .hbm, ⟨43, _⟩ => ⟨S1x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S512, .f32⟩
  | .hbm, ⟨54, _⟩ => ⟨S2048x512, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x512, .f32⟩
  | .hbm, ⟨59, _⟩ => ⟨S2048x512, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x512, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S2048x512, .f32⟩
  | .hbm, ⟨71, _⟩ => ⟨S2048x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S2048x512, .f32⟩
  | .hbm, ⟨76, _⟩ => ⟨S2048x512, .f32⟩
  | .hbm, ⟨77, _⟩ => ⟨S_, .f32⟩
  | .hbm, ⟨78, _⟩ => ⟨S512, .f32⟩
  | .hbm, ⟨79, _⟩ => ⟨S2048x512, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x512, .f32⟩
  | .hbm, ⟨84, _⟩ => ⟨S2048x512, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x512, .f32⟩
  | .hbm, ⟨92, _⟩ => ⟨S2048x512, .f32⟩
  | .hbm, ⟨93, _⟩ => ⟨S2048x512, .f32⟩
  | .hbm, ⟨94, _⟩ => ⟨S2048x512, .f32⟩
  | .hbm, ⟨95, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_15 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel26.lean ====
abbrev S2048x3584 : Shape := ⟨2, ![2048, 3584]⟩
abbrev S3584 : Shape := ⟨1, ![3584]⟩
abbrev S1x3584 : Shape := ⟨2, ![1, 3584]⟩
abbrev S2048x512 : Shape := ⟨2, ![2048, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x3584, .f32⟩
  | .hbm, ⟨1, _⟩ => ⟨S3584, .f32⟩
  | .hbm, ⟨2, _⟩ => ⟨S1x3584, .f32⟩
  | .hbm, ⟨3, _⟩ => ⟨S2048x3584, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S2048x3584 : Shape := ⟨2, ![2048, 3584]⟩
abbrev S3584 : Shape := ⟨1, ![3584]⟩
abbrev S_ : Shape := ⟨0, ![]⟩
abbrev S2050x3584 : Shape := ⟨2, ![2050, 3584]⟩
abbrev S1x3584 : Shape := ⟨2, ![1, 3584]⟩

abbrev nBuf : Space → Nat
  | .hbm => 16
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S3584, .f32⟩
  | .hbm, ⟨2, _⟩ => ⟨S_, .i32⟩
  | .hbm, ⟨3, _⟩ => ⟨S_, .f32⟩
  | .hbm, ⟨4, _⟩ => ⟨S2050x3584, .f32⟩
  | .hbm, ⟨5, _⟩ => ⟨S2048x3584, .f32⟩
  | .hbm, ⟨6, _⟩ => ⟨S2048x3584, .f32⟩
  | .hbm, ⟨7, _⟩ => ⟨S2048x3584, .f32⟩
  | .hbm, ⟨8, _⟩ => ⟨S_, .f32⟩
  | .hbm, ⟨9, _⟩ => ⟨S2048x3584, .f32⟩
  | .hbm, ⟨10, _⟩ => ⟨S2048x3584, .f32⟩
  | .hbm, ⟨11, _⟩ => ⟨S2048x3584, .f32⟩
  | .hbm, ⟨12, _⟩ => ⟨S1x3584, .f32⟩
  | .hbm, ⟨13, _⟩ => ⟨S2048x3584, .f32⟩
  | .hbm, ⟨14, _⟩ => ⟨S2048x3584, .f32⟩
  | .hbm, ⟨15, _⟩ => ⟨S2048x3584, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Attn.FwdBody.lean ====
/- The forward kernel's body at one grid point: what it leaves in each buffer. -/
module

public import proofs.«01_k».proof.Proof.Gen.KernelIdeal.Regions
public import proofs.«01_k».proof.Proof.Gen.KernelIdeal.Skeleton
public import Idealize.ShloMosaic.Lib.Pointwise
public import Idealize.ShloMosaic.Lib.Tactic
public import Idealize.ShloMosaic.Lib.Tactic.Stretches
public import Idealize.ShloMosaic.Lib.WritesUnit
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The forward kernel prepares its keys at the first block of a head's queries. -/
abbrev fwdFirst (i : grid0.Coords) : Prop :=
  Scalar.cmpi .ne (Scalar.extui (Scalar.cmpi .eq (BitVec.ofNat 32 (i 1).val) 0#32)) 0#32 = 1#1

/-- A head's keys: the columns every head shares (the rotated ones) behind the head's own. -/
def headKeys (kn kr : Vec F S2048x128 .bf16) : Vec F S2048x256 .bf16 := fun j =>
  if h : (j 1).val < 128 then kn (ix2 (j 0) ⟨(j 1).val, h⟩)
  else kr (ix2 (j 0) ⟨(j 1).val - 128, by have h1 : (j 1).val < 256 := (j 1).isLt; omega⟩)

theorem k0_pay1_eq (v : Vec F S2048x128 .bf16) : k0_pay1 v = v := by
  funext j
  pointwise [k0_pay1]

theorem k0_pay2_eq (v : Vec F S2048x128 .bf16) : k0_pay2 v = v := by
  funext j
  pointwise [k0_pay2]

/-- The two stores that fill the keys' scratch leave `headKeys`. -/
theorem read_keys (v : View sig .tc .vmem S2048x256 .bf16) (f : v.ty.Contents (Elt F)) (kn kr : Vec F S2048x128 .bf16) :
    v.read (Elt F) (v.writes (Elt F) f
      [⟨Rect.unit ![0, 128] S2048x128.size inb_S2048x256_S2048x128_0_128, kr⟩,
       ⟨Rect.unit ![0, 0] S2048x128.size inb_S2048x256_S2048x128_0_0, kn⟩]) = headKeys kn kr := by
  funext j
  have h1 : (j 1).val < 256 := (j 1).isLt
  have h2 : (j 1).val - 128 < 128 := by omega
  by_cases h : (j 1).val < 128
  · refine (View.read_writes_cons_unit_of_not_mem v f (off' := ![0, 128]) _ _ _ j rfl 1 (Or.inl h)).trans ?_
    refine (View.read_writes_cons_unit_of_mem v f (off' := ![0, 0]) _ _ _ j (ix2 (j 0) ⟨(j 1).val, h⟩) rfl
      (Fin.forall_fin_two.mpr ⟨(Nat.zero_add _).symm, (Nat.zero_add _).symm⟩)).trans ?_
    unfold headKeys; rw [dif_pos h]; rfl
  · refine (View.read_writes_cons_unit_of_mem v f (off' := ![0, 128]) _ _ _ j (ix2 (j 0) ⟨(j 1).val - 128, h2⟩) rfl
      (Fin.forall_fin_two.mpr ⟨(Nat.zero_add _).symm, show (j 1).val = 128 + ((j 1).val - 128) by omega⟩)).trans ?_
    unfold headKeys; rw [dif_neg h]; rfl

/-- The body at a head's first block: the keys are filled in first, then the block's attention is stored. -/
theorem fwd_first (c : Dev nD) (i : grid0.Coords)
    (arg2 : Memref sig .tc .vmem S256x256 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S256x128 .f32) (harg6 : arg6.IsWhole)
    (arg7 : Memref sig .tc .vmem S256x128 .f32) (harg7 : arg7.IsWhole)
    (arg8 : Memref sig .tc .vmem S2048x256 .bf16) (harg8 : arg8.IsWhole)
    (hc : fwdFirst i)
    (x0 : Vec F S256x256 .bf16) (x1 x2 x3 : Vec F S2048x128 .bf16) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay7 x0 (headKeys x1 x2) x3)
            ∗ owns (c : Thread nD τ) arg7 fullShare (k0_pay8 x0 (headKeys x1 x2))
            ∗ owns (c : Thread nD τ) arg8 fullShare (headKeys x1 x2)) -∗ K ⟨⟩))
      ⊢ wp frame (wpE (defs₀ (F := F)) Variants.none c none) E
          (cc0_attn_fwd i arg2 harg2 arg3 harg3 arg4 harg4 arg5 harg5 arg6 harg6 arg7 harg7 arg8 harg8) K := by
  simp only [cc0_attn_fwd_eq_skeleton]; unfold cc0_attn_fwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc)
  have hK : ∀ f : arg8.view.ty.Contents (Elt F), arg8.view.read (Elt F) (arg8.view.writes (Elt F) f (fwd_first.sl.H6_2 c arg3 harg3 arg4 harg4 x1 x2)) = headKeys x1 x2 := by
    intro f
    sl_open_run
    rw [k0_pay1_eq, k0_pay2_eq, View.readAt_full, View.readAt_full, harg3.read_unread, harg4.read_unread]
    exact read_keys _ _ _ _
  have hv : fwd_first.sl.v5 c arg3 harg3 arg4 harg4 arg8 x1 x2 = headKeys x1 x2 := by
    unfold fwd_first.sl.v5
    exact (View.readAt_full _ _ _).trans (hK _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    on_goal 2 => iexact H4
    ipureintro
    rw [View.read_writes_full, hv, View.readAt_full, View.readAt_full, harg2.read_unread, harg5.read_unread]
  isplitl [H5]
  · iexists _; isplitr
    on_goal 2 => iexact H5
    ipureintro
    rw [View.read_writes_full, hv, View.readAt_full, harg2.read_unread]
  · iexists _; isplitr
    on_goal 2 => iexact H6
    ipureintro
    exact hK _

/-- The body at a later block of the head: the keys are those the head's first block left. -/
theorem fwd_next (c : Dev nD) (i : grid0.Coords)
    (arg2 : Memref sig .tc .vmem S256x256 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S256x128 .f32) (harg6 : arg6.IsWhole)
    (arg7 : Memref sig .tc .vmem S256x128 .f32) (harg7 : arg7.IsWhole)
    (arg8 : Memref sig .tc .vmem S2048x256 .bf16) (harg8 : arg8.IsWhole)
    (hc : ¬fwdFirst i)
    (x0 : Vec F S256x256 .bf16) (x1 x2 x3 : Vec F S2048x128 .bf16) (ks : Vec F S2048x256 .bf16) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare ks
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay7 x0 ks x3)
            ∗ owns (c : Thread nD τ) arg7 fullShare (k0_pay8 x0 ks)
            ∗ owns (c : Thread nD τ) arg8 fullShare ks) -∗ K ⟨⟩))
      ⊢ wp frame (wpE (defs₀ (F := F)) Variants.none c none) E
          (cc0_attn_fwd i arg2 harg2 arg3 harg3 arg4 harg4 arg5 harg5 arg6 harg6 arg7 harg7 arg8 harg8) K := by
  simp only [cc0_attn_fwd_eq_skeleton]; unfold cc0_attn_fwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg8.eq_unread hf6
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    on_goal 2 => iexact H4
    ipureintro
    rw [View.read_writes_full, View.readAt_full, View.readAt_full, View.readAt_full, harg2.read_unread, harg5.read_unread, harg8.read_unread]
  isplitl [H5]
  · iexists _; isplitr
    on_goal 2 => iexact H5
    ipureintro
    rw [View.read_writes_full, View.readAt_full, View.readAt_full, harg2.read_unread, harg8.read_unread]
  · iexists _; isplitr
    on_goal 2 => iexact H6
    ipureintro
    exact harg8.read_unread _

end Cert.KernelIdeal.Attn

end
-- ==== Proof.Attn.FwdDat.lean ====
/- The forward kernel's region: what each buffer holds after each grid point, and the body's obligation there. -/
module

public import proofs.«01_k».proof.Proof.Attn.FwdBody
public import proofs.«01_k».proof.Proof.Gen.KernelIdeal.Points
public import Idealize.ShloMosaic.Lib.Pipeline.FrameBody
public import Idealize.ShloMosaic.Lib.Pipeline.TableIdle

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The keys are prepared at the first of a head's eight blocks of queries. -/
theorem fwdFirst_iff : ∀ t : Fin cfg0.N, fwdFirst (grid0.coords t) ↔ t.val % 8 = 0 :=
  (by decide +kernel : ∀ t : Fin grid0.N, fwdFirst (grid0.coords t) ↔ t.val % 8 = 0)

/-- The point at which the head of point `t` starts. -/
def fwdStart (t : Fin cfg0.N) : Fin cfg0.N := ⟨t.val - t.val % 8, lt_of_le_of_lt (Nat.sub_le _ _) t.isLt⟩

theorem fwdStart_first (t : Fin cfg0.N) (h : t.val % 8 = 0) : fwdStart t = t := by
  refine Fin.ext ?_
  show t.val - t.val % 8 = t.val
  omega

theorem fwdStart_next (s t : Fin cfg0.N) (h : s.val = t.val + 1) (h' : s.val % 8 ≠ 0) : fwdStart s = fwdStart t := by
  refine Fin.ext ?_
  show s.val - s.val % 8 = t.val - t.val % 8
  omega

variable (V : Dev nD → Valuation τ sig (Elt F))

/-- Window `w`'s block at point `t`, read off its array as the region finds it. -/
def fwdBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The keys of the head of point `t`. -/
def fwdKeys (c : Dev nD) (t : Fin cfg0.N) : Vec F S2048x256 .bf16 :=
  headKeys (fwdBlk V c 1 (fwdStart t)) (fwdBlk V c 2 (fwdStart t))

/-- The scratch at a point that is not a head's first: that head's keys. -/
def fwdInv (c : Dev nD) (n : ℕ) : sProp 𝕄 :=
  iprop(∃ d, ⌜∀ s : Fin cfg0.N, s.val = n → s.val % 8 ≠ 0 → d = fwdKeys V c s⌝
    ∗ owns (c : Thread nD τ) (Memref.whole cc0_scratch0) fullShare d
    ∗ ((∃ f : Buf (Elt F) ((c : Thread nD τ).loc cc0_scratch0), ((c : Thread nD τ).loc cc0_scratch0) ↦{fullShare} f) -∗ Pipeline.scopedRest spec0 c))

/-- The region's proof data. -/
def fwdDat (c : Dev nD) : Dat τ (Elt F) Unit ℕ (UR sig nD τ) ℕ cfg0 c where
  A w := V c (Pipeline.arrRef spec0 w)
  after w t := match w with
    | ⟨0, _⟩ => fwdBlk V c 0 t
    | ⟨1, _⟩ => fwdBlk V c 1 t
    | ⟨2, _⟩ => fwdBlk V c 2 t
    | ⟨3, _⟩ => fwdBlk V c 3 t
    | ⟨4, _⟩ => k0_pay7 (fwdBlk V c 0 t) (fwdKeys V c t) (fwdBlk V c 3 t)
    | ⟨5, _⟩ => k0_pay8 (fwdBlk V c 0 t) (fwdKeys V c t)
  Φ t := fwdInv V c t.val
  q w := Pipeline.shareOf spec0 w
  owed _ := 0

theorem fwd_A (c : Dev nD) (w : Fin cfg0.W) : (fwdDat V c).A w = V c (Pipeline.arrRef spec0 w) := by dsimp only [fwdDat]
theorem fwd_after0 (c : Dev nD) (t : Fin cfg0.N) : (fwdDat V c).after 0 t = fwdBlk V c 0 t := by dsimp only [fwdDat]
theorem fwd_after1 (c : Dev nD) (t : Fin cfg0.N) : (fwdDat V c).after 1 t = fwdBlk V c 1 t := by dsimp only [fwdDat]
theorem fwd_after2 (c : Dev nD) (t : Fin cfg0.N) : (fwdDat V c).after 2 t = fwdBlk V c 2 t := by dsimp only [fwdDat]
theorem fwd_after3 (c : Dev nD) (t : Fin cfg0.N) : (fwdDat V c).after 3 t = fwdBlk V c 3 t := by dsimp only [fwdDat]
theorem fwd_after4 (c : Dev nD) (t : Fin cfg0.N) : (fwdDat V c).after 4 t = k0_pay7 (fwdBlk V c 0 t) (fwdKeys V c t) (fwdBlk V c 3 t) := by dsimp only [fwdDat]
theorem fwd_after5 (c : Dev nD) (t : Fin cfg0.N) : (fwdDat V c).after 5 t = k0_pay8 (fwdBlk V c 0 t) (fwdKeys V c t) := by dsimp only [fwdDat]

/-- An input's buffer holds its block at every point. -/
theorem fwd_before0 (c : Dev nD) (t : Fin cfg0.N) (d) : (fwdDat V c).before 0 t d = fwdBlk V c 0 t :=
  ((fwdDat V c).before_in_eq_fetched 0 rfl (fun _ => rfl) (fun _ _ _ => rfl) (fun t => by rw [fwd_after0]; unfold Dat.blockOf fwdBlk; rw [fwd_A]) t d).trans
    (by unfold Dat.fetched Dat.blockOf fwdBlk; rw [fwd_A]; rfl)
theorem fwd_before1 (c : Dev nD) (t : Fin cfg0.N) (d) : (fwdDat V c).before 1 t d = fwdBlk V c 1 t :=
  ((fwdDat V c).before_in_eq_fetched 1 rfl (fun _ => rfl) (fun _ _ _ => rfl) (fun t => by rw [fwd_after1]; unfold Dat.blockOf fwdBlk; rw [fwd_A]) t d).trans
    (by unfold Dat.fetched Dat.blockOf fwdBlk; rw [fwd_A]; rfl)
theorem fwd_before2 (c : Dev nD) (t : Fin cfg0.N) (d) : (fwdDat V c).before 2 t d = fwdBlk V c 2 t :=
  ((fwdDat V c).before_in_eq_fetched 2 rfl (fun _ => rfl) (fun _ _ _ => rfl) (fun t => by rw [fwd_after2]; unfold Dat.blockOf fwdBlk; rw [fwd_A]) t d).trans
    (by unfold Dat.fetched Dat.blockOf fwdBlk; rw [fwd_A]; rfl)
theorem fwd_before3 (c : Dev nD) (t : Fin cfg0.N) (d) : (fwdDat V c).before 3 t d = fwdBlk V c 3 t :=
  ((fwdDat V c).before_in_eq_fetched 3 rfl (fun _ => rfl) (fun _ _ _ => rfl) (fun t => by rw [fwd_after3]; unfold Dat.blockOf fwdBlk; rw [fwd_A]) t d).trans
    (by unfold Dat.fetched Dat.blockOf fwdBlk; rw [fwd_A]; rfl)

/-- What the body is given at point `t`, the windows one by one, -/
def fwdPre (c : Dev nD) (t : Fin cfg0.N) : sProp 𝕄 :=
  iprop((fwdDat V c).Φ t.castSucc ∗ (fwdDat V c).owesAt () t.castSucc
    ∗ (∃ d, owns (c : Thread nD τ) (st0_0 t) fullShare ((fwdDat V c).before 0 t d))
    ∗ (∃ d, owns (c : Thread nD τ) (st0_1 t) fullShare ((fwdDat V c).before 1 t d))
    ∗ (∃ d, owns (c : Thread nD τ) (st0_2 t) fullShare ((fwdDat V c).before 2 t d))
    ∗ (∃ d, owns (c : Thread nD τ) (st0_3 t) fullShare ((fwdDat V c).before 3 t d))
    ∗ (∃ d, owns (c : Thread nD τ) (st0_4 t) fullShare ((fwdDat V c).before 4 t d))
    ∗ (∃ d, owns (c : Thread nD τ) (st0_5 t) fullShare ((fwdDat V c).before 5 t d)))

/-- and what it gives back. -/
def fwdPost (c : Dev nD) (t : Fin cfg0.N) : sProp 𝕄 :=
  iprop((fwdDat V c).Φ t.succ ∗ (fwdDat V c).owesAt () t.succ
    ∗ owns (c : Thread nD τ) (st0_0 t) fullShare ((fwdDat V c).after 0 t)
    ∗ owns (c : Thread nD τ) (st0_1 t) fullShare ((fwdDat V c).after 1 t)
    ∗ owns (c : Thread nD τ) (st0_2 t) fullShare ((fwdDat V c).after 2 t)
    ∗ owns (c : Thread nD τ) (st0_3 t) fullShare ((fwdDat V c).after 3 t)
    ∗ owns (c : Thread nD τ) (st0_4 t) fullShare ((fwdDat V c).after 4 t)
    ∗ owns (c : Thread nD τ) (st0_5 t) fullShare ((fwdDat V c).after 5 t))

/-- The body at any point. -/
theorem fwd_body (c : Dev nD) (t : Fin cfg0.N) :
    fwdPre V c t ⊢ wp frame (wpE (defs₀ (F := F)) Variants.none c none) Set.univ (bodyAt0 t) (fun _ => fwdPost V c t) := by
  unfold fwdPre fwdPost bodyAt0
  simp only [fwd_before0, fwd_before1, fwd_before2, fwd_before3]
  rw [show (fwdDat V c).owesAt () t.succ = (fwdDat V c).owesAt () t.castSucc from rfl,
    show (fwdDat V c).Φ t.succ = fwdInv V c (t.val + 1) from rfl, show (fwdDat V c).Φ t.castSucc = fwdInv V c t.val from rfl,
    fwd_after0, fwd_after1, fwd_after2, fwd_after3, fwd_after4, fwd_after5]
  unfold fwdInv
  by_cases h : t.val % 8 = 0
  · have hk : fwdKeys V c t = headKeys (fwdBlk V c 1 t) (fwdBlk V c 2 t) := by unfold fwdKeys; rw [fwdStart_first t h]
    iintro ⟨⟨%d, %hd, HS, HR⟩, Ho, ⟨%d0, H0⟩, ⟨%d1, H1⟩, ⟨%d2, H2⟩, ⟨%d3, H3⟩, ⟨%d4, H4⟩, ⟨%d5, H5⟩⟩
    iapply (fwd_first c (grid0.coords t) _ _ _ _ _ _ _ _ _ _ _ _ _ _ ((fwdFirst_iff t).mpr h) (fwdBlk V c 0 t) (fwdBlk V c 1 t) (fwdBlk V c 2 t) (fwdBlk V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, H4, H5, HS⟩
    rw [hk]
    isplitl [HS HR]
    · iexists _; isplitr
      swap
      · isplitl [HS]; · iexact HS
        iexact HR
      ipureintro
      intro s hs hs'
      unfold fwdKeys
      rw [fwdStart_next s t hs hs', fwdStart_first t h]
    isplitl [Ho]; · iexact Ho
    isplitl [H0]; · iexact H0
    isplitl [H1]; · iexact H1
    isplitl [H2]; · iexact H2
    isplitl [H3]; · iexact H3
    isplitl [H4]; · iexact H4
    iexact H5
  · iintro ⟨⟨%d, %hd, HS, HR⟩, Ho, ⟨%d0, H0⟩, ⟨%d1, H1⟩, ⟨%d2, H2⟩, ⟨%d3, H3⟩, ⟨%d4, H4⟩, ⟨%d5, H5⟩⟩
    obtain rfl := hd t rfl h
    iapply (fwd_next c (grid0.coords t) _ _ _ _ _ _ _ _ _ _ _ _ _ _ (fun h' => h ((fwdFirst_iff t).mp h')) (fwdBlk V c 0 t) (fwdBlk V c 1 t) (fwdBlk V c 2 t) (fwdBlk V c 3 t) (fwdKeys V c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR]
    · iexists _; isplitr
      swap
      · isplitl [HS]; · iexact HS
        iexact HR
      ipureintro
      intro s hs hs'
      unfold fwdKeys
      rw [fwdStart_next s t hs hs']
    isplitl [Ho]; · iexact Ho
    isplitl [H0]; · iexact H0
    isplitl [H1]; · iexact H1
    isplitl [H2]; · iexact H2
    isplitl [H3]; · iexact H3
    isplitl [H4]; · iexact H4
    iexact H5

theorem fwd_row (t : Fin cfg0.N) :
    defs₀ (F := F) .tc cfg0.body (cfg0.bodyArgs t (cfg0.slots t)) = bodyAt0 t := by
  unfold defs₀; rw [Defs.onTc_tc]

/-- The body obligation at every point. -/
theorem fwd_obligation (c : Dev nD) : BodyObligation (fwdDat V c) (defs₀ (F := F)) Variants.none () Set.univ := fun t => by
  rw [bigSep_W0, bigSep_W0, fwd_row]
  exact triple_restated (fwd_body V c t) rfl .rfl fun _ => .rfl

/-- The invariant at the first point, out of the scoped buffers no window stages. -/
theorem fwd_in (c : Dev nD) : (Pipeline.scopedRest spec0 c : sProp 𝕄) ⊢ (fwdDat V c).Φ 0 := by
  rw [show (fwdDat V c).Φ 0 = fwdInv V c 0 from rfl]
  unfold fwdInv
  rw [scopedRest0_eq]
  iintro ⟨⟨%f, HS⟩, HR⟩
  iexists _
  isplitr
  swap
  · isplitl [HS]
    · rw [owns_whole]; iexact HS
    iintro HS
    isplitl [HS]; · iexact HS
    iexact HR
  ipureintro
  intro s hs hs'
  omega

/-- The invariant at the end gives those buffers back. -/
theorem fwd_out (c : Dev nD) : (fwdDat V c).Φ (Fin.last cfg0.N) ⊢ (Pipeline.scopedRest spec0 c : sProp 𝕄) := by
  rw [show (fwdDat V c).Φ (Fin.last cfg0.N) = fwdInv V c cfg0.N from rfl]
  unfold fwdInv
  simp only [owns_whole]
  iintro ⟨%d, -, HS, HR⟩
  iapply HR
  iexists _
  iexact HS

end Cert.KernelIdeal.Attn

end
-- ==== Proof.Attn.BwdBody.lean ====
/- The backward kernel's body at one grid point: what it leaves in each buffer. -/
module

public import proofs.«01_k».proof.Proof.Attn.FwdBody
public import Idealize.ShloMosaic.Lib.Pointwise
public import Idealize.ShloMosaic.Lib.Tactic
public import Idealize.ShloMosaic.Lib.Tactic.Stretches
public import Idealize.ShloMosaic.Lib.WritesUnit
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The backward kernel prepares its keys at the first block of a head's queries. -/
abbrev bwdFirst (i : grid1.Coords) : Prop :=
  Scalar.cmpi .ne (Scalar.extui (Scalar.cmpi .eq (BitVec.ofNat 32 (i 1).val) 0#32)) 0#32 = 1#1

/-- The saved log sums stand in every lane of a row: the kernel reads the first. -/
def col0 (x : Vec F S1024x128 .f32) : Vec F S1024x1 .f32 := fun j => x (ix2 (j 0) 0)

/-- The probabilities of a block of queries, from the saved log sums. -/
def bp (q : Vec F S1024x256 .bf16) (ks : Vec F S2048x256 .bf16) (lse : Vec F S1024x128 .f32) : FVec F S1024x2048 .f32 :=
  k1_pay8 q ks (col0 lse)

/-- The scores' gradient of a block of queries. -/
def bds (q : Vec F S1024x256 .bf16) (ks : Vec F S2048x256 .bf16) (v : Vec F S2048x128 .bf16) (o lse g : Vec F S1024x128 .f32) : FVec F S1024x2048 .bf16 :=
  k1_pay11 q ks (col0 lse) g o v

/-- The queries' gradient of a block of queries. -/
def bdq (q : Vec F S1024x256 .bf16) (ks : Vec F S2048x256 .bf16) (v : Vec F S2048x128 .bf16) (o lse g : Vec F S1024x128 .f32) : FVec F S1024x256 .f32 :=
  k1_pay12 q ks (col0 lse) g o v ks

theorem k1_pay6_eq (v : Vec F S2048x128 .bf16) : k1_pay6 v = v := by
  funext j
  pointwise [k1_pay6]

theorem k1_pay7_eq (v : Vec F S2048x128 .bf16) : k1_pay7 v = v := by
  funext j
  pointwise [k1_pay7]

theorem col0_idx (j : S1024x1.Idx) :
    (Rect.unit (s := S1024x128) ![0, 0] S1024x1.size inb_S1024x128_S1024x1_0_0).toLoadRect.idx j = ix2 (j 0) 0 := by
  funext a
  refine Fin.ext ?_
  revert a
  refine Fin.forall_fin_two.mpr ⟨?_, ?_⟩
  · show 0 + 1 * (j 0).val = (j 0).val
    omega
  · have h : (j 1).val < 1 := (j 1).isLt
    show 0 + 1 * (j 1).val = 0
    omega

set_option maxHeartbeats 1000000 in
/-- The body at a head's first block of queries: the keys are filled in, the gradients of the keys and of the values start from this block's parts. -/
theorem bwd_first (c : Dev nD) (i : grid1.Coords)
    (arg2 : Memref sig .tc .vmem S1024x256 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S1024x128 .f32) (harg8 : arg8.IsWhole)
    (arg9 : Memref sig .tc .vmem S1024x256 .f32) (harg9 : arg9.IsWhole)
    (arg10 : Memref sig .tc .vmem S2048x256 .f32) (harg10 : arg10.IsWhole)
    (arg11 : Memref sig .tc .vmem S2048x128 .f32) (harg11 : arg11.IsWhole)
    (arg12 : Memref sig .tc .vmem S2048x256 .bf16) (harg12 : arg12.IsWhole)
    (hc1 : bwdFirst i) (hc2 : k1_cond2 i = 1#1) (hc3 : ¬k1_cond3 i = 1#1) (hc4 : k1_cond4 i = 1#1) (hc5 : ¬k1_cond5 i = 1#1) (hc6 : ¬k1_cond6 i = 1#1)
    (q : Vec F S1024x256 .bf16) (kn kr v : Vec F S2048x128 .bf16) (o lse g : Vec F S1024x128 .f32) (E : Set ℕ) (K : PUnit → sProp 𝕄) :
    iprop(owns (c : Thread nD τ) arg2 fullShare q ∗ owns (c : Thread nD τ) arg3 fullShare kn ∗ owns (c : Thread nD τ) arg4 fullShare kr ∗ owns (c : Thread nD τ) arg5 fullShare v ∗ owns (c : Thread nD τ) arg6 fullShare o ∗ owns (c : Thread nD τ) arg7 fullShare lse ∗ owns (c : Thread nD τ) arg8 fullShare g ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare q ∗ owns (c : Thread nD τ) arg3 fullShare kn ∗ owns (c : Thread nD τ) arg4 fullShare kr ∗ owns (c : Thread nD τ) arg5 fullShare v ∗ owns (c : Thread nD τ) arg6 fullShare o ∗ owns (c : Thread nD τ) arg7 fullShare lse ∗ owns (c : Thread nD τ) arg8 fullShare g ∗ owns (c : Thread nD τ) arg9 fullShare (bdq q (headKeys kn kr) v o lse g) ∗ owns (c : Thread nD τ) arg10 fullShare (k1_pay2 (bds q (headKeys kn kr) v o lse g) q) ∗ owns (c : Thread nD τ) arg11 fullShare (k1_pay1 (bp q (headKeys kn kr) lse) (k1_pay10 g)) ∗ owns (c : Thread nD τ) arg12 fullShare (headKeys kn kr)) -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10 arg11 harg11 arg12 harg12) K := by
  simp only [cc1_attn_bwd_eq_skeleton]; unfold cc1_attn_bwd_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc1 | sl_exact hc2 | sl_exact hc3 | sl_exact hc4 | sl_exact hc5 | sl_exact hc6)
  have hcol : View.readAt (Elt F) arg7.view (Rect.unit (s := S1024x128) ![0, 0] S1024x1.size inb_S1024x128_S1024x1_0_0).toLoadRect (harg7.unread lse) = col0 lse := by
    funext j
    exact (congrFun (harg7.read_unread lse) _).trans (congrArg lse (col0_idx j))
  have r2 : View.readAt (Elt F) arg2.view (Rect.unit (s := S1024x256) ![0, 0] S1024x256.size inb_S1024x256_S1024x256_0_0).toLoadRect (harg2.unread q) = q :=
    (View.readAt_full _ _ _).trans (harg2.read_unread q)
  have r5 : View.readAt (Elt F) arg5.view (Rect.unit (s := S2048x128) ![0, 0] S2048x128.size inb_S2048x128_S2048x128_0_0).toLoadRect (harg5.unread v) = v :=
    (View.readAt_full _ _ _).trans (harg5.read_unread v)
  have r6 : View.readAt (Elt F) arg6.view (Rect.unit (s := S1024x128) ![0, 0] S1024x128.size inb_S1024x128_S1024x128_0_0).toLoadRect (harg6.unread o) = o :=
    (View.readAt_full _ _ _).trans (harg6.read_unread o)
  have r8 : View.readAt (Elt F) arg8.view (Rect.unit (s := S1024x128) ![0, 0] S1024x128.size inb_S1024x128_S1024x128_0_0).toLoadRect (harg8.unread g) = g :=
    (View.readAt_full _ _ _).trans (harg8.read_unread g)
  have hK : ∀ f : arg12.view.ty.Contents (Elt F), arg12.view.read (Elt F) (arg12.view.writes (Elt F) f (bwd_first.sl.H10_2 c arg3 harg3 arg4 harg4 kn kr)) = headKeys kn kr := by
    intro f
    sl_open_run
    rw [k1_pay6_eq, k1_pay7_eq, View.readAt_full, View.readAt_full, harg3.read_unread, harg4.read_unread]
    exact read_keys _ _ _ _
  have hv : bwd_first.sl.v5 c arg3 harg3 arg4 harg4 arg12 kn kr = headKeys kn kr := by
    unfold bwd_first.sl.v5
    exact (View.readAt_full _ _ _).trans (hK _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    on_goal 2 => iexact H7
    ipureintro
    rw [View.read_writes_full]
    unfold bwd_first.sl.r_3
    simp only [hv, hcol, r2, r5, r6, r8]
    rfl
  isplitl [H8]
  · iexists _; isplitr
    on_goal 2 => iexact H8
    ipureintro
    rw [View.read_writes_full]
    unfold bwd_first.sl.r_2
    simp only [hv, hcol, r2, r5, r6, r8]
    rfl
  isplitl [H9]
  · iexists _; isplitr
    on_goal 2 => iexact H9
    ipureintro
    rw [View.read_writes_full]
    unfold bwd_first.sl.r bwd_first.sl.r_1
    simp only [hv, hcol, r2, r8]
    rfl
  · iexists _; isplitr
    on_goal 2 => iexact H10
    ipureintro
    exact hK _

set_option maxHeartbeats 1000000 in
/-- The body at a head's last block of queries: this block's parts are added to those the block before left, and the keys' gradient is scaled. -/
theorem bwd_last (c : Dev nD) (i : grid1.Coords)
    (arg2 : Memref sig .tc .vmem S1024x256 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S1024x128 .f32) (harg8 : arg8.IsWhole)
    (arg9 : Memref sig .tc .vmem S1024x256 .f32) (harg9 : arg9.IsWhole)
    (arg10 : Memref sig .tc .vmem S2048x256 .f32) (harg10 : arg10.IsWhole)
    (arg11 : Memref sig .tc .vmem S2048x128 .f32) (harg11 : arg11.IsWhole)
    (arg12 : Memref sig .tc .vmem S2048x256 .bf16) (harg12 : arg12.IsWhole)
    (hc1 : ¬bwdFirst i) (hc2 : ¬k1_cond2 i = 1#1) (hc3 : k1_cond3 i = 1#1) (hc4 : ¬k1_cond4 i = 1#1) (hc5 : k1_cond5 i = 1#1) (hc6 : k1_cond6 i = 1#1)
    (q : Vec F S1024x256 .bf16) (kn kr v : Vec F S2048x128 .bf16) (o lse g : Vec F S1024x128 .f32) (dk0 : Vec F S2048x256 .f32) (dv0 : Vec F S2048x128 .f32) (ks : Vec F S2048x256 .bf16) (E : Set ℕ) (K : PUnit → sProp 𝕄) :
    iprop(owns (c : Thread nD τ) arg2 fullShare q ∗ owns (c : Thread nD τ) arg3 fullShare kn ∗ owns (c : Thread nD τ) arg4 fullShare kr ∗ owns (c : Thread nD τ) arg5 fullShare v ∗ owns (c : Thread nD τ) arg6 fullShare o ∗ owns (c : Thread nD τ) arg7 fullShare lse ∗ owns (c : Thread nD τ) arg8 fullShare g ∗ (∃ d, owns (c : Thread nD τ) arg9 fullShare d) ∗ owns (c : Thread nD τ) arg10 fullShare dk0 ∗ owns (c : Thread nD τ) arg11 fullShare dv0 ∗ owns (c : Thread nD τ) arg12 fullShare ks
        ∗ (iprop(owns (c : Thread nD τ) arg2 fullShare q ∗ owns (c : Thread nD τ) arg3 fullShare kn ∗ owns (c : Thread nD τ) arg4 fullShare kr ∗ owns (c : Thread nD τ) arg5 fullShare v ∗ owns (c : Thread nD τ) arg6 fullShare o ∗ owns (c : Thread nD τ) arg7 fullShare lse ∗ owns (c : Thread nD τ) arg8 fullShare g ∗ owns (c : Thread nD τ) arg9 fullShare (bdq q ks v o lse g) ∗ owns (c : Thread nD τ) arg10 fullShare (k1_pay5 (k1_pay3 (bds q ks v o lse g) q dk0)) ∗ owns (c : Thread nD τ) arg11 fullShare (k1_pay4 (bp q ks lse) (k1_pay10 g) dv0) ∗ owns (c : Thread nD τ) arg12 fullShare ks) -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10 arg11 harg11 arg12 harg12) K := by
  simp only [cc1_attn_bwd_eq_skeleton]; unfold cc1_attn_bwd_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
  sl_exec (disch := first | sl_exact hc1 | sl_exact hc2 | sl_exact hc3 | sl_exact hc4 | sl_exact hc5 | sl_exact hc6)
  have hcol : View.readAt (Elt F) arg7.view (Rect.unit (s := S1024x128) ![0, 0] S1024x1.size inb_S1024x128_S1024x1_0_0).toLoadRect (harg7.unread lse) = col0 lse := by
    funext j
    exact (congrFun (harg7.read_unread lse) _).trans (congrArg lse (col0_idx j))
  have r2 : View.readAt (Elt F) arg2.view (Rect.unit (s := S1024x256) ![0, 0] S1024x256.size inb_S1024x256_S1024x256_0_0).toLoadRect (harg2.unread q) = q :=
    (View.readAt_full _ _ _).trans (harg2.read_unread q)
  have r5 : View.readAt (Elt F) arg5.view (Rect.unit (s := S2048x128) ![0, 0] S2048x128.size inb_S2048x128_S2048x128_0_0).toLoadRect (harg5.unread v) = v :=
    (View.readAt_full _ _ _).trans (harg5.read_unread v)
  have r6 : View.readAt (Elt F) arg6.view (Rect.unit (s := S1024x128) ![0, 0] S1024x128.size inb_S1024x128_S1024x128_0_0).toLoadRect (harg6.unread o) = o :=
    (View.readAt_full _ _ _).trans (harg6.read_unread o)
  have r8 : View.readAt (Elt F) arg8.view (Rect.unit (s := S1024x128) ![0, 0] S1024x128.size inb_S1024x128_S1024x128_0_0).toLoadRect (harg8.unread g) = g :=
    (View.readAt_full _ _ _).trans (harg8.read_unread g)
  have r10 : View.readAt (Elt F) arg10.view (Rect.unit (s := S2048x256) ![0, 0] S2048x256.size inb_S2048x256_S2048x256_0_0).toLoadRect (harg10.unread dk0) = dk0 :=
    (View.readAt_full _ _ _).trans (harg10.read_unread dk0)
  have r11 : View.readAt (Elt F) arg11.view (Rect.unit (s := S2048x128) ![0, 0] S2048x128.size inb_S2048x128_S2048x128_0_0).toLoadRect (harg11.unread dv0) = dv0 :=
    (View.readAt_full _ _ _).trans (harg11.read_unread dv0)
  have r12 : View.readAt (Elt F) arg12.view (Rect.unit (s := S2048x256) ![0, 0] S2048x256.size inb_S2048x256_S2048x256_0_0).toLoadRect (harg12.unread ks) = ks :=
    (View.readAt_full _ _ _).trans (harg12.read_unread ks)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    on_goal 2 => iexact H7
    ipureintro
    rw [View.read_writes_full]
    unfold bwd_last.sl.r_3
    simp only [hcol, r2, r5, r6, r8, r12]
    rfl
  isplitl [H8]
  · iexists _; isplitr
    on_goal 2 => iexact H8
    ipureintro
    rw [View.read_writes_full]
    unfold bwd_last.sl.v54 bwd_last.sl.H8_1 bwd_last.sl.r_2
    rw [show ∀ w, arg10.view.readCov [(⟨Rect.unit (s := S2048x256) ![0, 0] S2048x256.size inb_S2048x256_S2048x256_0_0, w⟩ : View.Piece (Elt F) S2048x256 .f32)] (Rect.unit (s := S2048x256) ![0, 0] S2048x256.size inb_S2048x256_S2048x256_0_0).toLoadRect = w from fun w => View.readCov_full _ _ _ _ _]
    simp only [hcol, r2, r5, r6, r8, r10, r12]
    rfl
  isplitl [H9]
  · iexists _; isplitr
    on_goal 2 => iexact H9
    ipureintro
    rw [View.read_writes_full]
    unfold bwd_last.sl.r bwd_last.sl.r_1
    simp only [hcol, r2, r8, r11, r12]
    rfl
  · iexists _; isplitr
    on_goal 2 => iexact H10
    ipureintro
    exact harg12.read_unread _

end Cert.KernelIdeal.Attn

end
-- ==== Proof.Attn.BwdDat.lean ====
/- The backward kernel's region: what each buffer holds after each grid point, and the body's obligation there. -/
module

public import proofs.«01_k».proof.Proof.Attn.BwdBody
public import proofs.«01_k».proof.Proof.Gen.KernelIdeal.Points
public import Idealize.ShloMosaic.Lib.Pipeline.FrameBody
public import Idealize.ShloMosaic.Lib.Pipeline.TableIdle

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Each head has two blocks of queries: the keys are prepared and the sums over the queries begun at the first, the sums are
    finished at the second. -/
theorem bwdFirst_iff : ∀ t : Fin cfg1.N, bwdFirst (grid1.coords t) ↔ t.val % 2 = 0 :=
  (by decide +kernel : ∀ t : Fin grid1.N, bwdFirst (grid1.coords t) ↔ t.val % 2 = 0)
theorem bwd_cond2 : ∀ t : Fin cfg1.N, k1_cond2 (grid1.coords t) = 1#1 ↔ t.val % 2 = 0 :=
  (by decide +kernel : ∀ t : Fin grid1.N, k1_cond2 (grid1.coords t) = 1#1 ↔ t.val % 2 = 0)
theorem bwd_cond3 : ∀ t : Fin cfg1.N, k1_cond3 (grid1.coords t) = 1#1 ↔ ¬t.val % 2 = 0 :=
  (by decide +kernel : ∀ t : Fin grid1.N, k1_cond3 (grid1.coords t) = 1#1 ↔ ¬t.val % 2 = 0)
theorem bwd_cond4 : ∀ t : Fin cfg1.N, k1_cond4 (grid1.coords t) = 1#1 ↔ t.val % 2 = 0 :=
  (by decide +kernel : ∀ t : Fin grid1.N, k1_cond4 (grid1.coords t) = 1#1 ↔ t.val % 2 = 0)
theorem bwd_cond5 : ∀ t : Fin cfg1.N, k1_cond5 (grid1.coords t) = 1#1 ↔ ¬t.val % 2 = 0 :=
  (by decide +kernel : ∀ t : Fin grid1.N, k1_cond5 (grid1.coords t) = 1#1 ↔ ¬t.val % 2 = 0)
theorem bwd_cond6 : ∀ t : Fin cfg1.N, k1_cond6 (grid1.coords t) = 1#1 ↔ ¬t.val % 2 = 0 :=
  (by decide +kernel : ∀ t : Fin grid1.N, k1_cond6 (grid1.coords t) = 1#1 ↔ ¬t.val % 2 = 0)

/-- The two windows of sums are stored into at every point, -/
theorem bwd_live8 : ∀ t : Fin cfg1.N, cfg1.idle 8 (cfg1.grid.coords t) = false := by decide +kernel
theorem bwd_live9 : ∀ t : Fin cfg1.N, cfg1.idle 9 (cfg1.grid.coords t) = false := by decide +kernel

/-- and their buffers are new at the points after a write-back: at a head's first. -/
def newAt : ℕ → Bool := fun n => n % 2 == 0
theorem newAt_step8 : ∀ t : Fin cfg1.N,
    newAt (t.val + 1) = ((cfg1.win 8).flush t || (cfg1.idle 8 (cfg1.grid.coords t) && newAt t.val)) := by decide +kernel
theorem newAt_step9 : ∀ t : Fin cfg1.N,
    newAt (t.val + 1) = ((cfg1.win 9).flush t || (cfg1.idle 9 (cfg1.grid.coords t) && newAt t.val)) := by decide +kernel
theorem bwd_kept8 (t : Fin cfg1.N) (h : ¬t.val % 2 = 0) : cfg1.fresh 8 t.val = false :=
  (Pipeline.Cfg.fresh_tab cfg1 8 newAt rfl newAt_step8 t.val (Nat.le_of_lt t.isLt)).trans (beq_eq_false_iff_ne.mpr h)
theorem bwd_kept9 (t : Fin cfg1.N) (h : ¬t.val % 2 = 0) : cfg1.fresh 9 t.val = false :=
  (Pipeline.Cfg.fresh_tab cfg1 9 newAt rfl newAt_step9 t.val (Nat.le_of_lt t.isLt)).trans (beq_eq_false_iff_ne.mpr h)

/-- The point at which the head of point `t` starts. -/
def bwdStart (t : Fin cfg1.N) : Fin cfg1.N := ⟨t.val - t.val % 2, lt_of_le_of_lt (Nat.sub_le _ _) t.isLt⟩

theorem bwdStart_first (t : Fin cfg1.N) (h : t.val % 2 = 0) : bwdStart t = t := by
  refine Fin.ext ?_
  show t.val - t.val % 2 = t.val
  omega

theorem bwdStart_next (s t : Fin cfg1.N) (h : s.val = t.val + 1) (h' : s.val % 2 ≠ 0) : bwdStart s = bwdStart t := by
  refine Fin.ext ?_
  show s.val - s.val % 2 = t.val - t.val % 2
  omega

theorem bwdStart_last (t : Fin cfg1.N) (h : ¬t.val % 2 = 0) : (⟨t.val - 1, lt_of_le_of_lt (Nat.sub_le _ _) t.isLt⟩ : Fin cfg1.N) = bwdStart t := by
  refine Fin.ext ?_
  show t.val - 1 = t.val - t.val % 2
  omega

theorem bwdStart_mod (t : Fin cfg1.N) : (bwdStart t).val % 2 = 0 := by
  show (t.val - t.val % 2) % 2 = 0
  omega

variable (V : Dev nD → Valuation τ sig (Elt F))

/-- Window `w`'s block at point `t`, read off its array as the region finds it. -/
def bwdBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The keys of the head of point `t`. -/
def bwdKeys (c : Dev nD) (t : Fin cfg1.N) : Vec F S2048x256 .bf16 :=
  headKeys (bwdBlk V c 1 (bwdStart t)) (bwdBlk V c 2 (bwdStart t))

/-- The probabilities and the scores' gradient at point `t`. -/
def bwdP (c : Dev nD) (t : Fin cfg1.N) : FVec F S1024x2048 .f32 :=
  bp (bwdBlk V c 0 t) (bwdKeys V c t) (bwdBlk V c 5 t)
def bwdDs (c : Dev nD) (t : Fin cfg1.N) : FVec F S1024x2048 .bf16 :=
  bds (bwdBlk V c 0 t) (bwdKeys V c t) (bwdBlk V c 3 t) (bwdBlk V c 4 t) (bwdBlk V c 5 t) (bwdBlk V c 6 t)

/-- What the three outputs hold after point `t`: the queries' gradient of its block, and the keys' and the values' gradient
    summed over the head's blocks so far. -/
def bwdDq (c : Dev nD) (t : Fin cfg1.N) : Vec F S1024x256 .f32 :=
  bdq (bwdBlk V c 0 t) (bwdKeys V c t) (bwdBlk V c 3 t) (bwdBlk V c 4 t) (bwdBlk V c 5 t) (bwdBlk V c 6 t)
def bwdDk (c : Dev nD) (t : Fin cfg1.N) : Vec F S2048x256 .f32 :=
  if t.val % 2 = 0 then k1_pay2 (bwdDs V c t) (bwdBlk V c 0 t)
  else k1_pay5 (k1_pay3 (bwdDs V c t) (bwdBlk V c 0 t) (k1_pay2 (bwdDs V c (bwdStart t)) (bwdBlk V c 0 (bwdStart t))))
def bwdDv (c : Dev nD) (t : Fin cfg1.N) : Vec F S2048x128 .f32 :=
  if t.val % 2 = 0 then k1_pay1 (bwdP V c t) (k1_pay10 (bwdBlk V c 6 t))
  else k1_pay4 (bwdP V c t) (k1_pay10 (bwdBlk V c 6 t)) (k1_pay1 (bwdP V c (bwdStart t)) (k1_pay10 (bwdBlk V c 6 (bwdStart t))))

/-- The scratch at a point that is not a head's first: that head's keys. -/
def bwdInv (c : Dev nD) (n : ℕ) : sProp 𝕄 :=
  iprop(∃ d, ⌜∀ s : Fin cfg1.N, s.val = n → s.val % 2 ≠ 0 → d = bwdKeys V c s⌝
    ∗ owns (c : Thread nD τ) (Memref.whole cc1_scratch0) fullShare d
    ∗ ((∃ f : Buf (Elt F) ((c : Thread nD τ).loc cc1_scratch0), ((c : Thread nD τ).loc cc1_scratch0) ↦{fullShare} f) -∗ Pipeline.scopedRest spec1 c))

/-- The region's proof data. -/
def bwdDat (c : Dev nD) : Dat τ (Elt F) Unit ℕ (UR sig nD τ) ℕ cfg1 c where
  A w := V c (Pipeline.arrRef spec1 w)
  after w t := match w with
    | ⟨0, _⟩ => bwdBlk V c 0 t
    | ⟨1, _⟩ => bwdBlk V c 1 t
    | ⟨2, _⟩ => bwdBlk V c 2 t
    | ⟨3, _⟩ => bwdBlk V c 3 t
    | ⟨4, _⟩ => bwdBlk V c 4 t
    | ⟨5, _⟩ => bwdBlk V c 5 t
    | ⟨6, _⟩ => bwdBlk V c 6 t
    | ⟨7, _⟩ => bwdDq V c t
    | ⟨8, _⟩ => bwdDk V c t
    | ⟨9, _⟩ => bwdDv V c t
  Φ t := bwdInv V c t.val
  q w := Pipeline.shareOf spec1 w
  owed _ := 0

theorem bwd_A (c : Dev nD) (w : Fin cfg1.W) : (bwdDat V c).A w = V c (Pipeline.arrRef spec1 w) := by dsimp only [bwdDat]
theorem bwd_after0 (c : Dev nD) (t : Fin cfg1.N) : (bwdDat V c).after 0 t = bwdBlk V c 0 t := by dsimp only [bwdDat]
theorem bwd_after1 (c : Dev nD) (t : Fin cfg1.N) : (bwdDat V c).after 1 t = bwdBlk V c 1 t := by dsimp only [bwdDat]
theorem bwd_after2 (c : Dev nD) (t : Fin cfg1.N) : (bwdDat V c).after 2 t = bwdBlk V c 2 t := by dsimp only [bwdDat]
theorem bwd_after3 (c : Dev nD) (t : Fin cfg1.N) : (bwdDat V c).after 3 t = bwdBlk V c 3 t := by dsimp only [bwdDat]
theorem bwd_after4 (c : Dev nD) (t : Fin cfg1.N) : (bwdDat V c).after 4 t = bwdBlk V c 4 t := by dsimp only [bwdDat]
theorem bwd_after5 (c : Dev nD) (t : Fin cfg1.N) : (bwdDat V c).after 5 t = bwdBlk V c 5 t := by dsimp only [bwdDat]
theorem bwd_after6 (c : Dev nD) (t : Fin cfg1.N) : (bwdDat V c).after 6 t = bwdBlk V c 6 t := by dsimp only [bwdDat]
theorem bwd_after7 (c : Dev nD) (t : Fin cfg1.N) : (bwdDat V c).after 7 t = bwdDq V c t := by dsimp only [bwdDat]
theorem bwd_after8 (c : Dev nD) (t : Fin cfg1.N) : (bwdDat V c).after 8 t = bwdDk V c t := by dsimp only [bwdDat]
theorem bwd_after9 (c : Dev nD) (t : Fin cfg1.N) : (bwdDat V c).after 9 t = bwdDv V c t := by dsimp only [bwdDat]

/-- An input's buffer holds its block at every point. -/
theorem bwd_before0 (c : Dev nD) (t : Fin cfg1.N) (d) : (bwdDat V c).before 0 t d = bwdBlk V c 0 t :=
  ((bwdDat V c).before_in_eq_fetched 0 rfl (fun _ => rfl) (fun _ _ _ => rfl) (fun t => by rw [bwd_after0]; unfold Dat.blockOf bwdBlk; rw [bwd_A]) t d).trans
    (by unfold Dat.fetched Dat.blockOf bwdBlk; rw [bwd_A]; rfl)
theorem bwd_before1 (c : Dev nD) (t : Fin cfg1.N) (d) : (bwdDat V c).before 1 t d = bwdBlk V c 1 t :=
  ((bwdDat V c).before_in_eq_fetched 1 rfl (fun _ => rfl) (fun _ _ _ => rfl) (fun t => by rw [bwd_after1]; unfold Dat.blockOf bwdBlk; rw [bwd_A]) t d).trans
    (by unfold Dat.fetched Dat.blockOf bwdBlk; rw [bwd_A]; rfl)
theorem bwd_before2 (c : Dev nD) (t : Fin cfg1.N) (d) : (bwdDat V c).before 2 t d = bwdBlk V c 2 t :=
  ((bwdDat V c).before_in_eq_fetched 2 rfl (fun _ => rfl) (fun _ _ _ => rfl) (fun t => by rw [bwd_after2]; unfold Dat.blockOf bwdBlk; rw [bwd_A]) t d).trans
    (by unfold Dat.fetched Dat.blockOf bwdBlk; rw [bwd_A]; rfl)
theorem bwd_before3 (c : Dev nD) (t : Fin cfg1.N) (d) : (bwdDat V c).before 3 t d = bwdBlk V c 3 t :=
  ((bwdDat V c).before_in_eq_fetched 3 rfl (fun _ => rfl) (fun _ _ _ => rfl) (fun t => by rw [bwd_after3]; unfold Dat.blockOf bwdBlk; rw [bwd_A]) t d).trans
    (by unfold Dat.fetched Dat.blockOf bwdBlk; rw [bwd_A]; rfl)
theorem bwd_before4 (c : Dev nD) (t : Fin cfg1.N) (d) : (bwdDat V c).before 4 t d = bwdBlk V c 4 t :=
  ((bwdDat V c).before_in_eq_fetched 4 rfl (fun _ => rfl) (fun _ _ _ => rfl) (fun t => by rw [bwd_after4]; unfold Dat.blockOf bwdBlk; rw [bwd_A]) t d).trans
    (by unfold Dat.fetched Dat.blockOf bwdBlk; rw [bwd_A]; rfl)
theorem bwd_before5 (c : Dev nD) (t : Fin cfg1.N) (d) : (bwdDat V c).before 5 t d = bwdBlk V c 5 t :=
  ((bwdDat V c).before_in_eq_fetched 5 rfl (fun _ => rfl) (fun _ _ _ => rfl) (fun t => by rw [bwd_after5]; unfold Dat.blockOf bwdBlk; rw [bwd_A]) t d).trans
    (by unfold Dat.fetched Dat.blockOf bwdBlk; rw [bwd_A]; rfl)
theorem bwd_before6 (c : Dev nD) (t : Fin cfg1.N) (d) : (bwdDat V c).before 6 t d = bwdBlk V c 6 t :=
  ((bwdDat V c).before_in_eq_fetched 6 rfl (fun _ => rfl) (fun _ _ _ => rfl) (fun t => by rw [bwd_after6]; unfold Dat.blockOf bwdBlk; rw [bwd_A]) t d).trans
    (by unfold Dat.fetched Dat.blockOf bwdBlk; rw [bwd_A]; rfl)

/-- At a head's second block the sums' buffers hold what the first left. -/
theorem bwd_before8 (c : Dev nD) (t : Fin cfg1.N) (h : ¬t.val % 2 = 0) (d) : (bwdDat V c).before 8 t d = bwdDk V c (bwdStart t) := by
  rw [Dat.before_out_traj _ 8 rfl (fun _ _ => rfl) (fun t _ hi _ => absurd ((bwd_live8 t).symm.trans hi) Bool.false_ne_true) t.val t rfl d,
    if_neg (by rw [bwd_kept8 t h]; exact Bool.false_ne_true), bwd_after8]
  exact congrArg _ (bwdStart_last t h)
theorem bwd_before9 (c : Dev nD) (t : Fin cfg1.N) (h : ¬t.val % 2 = 0) (d) : (bwdDat V c).before 9 t d = bwdDv V c (bwdStart t) := by
  rw [Dat.before_out_traj _ 9 rfl (fun _ _ => rfl) (fun t _ hi _ => absurd ((bwd_live9 t).symm.trans hi) Bool.false_ne_true) t.val t rfl d,
    if_neg (by rw [bwd_kept9 t h]; exact Bool.false_ne_true), bwd_after9]
  exact congrArg _ (bwdStart_last t h)

theorem bwd_leaves8 (c : Dev nD) (t : Fin cfg1.N) : (bwdDat V c).leavesExact 8 t = owns (c : Thread nD τ) (st1_8 t) fullShare ((bwdDat V c).after 8 t) := by
  unfold Dat.leavesExact; rw [bwd_live8 t]
theorem bwd_leaves9 (c : Dev nD) (t : Fin cfg1.N) : (bwdDat V c).leavesExact 9 t = owns (c : Thread nD τ) (st1_9 t) fullShare ((bwdDat V c).after 9 t) := by
  unfold Dat.leavesExact; rw [bwd_live9 t]

/-- What the body is given at point `t`, the windows one by one, -/
def bwdPre (c : Dev nD) (t : Fin cfg1.N) : sProp 𝕄 :=
  iprop((bwdDat V c).Φ t.castSucc ∗ (bwdDat V c).owesAt () t.castSucc
    ∗ (∃ d, owns (c : Thread nD τ) (st1_0 t) fullShare ((bwdDat V c).before 0 t d))
    ∗ (∃ d, owns (c : Thread nD τ) (st1_1 t) fullShare ((bwdDat V c).before 1 t d))
    ∗ (∃ d, owns (c : Thread nD τ) (st1_2 t) fullShare ((bwdDat V c).before 2 t d))
    ∗ (∃ d, owns (c : Thread nD τ) (st1_3 t) fullShare ((bwdDat V c).before 3 t d))
    ∗ (∃ d, owns (c : Thread nD τ) (st1_4 t) fullShare ((bwdDat V c).before 4 t d))
    ∗ (∃ d, owns (c : Thread nD τ) (st1_5 t) fullShare ((bwdDat V c).before 5 t d))
    ∗ (∃ d, owns (c : Thread nD τ) (st1_6 t) fullShare ((bwdDat V c).before 6 t d))
    ∗ (∃ d, owns (c : Thread nD τ) (st1_7 t) fullShare ((bwdDat V c).before 7 t d))
    ∗ (∃ d, owns (c : Thread nD τ) (st1_8 t) fullShare ((bwdDat V c).before 8 t d))
    ∗ (∃ d, owns (c : Thread nD τ) (st1_9 t) fullShare ((bwdDat V c).before 9 t d)))

/-- and what it gives back. -/
def bwdPost (c : Dev nD) (t : Fin cfg1.N) : sProp 𝕄 :=
  iprop((bwdDat V c).Φ t.succ ∗ (bwdDat V c).owesAt () t.succ
    ∗ owns (c : Thread nD τ) (st1_0 t) fullShare ((bwdDat V c).after 0 t)
    ∗ owns (c : Thread nD τ) (st1_1 t) fullShare ((bwdDat V c).after 1 t)
    ∗ owns (c : Thread nD τ) (st1_2 t) fullShare ((bwdDat V c).after 2 t)
    ∗ owns (c : Thread nD τ) (st1_3 t) fullShare ((bwdDat V c).after 3 t)
    ∗ owns (c : Thread nD τ) (st1_4 t) fullShare ((bwdDat V c).after 4 t)
    ∗ owns (c : Thread nD τ) (st1_5 t) fullShare ((bwdDat V c).after 5 t)
    ∗ owns (c : Thread nD τ) (st1_6 t) fullShare ((bwdDat V c).after 6 t)
    ∗ owns (c : Thread nD τ) (st1_7 t) fullShare ((bwdDat V c).after 7 t)
    ∗ (bwdDat V c).leavesExact 8 t
    ∗ (bwdDat V c).leavesExact 9 t)

/-- The body at any point. -/
theorem bwd_body (c : Dev nD) (t : Fin cfg1.N) :
    bwdPre V c t ⊢ wp frame (wpE (defs₀ (F := F)) Variants.none c none) Set.univ (bodyAt1 t) (fun _ => bwdPost V c t) := by
  unfold bwdPre bwdPost bodyAt1
  simp only [bwd_before0, bwd_before1, bwd_before2, bwd_before3, bwd_before4, bwd_before5, bwd_before6]
  rw [bwd_leaves8, bwd_leaves9, show (bwdDat V c).owesAt () t.succ = (bwdDat V c).owesAt () t.castSucc from rfl,
    show (bwdDat V c).Φ t.succ = bwdInv V c (t.val + 1) from rfl, show (bwdDat V c).Φ t.castSucc = bwdInv V c t.val from rfl,
    bwd_after0, bwd_after1, bwd_after2, bwd_after3, bwd_after4, bwd_after5, bwd_after6, bwd_after7, bwd_after8, bwd_after9]
  unfold bwdInv
  by_cases h : t.val % 2 = 0
  · have hk : headKeys (bwdBlk V c 1 t) (bwdBlk V c 2 t) = bwdKeys V c t := by unfold bwdKeys; rw [bwdStart_first t h]
    have e7 : bdq (bwdBlk V c 0 t) (bwdKeys V c t) (bwdBlk V c 3 t) (bwdBlk V c 4 t) (bwdBlk V c 5 t) (bwdBlk V c 6 t) = bwdDq V c t := rfl
    have e8 : k1_pay2 (bwdDs V c t) (bwdBlk V c 0 t) = bwdDk V c t := by unfold bwdDk; rw [if_pos h]
    have e9 : k1_pay1 (bwdP V c t) (k1_pay10 (bwdBlk V c 6 t)) = bwdDv V c t := by unfold bwdDv; rw [if_pos h]
    rw [← e7, ← e8, ← e9]
    unfold bwdDs bwdP
    rw [← hk]
    iintro ⟨⟨%d, %hd, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bwd_first c (grid1.coords t) _ _ _ _ _ _ _ _ _ _ _ _ _ _ _ _ _ _ _ _ _ _ ((bwdFirst_iff t).mpr h) ((bwd_cond2 t).mpr h)
      (fun h' => (bwd_cond3 t).mp h' h) ((bwd_cond4 t).mpr h) (fun h' => (bwd_cond5 t).mp h' h) (fun h' => (bwd_cond6 t).mp h' h)
      (bwdBlk V c 0 t) (bwdBlk V c 1 t) (bwdBlk V c 2 t) (bwdBlk V c 3 t) (bwdBlk V c 4 t) (bwdBlk V c 5 t) (bwdBlk V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexists _; iexact HS
    iintro ⟨H0, H1, H2, H3, H4, H5, H6, H7, H8, H9, HS⟩
    isplitl [HS HR]
    · iexists _; isplitr
      swap
      · isplitl [HS]; · iexact HS
        iexact HR
      ipureintro
      intro s hs hs'
      unfold bwdKeys
      rw [bwdStart_next s t hs hs', bwdStart_first t h]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hm := bwdStart_mod t
    have hks : bwdKeys V c (bwdStart t) = bwdKeys V c t := by unfold bwdKeys; rw [bwdStart_first (bwdStart t) hm]
    have e7 : bdq (bwdBlk V c 0 t) (bwdKeys V c t) (bwdBlk V c 3 t) (bwdBlk V c 4 t) (bwdBlk V c 5 t) (bwdBlk V c 6 t) = bwdDq V c t := rfl
    have e8 : k1_pay5 (k1_pay3 (bds (bwdBlk V c 0 t) (bwdKeys V c t) (bwdBlk V c 3 t) (bwdBlk V c 4 t) (bwdBlk V c 5 t) (bwdBlk V c 6 t)) (bwdBlk V c 0 t) (bwdDk V c (bwdStart t))) = bwdDk V c t := by
      rw [show bwdDk V c (bwdStart t) = _ from if_pos hm]; exact (if_neg h).symm
    have e9 : k1_pay4 (bp (bwdBlk V c 0 t) (bwdKeys V c t) (bwdBlk V c 5 t)) (k1_pay10 (bwdBlk V c 6 t)) (bwdDv V c (bwdStart t)) = bwdDv V c t := by
      rw [show bwdDv V c (bwdStart t) = _ from if_pos hm]; exact (if_neg h).symm
    rw [← e7, ← e8, ← e9]
    simp only [bwd_before8 V c t h, bwd_before9 V c t h]
    iintro ⟨⟨%d, %hd, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl := hd t rfl h
    iapply (bwd_last c (grid1.coords t) _ _ _ _ _ _ _ _ _ _ _ _ _ _ _ _ _ _ _ _ _ _ (fun h' => h ((bwdFirst_iff t).mp h')) (fun h' => h ((bwd_cond2 t).mp h'))
      ((bwd_cond3 t).mpr h) (fun h' => h ((bwd_cond4 t).mp h')) ((bwd_cond5 t).mpr h) ((bwd_cond6 t).mpr h)
      (bwdBlk V c 0 t) (bwdBlk V c 1 t) (bwdBlk V c 2 t) (bwdBlk V c 3 t) (bwdBlk V c 4 t) (bwdBlk V c 5 t) (bwdBlk V c 6 t) (bwdDk V c (bwdStart t)) (bwdDv V c (bwdStart t)) (bwdKeys V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS]; · iexact HS
    iintro ⟨H0, H1, H2, H3, H4, H5, H6, H7, H8, H9, HS⟩
    isplitl [HS HR]
    · iexists _; isplitr
      swap
      · isplitl [HS]; · iexact HS
        iexact HR
      ipureintro
      intro s hs hs'
      omega
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem bwd_row (t : Fin cfg1.N) :
    defs₀ (F := F) .tc cfg1.body (cfg1.bodyArgs t (cfg1.slots t)) = bodyAt1 t := by
  unfold defs₀; rw [Defs.onTc_tc]

/-- The body obligation at every point. -/
theorem bwd_obligation (c : Dev nD) : BodyObligation (bwdDat V c) (defs₀ (F := F)) Variants.none () Set.univ := fun t => by
  rw [bigSep_W1, bigSep_W1, bwd_row]
  exact triple_restated (bwd_body V c t) rfl .rfl fun _ => .rfl

/-- The invariant at the first point, out of the scoped buffers no window stages. -/
theorem bwd_in (c : Dev nD) : (Pipeline.scopedRest spec1 c : sProp 𝕄) ⊢ (bwdDat V c).Φ 0 := by
  rw [show (bwdDat V c).Φ 0 = bwdInv V c 0 from rfl]
  unfold bwdInv
  rw [scopedRest1_eq]
  iintro ⟨H0, H1, H2, H3, H4, H5, H6, H7, H8, H9, H10, H11, ⟨%f, HS⟩⟩
  iexists _
  isplitr
  swap
  · isplitl [HS]
    · rw [owns_whole]; iexact HS
    iintro HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  ipureintro
  intro s hs hs'
  omega

/-- The invariant at the end gives those buffers back. -/
theorem bwd_out (c : Dev nD) : (bwdDat V c).Φ (Fin.last cfg1.N) ⊢ (Pipeline.scopedRest spec1 c : sProp 𝕄) := by
  rw [show (bwdDat V c).Φ (Fin.last cfg1.N) = bwdInv V c cfg1.N from rfl]
  unfold bwdInv
  simp only [owns_whole]
  iintro ⟨%d, -, HS, HR⟩
  iapply HR
  iexists _
  iexact HS

end Cert.KernelIdeal.Attn

end
-- ==== Proof.Attn.Run.lean ====
/- The run of the whole program: every execution ends, the arguments are as launched, and each result is what the three
   host stretches and the two regions compute. -/
module

public import proofs.«01_k».proof.Proof.Attn.FwdDat
public import proofs.«01_k».proof.Proof.Attn.BwdDat
public import Idealize.ShloMosaic.Lib.Pipeline.RegionsLoop

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The unscoped buffers after the forward region: its two outputs' arrays as the region leaves them. -/
def afterFwd (c : Dev nD) : Valuation τ sig (Elt F) :=
  Function.update (Function.update (V1 m c) main_v16_0 ((fwdDat (V1 m) c).arrAt 4 cfg0.N)) main_v16_1 ((fwdDat (V1 m) c).arrAt 5 cfg0.N)

/-- The unscoped buffers at the backward region's entry. -/
def beforeBwd (c : Dev nD) : Valuation τ sig (Elt F) := StableHlo.after hostOps1 (afterFwd m c)

/-- What the two regions leave. -/
def outs : Outs (F := F) := fun J r c =>
  if J = 2 then afterFwd m c r
  else Function.update (Function.update (Function.update (beforeBwd m c) main_v18_0 ((bwdDat (beforeBwd m) c).arrAt 7 cfg1.N))
    main_v18_1 ((bwdDat (beforeBwd m) c).arrAt 8 cfg1.N)) main_v18_2 ((bwdDat (beforeBwd m) c).arrAt 9 cfg1.N) r

theorem afterFwd_0 (c : Dev nD) : afterFwd m c main_v16_0 = (fwdDat (V1 m) c).arrAt 4 cfg0.N := by
  unfold afterFwd
  rw [Function.update_of_ne (StableHlo.devRef_ne_of_ne (by decide)), Function.update_self]
theorem afterFwd_1 (c : Dev nD) : afterFwd m c main_v16_1 = (fwdDat (V1 m) c).arrAt 5 cfg0.N := by
  unfold afterFwd
  rw [Function.update_self]

theorem outs_v16_0 (c : Dev nD) : outs m 2 main_v16_0 c = (fwdDat (V1 m) c).arrAt 4 cfg0.N := by
  unfold outs
  rw [if_pos rfl, afterFwd_0]
theorem outs_v16_1 (c : Dev nD) : outs m 2 main_v16_1 c = (fwdDat (V1 m) c).arrAt 5 cfg0.N := by
  unfold outs
  rw [if_pos rfl, afterFwd_1]

theorem V2_eq (c : Dev nD) : V2 m (outs m) c = afterFwd m c := by
  unfold V2
  rw [outs_v16_0, outs_v16_1]
  rfl
theorem V3_eq (c : Dev nD) : V3 m (outs m) c = beforeBwd m c := by
  unfold V3 beforeBwd
  rw [V2_eq]

theorem outs_v18_0 (c : Dev nD) : outs m 4 main_v18_0 c = (bwdDat (beforeBwd m) c).arrAt 7 cfg1.N := by
  unfold outs
  rw [if_neg (by decide), Function.update_of_ne (StableHlo.devRef_ne_of_ne (by decide)), Function.update_of_ne (StableHlo.devRef_ne_of_ne (by decide)), Function.update_self]
theorem outs_v18_1 (c : Dev nD) : outs m 4 main_v18_1 c = (bwdDat (beforeBwd m) c).arrAt 8 cfg1.N := by
  unfold outs
  rw [if_neg (by decide), Function.update_of_ne (StableHlo.devRef_ne_of_ne (by decide)), Function.update_self]
theorem outs_v18_2 (c : Dev nD) : outs m 4 main_v18_2 c = (bwdDat (beforeBwd m) c).arrAt 9 cfg1.N := by
  unfold outs
  rw [if_neg (by decide), Function.update_self]

theorem V4_0 (c : Dev nD) : V4 m (outs m) c main_v18_0 = (bwdDat (beforeBwd m) c).arrAt 7 cfg1.N := by
  unfold V4
  rw [Function.update_of_ne (StableHlo.devRef_ne_of_ne (by decide)), Function.update_of_ne (StableHlo.devRef_ne_of_ne (by decide)), Function.update_self, outs_v18_0]
theorem V4_1 (c : Dev nD) : V4 m (outs m) c main_v18_1 = (bwdDat (beforeBwd m) c).arrAt 8 cfg1.N := by
  unfold V4
  rw [Function.update_of_ne (StableHlo.devRef_ne_of_ne (by decide)), Function.update_self, outs_v18_1]
theorem V4_2 (c : Dev nD) : V4 m (outs m) c main_v18_2 = (bwdDat (beforeBwd m) c).arrAt 9 cfg1.N := by
  unfold V4
  rw [Function.update_self, outs_v18_2]

/-- The two regions' proof data. -/
def pdats : (p : Fin 2) → (c : Dev nD) → Dat τ (Elt F) Unit ℕ (UR sig nD τ) ℕ (cfgs p) c
  | 0, c => fwdDat (V1 m) c
  | 1, c => bwdDat (beforeBwd m) c
  | ⟨_ + 2, h⟩, _ => absurd h (Nat.not_lt.2 (Nat.le_add_left _ _))

/-- No core owes another anything. -/
abbrev L : GSem nD τ sig → Finset Unit := fun _ => ∅
abbrev lv : GSem nD τ sig → Unit → ℕ := fun _ _ => 0

/-- What rides beside the buffers. -/
abbrev Owed (c : Dev nD) : sProp 𝕄 := iprop(∃ W, owes (c : Thread nD τ) (0 : CellTallies nD τ sig Unit) W)

/-- The arrays after the forward region, -/
theorem fwd_exit (c : Dev nD) (w : Fin cfg0.W) : (fwdDat (V1 m) c).arrAt w cfg0.N = V2 m (outs m) c (Pipeline.arrRef spec0 w) := by
  rw [V2_eq]
  match w with
  | 0 | 1 | 2 | 3 =>
    refine ((fwdDat (V1 m) c).arrAt_in _ rfl _).trans ((fwd_A _ _ _).trans ?_)
    unfold afterFwd
    rw [Function.update_of_ne (StableHlo.devRef_ne_of_ne (by decide)), Function.update_of_ne (StableHlo.devRef_ne_of_ne (by decide))]
  | 4 => exact (afterFwd_0 m c).symm
  | 5 => exact (afterFwd_1 m c).symm
  | ⟨_ + 6, h⟩ => exact absurd h (Nat.not_lt.2 (Nat.le_add_left _ _))

/-- and after the backward one. -/
theorem bwd_exit (c : Dev nD) (w : Fin cfg1.W) : (bwdDat (beforeBwd m) c).arrAt w cfg1.N = V4 m (outs m) c (Pipeline.arrRef spec1 w) := by
  match w with
  | 0 | 1 | 2 | 3 | 4 | 5 | 6 =>
    refine ((bwdDat (beforeBwd m) c).arrAt_in _ rfl _).trans ((bwd_A _ _ _).trans ?_)
    rw [← V3_eq]
    exact (V4_of m (outs m) c _ (by decide)).symm
  | 7 => exact (V4_0 m c).symm
  | 8 => exact (V4_1 m c).symm
  | 9 => exact (V4_2 m c).symm
  | ⟨_ + 10, h⟩ => exact absurd h (Nat.not_lt.2 (Nat.le_add_left _ _))

theorem fwd_rest : ∀ b : Ref sig .tc, b ∉ Finset.univ.image (Pipeline.arrRef spec0) → b ∉ ([main_v16_0, main_v16_1] : List (Ref sig .tc)) := by decide
theorem bwd_rest : ∀ b : Ref sig .tc, b ∉ Finset.univ.image (Pipeline.arrRef spec1) → b ∉ ([main_v18_0, main_v18_1, main_v18_2] : List (Ref sig .tc)) := by decide

set_option backward.isDefEq.respectTransparency.types false in
/-- The forward region, from the buffers after the first host stretch. -/
def regFwd : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (fwd_obligation (V1 m) c).loose
  hwaits := Pipeline.hwaits_of_owed_zero _ _ _ _ L lv 0 fun _ _ => rfl
  pre c := iprop(StableHlo.held (c : Thread nD τ) (Pipeline.ucRefs τ sig) (V1 m c) ∗ Owed c)
  post c := iprop(StableHlo.held (c : Thread nD τ) (Pipeline.ucRefs τ sig) (V2 m (outs m) c) ∗ Owed c)
  X _ := iprop(emp)
  Y _ := iprop(emp)
  Z c := Pipeline.unscopedRest spec0 c fun b => V1 m c b
  hentry c := by
    rw [← Pipeline.unscopedBufs_held c (V1 m c)]
    have hsplit := Pipeline.arrays_of_unscopedBufs_shared (pcfgs (F := F)) adm (pdats m) (p := 0) winFacts₀0 sharedIn0 arr_whole0 c
      (fun _ _ => rfl) (fun b => V1 m c b) (fwd_A (V1 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    refine BIBase.Entails.trans ?_ (fwd_in (V1 m) c)
    iintro ⟨-, -, Hr⟩
    iexact Hr
  hout c := by
    rw [Pipeline.ownSems0_none]
    refine (fwd_out (V1 m) c).trans ?_
    iintro H
    isplitr; · iempintro
    isplitr; · iempintro
    iexact H
  hexit c := by
    rw [← Pipeline.unscopedBufs_held c (V2 m (outs m) c)]
    have hjoin := Pipeline.unscopedBufs_of_arrays_shared (pcfgs (F := F)) adm (p := 0) winFacts₀0 sharedIn0 arr_whole0 c (pdats m)
      (fun _ _ => rfl) (fun b => V1 m c b) (fun b => V2 m (outs m) c b) (fun w => (fwdDat (V1 m) c).arrAt w cfg0.N) (fwd_exit m c)
      (fun b hb => V2_of m (outs m) c b (fwd_rest b hb))
    iintro ⟨Ha, HO, -, Hr⟩
    imodintro
    isplitr [HO]
    · iapply hjoin
      isplitl [Ha]; · iexact Ha
      iexact Hr
    unfold Pipeline.Dat.owesAt Pipeline.owesWithin
    icases HO with ⟨%W, -, HO⟩; iexists W; iexact HO

set_option backward.isDefEq.respectTransparency.types false in
/-- The backward region, from the buffers after the second host stretch. -/
def regBwd : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (bwd_obligation (beforeBwd m) c).loose
  hwaits := Pipeline.hwaits_of_owed_zero _ _ _ _ L lv 1 fun _ _ => rfl
  pre c := iprop(StableHlo.held (c : Thread nD τ) (Pipeline.ucRefs τ sig) (V3 m (outs m) c) ∗ Owed c)
  post c := iprop(StableHlo.held (c : Thread nD τ) (Pipeline.ucRefs τ sig) (V4 m (outs m) c) ∗ Owed c)
  X _ := iprop(emp)
  Y _ := iprop(emp)
  Z c := Pipeline.unscopedRest spec1 c fun b => V3 m (outs m) c b
  hentry c := by
    rw [← Pipeline.unscopedBufs_held c (V3 m (outs m) c)]
    have hsplit := Pipeline.arrays_of_unscopedBufs_shared (pcfgs (F := F)) adm (pdats m) (p := 1) winFacts₀1 sharedIn1 arr_whole1 c
      (fun _ _ => rfl) (fun b => V3 m (outs m) c b) (fun w => (bwd_A (beforeBwd m) c w).trans (congrFun (V3_eq m c).symm _))
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    refine BIBase.Entails.trans ?_ (bwd_in (beforeBwd m) c)
    iintro ⟨-, -, Hr⟩
    iexact Hr
  hout c := by
    rw [Pipeline.ownSems0_none]
    refine (bwd_out (beforeBwd m) c).trans ?_
    iintro H
    isplitr; · iempintro
    isplitr; · iempintro
    iexact H
  hexit c := by
    rw [← Pipeline.unscopedBufs_held c (V4 m (outs m) c)]
    have hjoin := Pipeline.unscopedBufs_of_arrays_shared (pcfgs (F := F)) adm (p := 1) winFacts₀1 sharedIn1 arr_whole1 c (pdats m)
      (fun _ _ => rfl) (fun b => V3 m (outs m) c b) (fun b => V4 m (outs m) c b) (fun w => (bwdDat (beforeBwd m) c).arrAt w cfg1.N) (bwd_exit m c)
      (fun b hb => V4_of m (outs m) c b (bwd_rest b hb))
    iintro ⟨Ha, HO, -, Hr⟩
    imodintro
    isplitr [HO]
    · iapply hjoin
      isplitl [Ha]; · iexact Ha
      iexact Hr
    unfold Pipeline.Dat.owesAt Pipeline.owesWithin
    icases HO with ⟨%W, -, HO⟩; iexists W; iexact HO

set_option backward.isDefEq.respectTransparency.types false in
/-- From any memory with zero counters every execution ends with each unscoped buffer at what the host stretches and the
    regions compute, and every counter at zero. -/
theorem run_main (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = V5 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ => Owed) () (pdats m) (regFwd m) (regBwd m))
    (fun c Q => by
      rewrite [main_chain c, Seg.run_eq_chain,
        show (segs m (outs m) Variants.none L lv (fun _ => Owed) () (pdats m) (regFwd m) (regBwd m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Owed c))
    (Tₙ := fun c => StableHlo.held (c : Thread nD τ) (Pipeline.ucRefs τ sig) (V5 m (outs m) c))
    (hch := fun c => ⟨.rfl, .rfl, .rfl, .rfl, .rfl, .rfl⟩)
    (hinit := ?_) (QY := fun c s => ∀ b : Ref sig .tc, b.isScoped = false → s.mem ((c.tc : Thread nD τ).loc b) = V5 m (outs m) c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, fun h' => Bool.false_ne_true (hb.symm.trans h')⟩)
    · iexact HSI

end Cert.KernelIdeal.Attn

end
-- ==== Proof.Attn.Frames.lean ====
/- The frames of the two attention calls: each argument array ends as it started and every counter ends at zero.
   One run over every arithmetic serves the program read at the machine's words and the same program read at the reals. -/
module

public import proofs.«01_k».proof.Proof.Attn.Run
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.ShloMosaic.TcCoe Idealize.SL.Sem

/-- The run of the packed attention calls, read at the argument arrays. -/
theorem frame_main {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun _ h => ⟨fun c =>
    ⟨(h.1 c Cert.KernelIdeal.main_arg0 rfl).trans (Cert.KernelIdeal.Gen.V5_main_arg0 m (Cert.KernelIdeal.Attn.outs m) c),
     (h.1 c Cert.KernelIdeal.main_arg1 rfl).trans (Cert.KernelIdeal.Gen.V5_main_arg1 m (Cert.KernelIdeal.Attn.outs m) c),
     (h.1 c Cert.KernelIdeal.main_arg2 rfl).trans (Cert.KernelIdeal.Gen.V5_main_arg2 m (Cert.KernelIdeal.Attn.outs m) c),
     (h.1 c Cert.KernelIdeal.main_arg3 rfl).trans (Cert.KernelIdeal.Gen.V5_main_arg3 m (Cert.KernelIdeal.Attn.outs m) c),
     (h.1 c Cert.KernelIdeal.main_arg4 rfl).trans (Cert.KernelIdeal.Gen.V5_main_arg4 m (Cert.KernelIdeal.Attn.outs m) c),
     (h.1 c Cert.KernelIdeal.main_arg5 rfl).trans (Cert.KernelIdeal.Gen.V5_main_arg5 m (Cert.KernelIdeal.Attn.outs m) c)⟩, h.2⟩)
    (Cert.KernelIdeal.Attn.run_main m ρ)

/-- The shape facts of the precondition's operations. -/
instance finite_facts : Cert.Pre_finite.Facts where
  bcast_S_S1x2048x8x128 := by decide
  reducesTo_S1x2048x8x128_S_d0_1_2_3 := by decide
  h_S_ := by decide
  bcast_S_S1x2048x8x64 := by decide
  reducesTo_S1x2048x8x64_S_d0_1_2_3 := by decide
  bcast_S_S1x2048x64 := by decide
  reducesTo_S1x2048x64_S_d0_1_2 := by decide
  bcast_S_S1x2048x1024 := by decide
  reducesTo_S1x2048x1024_S_d0_1_2 := by decide

set_option backward.isDefEq.respectTransparency false in
set_option smartUnfolding false in
set_option maxRecDepth 16384 in
set_option maxHeartbeats 2000000 in
theorem frame_kernel : Cert.quiescent_Kernel := fun m ρ _ =>
  (θ_run Cert.KernelIdeal.defs _ _).mono (fun _ h => h) (frame_main (F := Bits) m ρ)

theorem frame_ideal : Cert.quiescent_KernelIdeal := fun m ρ _ => frame_main (F := Ideal) m ρ

theorem frame_ideal_finite : Cert.quiescent_KernelIdeal_pre_finite := fun m ρ _ => frame_main (F := Ideal) m ρ

/-- The reference's run, which uses no counter at all. -/
theorem frame_reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2.2.2, sem_eq_zero_of_no_sems rfl r.2⟩)
    (Cert.ReferenceIdeal.Value.run (F := Ideal) m ρ)

theorem frame_reference : Cert.quiescent_ReferenceIdeal := fun m ρ _ => frame_reference_run m ρ

theorem frame_reference_finite : Cert.quiescent_ReferenceIdeal_pre_finite := fun m ρ _ => frame_reference_run m ρ

end Cert.Proof

end
-- ==== Proof.Attn.Real.lean ====
/- The mathematics of the two attention calls over the real numbers: one head's scores, weights and gradients, and the
   identities by which the kernel's way of computing them and the plain way agree. No program is mentioned here. -/
module

public import Idealize.ShloMosaic.Lib.Pointwise
public import Mathlib.Analysis.SpecialFunctions.Log.Basic

@[expose] public section

noncomputable section

namespace Cert.Attention

open Idealize.ShloMosaic

/-! ## Real numbers among the extended reals -/

theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.mpr h)]

/-- The greatest of finitely many reals, at least one, is a real. -/
theorem fold_max_real {n : ℕ} (hn : 0 < n) (f : Fin n → ℝ) :
    ∃ M : ℝ, (Finset.univ : Finset (Fin n)).fold max (⊥ : EReal) (fun k => (f k : EReal)) = (M : EReal) := by
  rcases e : (Finset.univ : Finset (Fin n)).fold max (⊥ : EReal) (fun k => (f k : EReal)) with _ | r
  · exfalso
    have h : ((f ⟨0, hn⟩ : ℝ) : EReal) ≤ (Finset.univ : Finset (Fin n)).fold max (⊥ : EReal) (fun k => (f k : EReal)) :=
      Finset.le_fold_max _ |>.mpr (.inr ⟨⟨0, hn⟩, Finset.mem_univ _, le_rfl⟩)
    rw [e] at h
    exact absurd (le_bot_iff.mp h) (EReal.coe_ne_bot _)
  · rcases r with _ | r
    · exfalso
      have h : (Finset.univ : Finset (Fin n)).fold max (⊥ : EReal) (fun k => (f k : EReal)) < ⊤ :=
        Finset.fold_max_lt _ |>.mpr ⟨bot_lt_top, fun k _ => EReal.coe_lt_top _⟩
      rw [e] at h
      exact absurd rfl h.ne
    · exact ⟨r, rfl⟩

/-- The softmax scale: the number its single-precision word stands for. -/
def scale : ℝ := (Ideal.ofBits .f32 0x3D93CD3A#32).toReal

theorem scale_word : Ideal.ofBits .f32 0x3D93CD3A#32 = ((scale : ℝ) : EReal) := by
  refine (EReal.coe_toReal ?_ ?_).symm <;> simp [Ideal.ofBits, Ideal.ieee, ← EReal.coe_mul]

theorem ninf_word : Ideal.ofBits .f32 0xFF800000#32 = (⊥ : EReal) := by
  simp [Ideal.ofBits, Ideal.ieee]

theorem one_word : Ideal.ofBits .f32 0x3F800000#32 = ((1 : ℝ) : EReal) := by
  simp [Ideal.ofBits, Ideal.ieee, ← EReal.coe_mul]; norm_num

theorem pinf_word : Ideal.ofBits .f32 0x7F800000#32 = (⊤ : EReal) := by
  simp [Ideal.ofBits, Ideal.ieee]

/-! ## One head -/

section Head

variable {ρ : Type} (q : ρ → Fin 256 → ℝ) (kk : Fin 2048 → Fin 256 → ℝ) (v : Fin 2048 → Fin 128 → ℝ) (g : ρ → Fin 128 → ℝ)

/-- A query's score against a key. -/
def score (s : ρ) (k : Fin 2048) : ℝ := ∑ d, q s d * kk k d

/-- The softmax denominator of a query. -/
def total (s : ρ) : ℝ := ∑ k, Real.exp (score q kk s k * scale)

/-- The attention weight. -/
def weight (s : ρ) (k : Fin 2048) : ℝ := Real.exp (score q kk s k * scale) / total q kk s

/-- The attention output. -/
def out (s : ρ) (d : Fin 128) : ℝ := ∑ k, weight q kk s k * v k d

/-- The gradient of a weight. -/
def dweight (s : ρ) (k : Fin 2048) : ℝ := ∑ d, g s d * v k d

/-- The gradient of a score before the scale. -/
def dscore (s : ρ) (k : Fin 2048) : ℝ := weight q kk s k * (dweight v g s k - ∑ d, g s d * out q kk v s d)

theorem total_pos (s : ρ) : 0 < total q kk s :=
  Finset.sum_pos (fun _ _ => Real.exp_pos _) ⟨0, Finset.mem_univ _⟩

/-- A shift of every score of a query by `M` divides the denominator by `exp (M · scale)`. -/
theorem shift_exp (s : ρ) (k : Fin 2048) (M : ℝ) :
    Real.exp ((score q kk s k - M) * scale) = Real.exp (score q kk s k * scale) * Real.exp (-(M * scale)) := by
  rw [← Real.exp_add]; congr 1; ring

theorem shift_total (s : ρ) (M : ℝ) :
    (∑ k, Real.exp ((score q kk s k - M) * scale)) = total q kk s * Real.exp (-(M * scale)) := by
  unfold total; rw [Finset.sum_mul]; exact Finset.sum_congr rfl fun k _ => shift_exp q kk s k M

theorem shift_total_pos (s : ρ) (M : ℝ) : 0 < ∑ k, Real.exp ((score q kk s k - M) * scale) := by
  rw [shift_total]; exact mul_pos (total_pos q kk s) (Real.exp_pos _)

/-- The forward kernel's output: the products first, the division after. -/
theorem out_shift (s : ρ) (d : Fin 128) (M : ℝ) :
    (∑ k, Real.exp ((score q kk s k - M) * scale) * v k d) * (1 / ∑ k, Real.exp ((score q kk s k - M) * scale)) = out q kk v s d := by
  have ht := (total_pos q kk s).ne'
  have he := (Real.exp_pos (-(M * scale))).ne'
  rw [shift_total, Finset.sum_mul]
  refine Finset.sum_congr rfl fun k _ => ?_
  rw [shift_exp, weight]
  field_simp

/-- The forward kernel's saved row: the logarithm of the denominator. -/
theorem lse_shift (s : ρ) (M : ℝ) :
    M * scale + Real.log (∑ k, Real.exp ((score q kk s k - M) * scale)) = Real.log (total q kk s) := by
  rw [shift_total, Real.log_mul (total_pos q kk s).ne' (Real.exp_pos _).ne', Real.log_exp]; ring

/-- The backward kernel's weight, from the saved row. -/
theorem weight_lse (s : ρ) (k : Fin 2048) :
    Real.exp (score q kk s k * scale - Real.log (total q kk s)) = weight q kk s k := by
  rw [Real.exp_sub, Real.exp_log (total_pos q kk s), weight]

/-- The sum of the weights' gradients against the weights is the output's gradient against the output. -/
theorem delta_eq (s : ρ) : (∑ k, dweight v g s k * weight q kk s k) = ∑ d, g s d * out q kk v s d := by
  simp only [dweight, out, Finset.sum_mul, Finset.mul_sum]
  rw [Finset.sum_comm]
  exact Finset.sum_congr rfl fun d _ => Finset.sum_congr rfl fun k _ => by ring

/-- The plain weight: each scaled score less `M`. -/
theorem weight_sub (s : ρ) (k : Fin 2048) (M : ℝ) :
    Real.exp (score q kk s k * scale - M) / (∑ k, Real.exp (score q kk s k * scale - M)) = weight q kk s k := by
  have h : (∑ k, Real.exp (score q kk s k * scale - M)) = total q kk s / Real.exp M := by
    unfold total; rw [Finset.sum_div]; exact Finset.sum_congr rfl fun k _ => Real.exp_sub _ _
  have he := (Real.exp_pos M).ne'
  have ht := (total_pos q kk s).ne'
  rw [h, Real.exp_sub, weight]
  field_simp

/-- The plain gradient of a score: the softmax differentiated through its numerator and its denominator. -/
theorem dscore_sub (s : ρ) (k : Fin 2048) (M : ℝ) :
    (dweight v g s k / (∑ k, Real.exp (score q kk s k * scale - M))
        + -(∑ k', dweight v g s k' * (1 / ((∑ k, Real.exp (score q kk s k * scale - M)) * (∑ k, Real.exp (score q kk s k * scale - M))))
            * Real.exp (score q kk s k' * scale - M))) * Real.exp (score q kk s k * scale - M)
      = dscore q kk v g s k := by
  have hw := fun k => weight_sub q kk s k M
  have hpos : 0 < ∑ k, Real.exp (score q kk s k * scale - M) :=
    Finset.sum_pos (fun _ _ => Real.exp_pos _) ⟨0, Finset.mem_univ _⟩
  generalize (∑ k, Real.exp (score q kk s k * scale - M)) = l at hw hpos ⊢
  have hl := hpos.ne'
  rw [dscore, ← delta_eq q kk v g s, ← hw k]
  have h2 : (∑ k', dweight v g s k' * (1 / (l * l)) * Real.exp (score q kk s k' * scale - M))
      = (∑ k', dweight v g s k' * weight q kk s k') / l := by
    rw [Finset.sum_div]
    refine Finset.sum_congr rfl fun k' _ => ?_
    rw [← hw k']; field_simp
  rw [h2]
  field_simp
  ring

end Head

/-! ## The packed rows: 128 columns, 64 rotary columns, 64 columns of zero -/

/-- A packed row. -/
def packed (a : Fin 128 → ℝ) (b : Fin 64 → ℝ) (d : Fin 256) : ℝ :=
  if h : d.val < 128 then a ⟨d.val, h⟩ else if h' : d.val < 192 then b ⟨d.val - 128, by omega⟩ else 0

theorem packed_lo (a : Fin 128 → ℝ) (b : Fin 64 → ℝ) (d : Fin 128) : packed a b ⟨d.val, by omega⟩ = a d := by
  simp [packed]

theorem packed_hi (a : Fin 128 → ℝ) (b : Fin 64 → ℝ) (d : Fin 64) : packed a b ⟨128 + d.val, by omega⟩ = b d := by
  have h1 : ¬ (128 + d.val < 128) := by omega
  have h2 : 128 + d.val < 192 := by omega
  simp only [packed, dif_neg h1, dif_pos h2]
  congr 1; apply Fin.ext; show 128 + d.val - 128 = d.val; omega

theorem packed_pad (a : Fin 128 → ℝ) (b : Fin 64 → ℝ) (d : Fin 64) : packed a b ⟨192 + d.val, by omega⟩ = 0 := by
  have h1 : ¬ (192 + d.val < 128) := by omega
  have h2 : ¬ (192 + d.val < 192) := by omega
  simp only [packed, dif_neg h1, dif_neg h2]

/-- The product of two packed rows is the sum of the two parts' products. -/
theorem packed_dot (a a' : Fin 128 → ℝ) (b b' : Fin 64 → ℝ) :
    (∑ d, packed a b d * packed a' b' d) = (∑ d, a d * a' d) + ∑ d, b d * b' d := by
  have h1 : (∑ d : Fin 256, packed a b d * packed a' b' d)
      = (∑ d : Fin 192, packed a b ⟨d.val, by omega⟩ * packed a' b' ⟨d.val, by omega⟩)
        + ∑ d : Fin 64, packed a b ⟨192 + d.val, by omega⟩ * packed a' b' ⟨192 + d.val, by omega⟩ :=
    Fin.sum_univ_add (a := 192) (b := 64) fun d : Fin (192 + 64) => packed a b d * packed a' b' d
  have h2 : (∑ d : Fin 192, packed a b ⟨d.val, by omega⟩ * packed a' b' ⟨d.val, by omega⟩)
      = (∑ d : Fin 128, packed a b ⟨d.val, by omega⟩ * packed a' b' ⟨d.val, by omega⟩)
        + ∑ d : Fin 64, packed a b ⟨128 + d.val, by omega⟩ * packed a' b' ⟨128 + d.val, by omega⟩ :=
    Fin.sum_univ_add (a := 128) (b := 64) fun d : Fin (128 + 64) => packed a b ⟨d.val, by omega⟩ * packed a' b' ⟨d.val, by omega⟩
  have h3 : (∑ d : Fin 64, packed a b ⟨192 + d.val, by omega⟩ * packed a' b' ⟨192 + d.val, by omega⟩) = 0 :=
    Finset.sum_eq_zero fun d _ => by rw [packed_pad, zero_mul]
  rw [h1, h2, h3, add_zero]
  simp only [packed_lo, packed_hi]

end Cert.Attention

end
-- ==== Proof.Attn.Heads.lean ====
/- The heads' queries, keys, values and output gradients as functions of the six arguments' real numbers. -/
module

public import proofs.«01_k».proof.Proof.Attn.Real

@[expose] public section

noncomputable section

namespace Cert.Attention

/-- A head's queries: the plain part, the rotary part, zeros. -/
def qOf (a0 : Fin 2048 → Fin 8 → Fin 128 → ℝ) (a1 : Fin 2048 → Fin 8 → Fin 64 → ℝ) (h : Fin 8) (s : Fin 2048) : Fin 256 → ℝ := packed (a0 s h) (a1 s h)

/-- A head's keys: the plain part, the rotary part all heads share, zeros. -/
def kOf (a2 : Fin 2048 → Fin 8 → Fin 128 → ℝ) (a3 : Fin 2048 → Fin 64 → ℝ) (h : Fin 8) (k : Fin 2048) : Fin 256 → ℝ := packed (a2 k h) (a3 k)

/-- A head's values. -/
def vOf (a4 : Fin 2048 → Fin 8 → Fin 128 → ℝ) (h : Fin 8) (k : Fin 2048) (d : Fin 128) : ℝ := a4 k h d

/-- A head's columns of the output's gradient. -/
def gOf (a5 : Fin 2048 → Fin 1024 → ℝ) (h : Fin 8) (s : Fin 2048) (d : Fin 128) : ℝ := a5 s ⟨h.val * 128 + d.val, by omega⟩

section

variable (a0 a2 : Fin 2048 → Fin 8 → Fin 128 → ℝ) (a1 : Fin 2048 → Fin 8 → Fin 64 → ℝ) (a3 : Fin 2048 → Fin 64 → ℝ)

theorem qOf_lo (h : Fin 8) (s : Fin 2048) (j : Fin 128) : qOf a0 a1 h s ⟨j.val, by omega⟩ = a0 s h j := packed_lo _ _ j
theorem qOf_hi (h : Fin 8) (s : Fin 2048) (j : Fin 64) : qOf a0 a1 h s ⟨128 + j.val, by omega⟩ = a1 s h j := packed_hi _ _ j
theorem kOf_lo (h : Fin 8) (k : Fin 2048) (j : Fin 128) : kOf a2 a3 h k ⟨j.val, by omega⟩ = a2 k h j := packed_lo _ _ j
theorem kOf_hi (h : Fin 8) (k : Fin 2048) (j : Fin 64) : kOf a2 a3 h k ⟨128 + j.val, by omega⟩ = a3 k j := packed_hi _ _ j

end

variable (q kk : Fin 8 → Fin 2048 → Fin 256 → ℝ) (v g : Fin 8 → Fin 2048 → Fin 128 → ℝ)

/-- The gradient of a head's queries, -/
def dqOf (h : Fin 8) (s : Fin 2048) (d : Fin 256) : ℝ := (∑ k, dscore (q h) (kk h) (v h) (g h) s k * kk h k d) * scale
/-- of its keys, -/
def dkOf (h : Fin 8) (k : Fin 2048) (d : Fin 256) : ℝ := (∑ s, dscore (q h) (kk h) (v h) (g h) s k * q h s d) * scale
/-- and of its values. -/
def dvOf (h : Fin 8) (k : Fin 2048) (d : Fin 128) : ℝ := ∑ s, weight (q h) (kk h) s k * g h s d

end Cert.Attention

end
-- ==== Proof.Attn.Pay.lean ====
/- What each stored value of the two attention calls is, at an index, when the blocks it is computed from hold real numbers:
   the real functions of `Real.lean`, at the block's own rows. -/
module

public import proofs.«01_k».proof.Proof.Attn.Real
public import proofs.«01_k».proof.Proof.Attn.BwdBody
public import Idealize.ShloMosaic.Lib.Pointwise

@[expose] public section

set_option maxRecDepth 16384

noncomputable section

namespace Cert.KernelIdeal.Attn

open Cert.KernelIdeal Cert.KernelIdeal.Gen Cert.Attention
open Idealize.ShloMosaic Idealize.ShloMosaic.TcCoe Idealize.SL.Sem

/-! ## The forward call -/

section Fwd

variable {x : FVec Ideal S256x256 .bf16} {ks : FVec Ideal S2048x256 .bf16} {w : FVec Ideal S2048x128 .bf16}
  {q : Fin 256 → Fin 256 → ℝ} {kk : Fin 2048 → Fin 256 → ℝ} {v : Fin 2048 → Fin 128 → ℝ}

theorem fwd_score (hq : ∀ r d, x (ix2 r d) = ((q r d : ℝ) : EReal)) (hk : ∀ k d, ks (ix2 k d) = ((kk k d : ℝ) : EReal))
    (r : Fin 256) (k : Fin 2048) : k0_pay3 (F := Ideal) x ks (ix2 r k) = ((score q kk r k : ℝ) : EReal) := by
  have h : k0_pay3 (F := Ideal) x ks (ix2 r k) = ∑ d : Fin 256, x (ix2 r d) * ks (ix2 k d) := by
    pointwise [k0_pay3]
  rw [h]
  simp only [hq, hk, ← EReal.coe_mul]
  exact sum_real _ _

theorem fwd_max (hq : ∀ r d, x (ix2 r d) = ((q r d : ℝ) : EReal)) (hk : ∀ k d, ks (ix2 k d) = ((kk k d : ℝ) : EReal))
    (r : Fin 256) : ∃ M : ℝ, k0_pay4 (F := Ideal) x ks (ix2 r 0) = (M : EReal) := by
  have h : k0_pay4 (F := Ideal) x ks (ix2 r 0)
      = (Finset.univ : Finset (Fin 2048)).fold max (Ideal.ofBits .f32 0xFF800000#32) fun k => k0_pay3 (F := Ideal) x ks (ix2 r k) := by
    pointwise [k0_pay4]
  rw [h, ninf_word]
  simp only [fwd_score hq hk]
  exact fold_max_real (by omega) _

theorem fwd_exp (hq : ∀ r d, x (ix2 r d) = ((q r d : ℝ) : EReal)) (hk : ∀ k d, ks (ix2 k d) = ((kk k d : ℝ) : EReal))
    {r : Fin 256} {M : ℝ} (hM : k0_pay4 (F := Ideal) x ks (ix2 r 0) = (M : EReal)) (k : Fin 2048) :
    k0_pay5 (F := Ideal) x ks (ix2 r k) = ((Real.exp ((score q kk r k - M) * scale) : ℝ) : EReal) := by
  have h : k0_pay5 (F := Ideal) x ks (ix2 r k)
      = Ideal.exp ((k0_pay3 (F := Ideal) x ks (ix2 r k) - k0_pay4 (F := Ideal) x ks (ix2 r 0)) * Ideal.ofBits .f32 0x3D93CD3A#32) := by
    pointwise [k0_pay5]
  rw [h, fwd_score hq hk, hM, scale_word, ← EReal.coe_sub, ← EReal.coe_mul, Ideal.exp_coe]

theorem fwd_sum (hq : ∀ r d, x (ix2 r d) = ((q r d : ℝ) : EReal)) (hk : ∀ k d, ks (ix2 k d) = ((kk k d : ℝ) : EReal))
    {r : Fin 256} {M : ℝ} (hM : k0_pay4 (F := Ideal) x ks (ix2 r 0) = (M : EReal)) :
    k0_pay6 (F := Ideal) x ks (ix2 r 0) = ((∑ k, Real.exp ((score q kk r k - M) * scale) : ℝ) : EReal) := by
  have h : k0_pay6 (F := Ideal) x ks (ix2 r 0) = ∑ k : Fin 2048, k0_pay5 (F := Ideal) x ks (ix2 r k) := by
    pointwise [k0_pay6]
  rw [h]
  simp only [fwd_exp hq hk hM]
  exact sum_real _ _

/-- The stored output block. -/
theorem fwd_out_at (hq : ∀ r d, x (ix2 r d) = ((q r d : ℝ) : EReal)) (hk : ∀ k d, ks (ix2 k d) = ((kk k d : ℝ) : EReal))
    (hv : ∀ k d, w (ix2 k d) = ((v k d : ℝ) : EReal)) (r : Fin 256) (d : Fin 128) :
    k0_pay7 (F := Ideal) x ks w (ix2 r d) = ((out q kk v r d : ℝ) : EReal) := by
  obtain ⟨M, hM⟩ := fwd_max hq hk r
  have h : k0_pay7 (F := Ideal) x ks w (ix2 r d)
      = (∑ k : Fin 2048, k0_pay5 (F := Ideal) x ks (ix2 r k) * w (ix2 k d)) * Ideal.div (Ideal.ofBits .f32 0x3F800000#32) (k0_pay6 (F := Ideal) x ks (ix2 r 0)) := by
    pointwise [k0_pay7]
  rw [h, fwd_sum hq hk hM, one_word, div_real _ (shift_total_pos q kk r M).ne']
  simp only [fwd_exp hq hk hM, hv, ← EReal.coe_mul]
  rw [sum_real, ← EReal.coe_mul, out_shift]

/-- The stored row of logarithms, the same in each of its lanes. -/
theorem fwd_lse_at (hq : ∀ r d, x (ix2 r d) = ((q r d : ℝ) : EReal)) (hk : ∀ k d, ks (ix2 k d) = ((kk k d : ℝ) : EReal))
    (r : Fin 256) (d : Fin 128) : k0_pay8 (F := Ideal) x ks (ix2 r d) = ((Real.log (total q kk r) : ℝ) : EReal) := by
  obtain ⟨M, hM⟩ := fwd_max hq hk r
  have h : k0_pay8 (F := Ideal) x ks (ix2 r d)
      = k0_pay4 (F := Ideal) x ks (ix2 r 0) * Ideal.ofBits .f32 0x3D93CD3A#32 + Ideal.log (k0_pay6 (F := Ideal) x ks (ix2 r 0)) := by
    pointwise [k0_pay8]
  rw [h, fwd_sum hq hk hM, hM, scale_word, log_real (shift_total_pos q kk r M), ← EReal.coe_mul, ← EReal.coe_add, lse_shift]

end Fwd

/-! ## The backward call -/

section Bwd

variable {x : FVec Ideal S1024x256 .bf16} {ks : FVec Ideal S2048x256 .bf16} {w : FVec Ideal S2048x128 .bf16}
  {o lse dO : FVec Ideal S1024x128 .f32}
  {q : Fin 1024 → Fin 256 → ℝ} {kk : Fin 2048 → Fin 256 → ℝ} {v : Fin 2048 → Fin 128 → ℝ} {g : Fin 1024 → Fin 128 → ℝ}

theorem bwd_weight (hq : ∀ r d, x (ix2 r d) = ((q r d : ℝ) : EReal)) (hk : ∀ k d, ks (ix2 k d) = ((kk k d : ℝ) : EReal))
    (hl : ∀ r, lse (ix2 r 0) = ((Real.log (total q kk r) : ℝ) : EReal)) (r : Fin 1024) (k : Fin 2048) :
    bp (F := Ideal) x ks lse (ix2 r k) = ((weight q kk r k : ℝ) : EReal) := by
  have h : bp (F := Ideal) x ks lse (ix2 r k)
      = Ideal.exp ((∑ d : Fin 256, x (ix2 r d) * ks (ix2 k d)) * Ideal.ofBits .f32 0x3D93CD3A#32 - lse (ix2 r 0)) := by
    pointwise [bp, col0, k1_pay8]
  rw [h, hl]
  simp only [hq, hk, ← EReal.coe_mul]
  rw [sum_real, scale_word, ← EReal.coe_mul, ← EReal.coe_sub, Ideal.exp_coe, ← weight_lse]
  rfl

theorem bwd_score (hq : ∀ r d, x (ix2 r d) = ((q r d : ℝ) : EReal)) (hk : ∀ k d, ks (ix2 k d) = ((kk k d : ℝ) : EReal))
    (hv : ∀ k d, w (ix2 k d) = ((v k d : ℝ) : EReal)) (ho : ∀ r d, o (ix2 r d) = ((out q kk v r d : ℝ) : EReal))
    (hl : ∀ r, lse (ix2 r 0) = ((Real.log (total q kk r) : ℝ) : EReal)) (hg : ∀ r d, dO (ix2 r d) = ((g r d : ℝ) : EReal))
    (r : Fin 1024) (k : Fin 2048) : bds (F := Ideal) x ks w o lse dO (ix2 r k) = ((dscore q kk v g r k : ℝ) : EReal) := by
  have h : bds (F := Ideal) x ks w o lse dO (ix2 r k)
      = bp (F := Ideal) x ks lse (ix2 r k) * ((∑ d : Fin 128, dO (ix2 r d) * w (ix2 k d)) - ∑ d : Fin 128, dO (ix2 r d) * o (ix2 r d)) := by
    pointwise [bds, bp, k1_pay9, k1_pay10, k1_pay11]
  rw [h, bwd_weight hq hk hl]
  simp only [hg, hv, ho, ← EReal.coe_mul]
  rw [sum_real, sum_real, ← EReal.coe_sub, ← EReal.coe_mul]
  rfl

/-- The stored block of the queries' gradient. -/
theorem bwd_dq_at (hq : ∀ r d, x (ix2 r d) = ((q r d : ℝ) : EReal)) (hk : ∀ k d, ks (ix2 k d) = ((kk k d : ℝ) : EReal))
    (hv : ∀ k d, w (ix2 k d) = ((v k d : ℝ) : EReal)) (ho : ∀ r d, o (ix2 r d) = ((out q kk v r d : ℝ) : EReal))
    (hl : ∀ r, lse (ix2 r 0) = ((Real.log (total q kk r) : ℝ) : EReal)) (hg : ∀ r d, dO (ix2 r d) = ((g r d : ℝ) : EReal))
    (r : Fin 1024) (d : Fin 256) :
    bdq (F := Ideal) x ks w o lse dO (ix2 r d) = (((∑ k, dscore q kk v g r k * kk k d) * scale : ℝ) : EReal) := by
  have h : bdq (F := Ideal) x ks w o lse dO (ix2 r d)
      = (∑ k : Fin 2048, bds (F := Ideal) x ks w o lse dO (ix2 r k) * ks (ix2 k d)) * Ideal.ofBits .f32 0x3D93CD3A#32 := by
    pointwise [bdq, bds, k1_pay12]
  rw [h]
  simp only [bwd_score hq hk hv ho hl hg, hk, ← EReal.coe_mul]
  rw [sum_real, scale_word, ← EReal.coe_mul]

/-- One block's contribution to the keys' gradient, before the scale. -/
theorem bwd_dk_at {p : FVec Ideal S1024x2048 .bf16} {ds : Fin 1024 → Fin 2048 → ℝ} (hp : ∀ r k, p (ix2 r k) = ((ds r k : ℝ) : EReal))
    (hq : ∀ r d, x (ix2 r d) = ((q r d : ℝ) : EReal)) (k : Fin 2048) (d : Fin 256) :
    k1_pay2 (F := Ideal) p x (ix2 k d) = ((∑ r, ds r k * q r d : ℝ) : EReal) := by
  have h : k1_pay2 (F := Ideal) p x (ix2 k d) = ∑ r : Fin 1024, p (ix2 r k) * x (ix2 r d) := by
    pointwise [k1_pay2]
  rw [h]
  simp only [hp, hq, ← EReal.coe_mul]
  exact sum_real _ _

/-- One block's contribution to the values' gradient. -/
theorem bwd_dv_at {p : FVec Ideal S1024x2048 .f32} {ps : Fin 1024 → Fin 2048 → ℝ} (hp : ∀ r k, p (ix2 r k) = ((ps r k : ℝ) : EReal))
    (hg : ∀ r d, dO (ix2 r d) = ((g r d : ℝ) : EReal)) (k : Fin 2048) (d : Fin 128) :
    k1_pay1 (F := Ideal) p (k1_pay10 dO) (ix2 k d) = ((∑ r, ps r k * g r d : ℝ) : EReal) := by
  have h : k1_pay1 (F := Ideal) p (k1_pay10 dO) (ix2 k d) = ∑ r : Fin 1024, p (ix2 r k) * dO (ix2 r d) := by
    pointwise [k1_pay1, k1_pay9, k1_pay10]
  rw [h]
  simp only [hp, hg, ← EReal.coe_mul]
  exact sum_real _ _

/-- The two query blocks' contributions added, and the scale. -/
theorem bwd_dk_last {p : FVec Ideal S1024x2048 .bf16} {a : FVec Ideal S2048x256 .f32} (k : Fin 2048) (d : Fin 256) :
    k1_pay5 (F := Ideal) (k1_pay3 p x a) (ix2 k d)
      = (a (ix2 k d) + k1_pay2 (F := Ideal) p x (ix2 k d)) * Ideal.ofBits .f32 0x3D93CD3A#32 := by
  pointwise [k1_pay5, k1_pay3]

/-- The two query blocks' contributions added. -/
theorem bwd_dv_last {p : FVec Ideal S1024x2048 .f32} {b : FVec Ideal S1024x128 .bf16} {a : FVec Ideal S2048x128 .f32} (k : Fin 2048) (d : Fin 128) :
    k1_pay4 (F := Ideal) p b a (ix2 k d) = a (ix2 k d) + k1_pay1 (F := Ideal) p b (ix2 k d) := by
  pointwise [k1_pay4]

end Bwd

end Cert.KernelIdeal.Attn

end
-- ==== Proof.Attn.FwdVal.lean ====
/- What the forward region leaves in its two arrays, when the arrays it reads hold real numbers: the attention output and
   the logarithm of each query's softmax denominator, head by head. -/
module

public import proofs.«01_k».proof.Proof.Attn.Pay
public import proofs.«01_k».proof.Proof.Attn.FwdDat
public import Idealize.ShloMosaic.Lib.Pipeline.ValueKit

@[expose] public section

set_option maxRecDepth 16384

noncomputable section

namespace Cert.KernelIdeal.Attn

open Cert.KernelIdeal Cert.KernelIdeal.Gen Cert.Attention
open Idealize.ShloMosaic Idealize.ShloMosaic.TcCoe Idealize.SL.Sem
open Idealize.ShloMosaic.Pipeline (Dat)

/-- The head of a column of 128 to a head, -/
def headOf (n : Fin 1024) : Fin 8 := ⟨n.val / 128, by omega⟩
/-- and its place there. -/
def colOf (n : Fin 1024) : Fin 128 := ⟨n.val % 128, by omega⟩

/-- An array of 128 columns to a head. -/
def byHead (f : Fin 8 → Fin 2048 → Fin 128 → ℝ) : FVec Ideal S2048x1024 .f32 := fun j => ((f (headOf (j 1)) (j 0) (colOf (j 1)) : ℝ) : EReal)

/-- The windows' block numbers: a head is eight points, one for each block of its queries. -/
theorem fwd_idx : ∀ t : Fin cfg0.N, win0_0.index t = ![t.val % 8, t.val / 8] ∧ win0_1.index t = ![0, t.val / 8] ∧ win0_2.index t = ![0, 0]
    ∧ win0_3.index t = ![0, 8 + t.val / 8] ∧ win0_4.index t = ![t.val % 8, t.val / 8] ∧ win0_5.index t = ![t.val % 8, t.val / 8] :=
  (by decide +kernel : ∀ t : Fin grid0.N, win0_0.index t = ![t.val % 8, t.val / 8] ∧ win0_1.index t = ![0, t.val / 8] ∧ win0_2.index t = ![0, 0]
    ∧ win0_3.index t = ![0, 8 + t.val / 8] ∧ win0_4.index t = ![t.val % 8, t.val / 8] ∧ win0_5.index t = ![t.val % 8, t.val / 8])

theorem fwd_lt (t : Fin cfg0.N) : t.val < 64 := lt_of_lt_of_eq t.isLt N_0

/-- A point's head, -/
def fwdHead (t : Fin cfg0.N) : Fin 8 := ⟨t.val / 8, by have := fwd_lt t; omega⟩
/-- and the query of row `r` of its block. -/
def fwdRow (t : Fin cfg0.N) (r : Fin 256) : Fin 2048 := ⟨t.val % 8 * 256 + r.val, by omega⟩

theorem fwdStart_head (t : Fin cfg0.N) : fwdHead (fwdStart t) = fwdHead t := by
  have := fwd_lt t
  apply Fin.ext
  show (t.val - t.val % 8) / 8 = t.val / 8
  omega

section

variable {V : Dev nD → Valuation τ sig (Elt Ideal)} {c : Dev nD}
  {q kk : Fin 8 → Fin 2048 → Fin 256 → ℝ} {v : Fin 8 → Fin 2048 → Fin 128 → ℝ}

/-- The arrays of the packed queries, keys and values hold the heads' real numbers. -/
structure Holds (V : Dev nD → Valuation τ sig (Elt Ideal)) (c : Dev nD) (q kk : Fin 8 → Fin 2048 → Fin 256 → ℝ) (v : Fin 8 → Fin 2048 → Fin 128 → ℝ) : Prop where
  queries : ∀ (s : Fin 2048) (h : Fin 8) (d : Fin 256), (V c main_v5 : FVec Ideal S2048x2048 .bf16) (ix2 s ⟨h.val * 256 + d.val, by omega⟩) = ((q h s d : ℝ) : EReal)
  keys : ∀ (s : Fin 2048) (h : Fin 8) (d : Fin 128), (V c main_v11 : FVec Ideal S2048x2048 .bf16) (ix2 s ⟨h.val * 128 + d.val, by omega⟩) = ((kk h s ⟨d.val, by omega⟩ : ℝ) : EReal)
  rotary : ∀ (s : Fin 2048) (h : Fin 8) (d : Fin 128), (V c main_v15 : FVec Ideal S2048x128 .bf16) (ix2 s d) = ((kk h s ⟨128 + d.val, by omega⟩ : ℝ) : EReal)
  values : ∀ (s : Fin 2048) (h : Fin 8) (d : Fin 128), (V c main_v11 : FVec Ideal S2048x2048 .bf16) (ix2 s ⟨1024 + h.val * 128 + d.val, by omega⟩) = ((v h s d : ℝ) : EReal)

/-- A pair of key blocks that hold a head's columns give that head's keys. -/
theorem headKeys_at {kn kr : FVec Ideal S2048x128 .bf16} {k : Fin 2048 → Fin 256 → ℝ}
    (hn : ∀ s d, kn (ix2 s d) = ((k s ⟨d.val, by omega⟩ : ℝ) : EReal)) (hr : ∀ s d, kr (ix2 s d) = ((k s ⟨128 + d.val, by omega⟩ : ℝ) : EReal))
    (s : Fin 2048) (d : Fin 256) : headKeys (F := Ideal) kn kr (ix2 s d) = ((k s d : ℝ) : EReal) := by
  by_cases h : d.val < 128
  · refine (show headKeys (F := Ideal) kn kr (ix2 s d) = kn (ix2 s ⟨d.val, h⟩) from ?_).trans (hn s ⟨d.val, h⟩)
    unfold headKeys
    exact dif_pos h
  · refine (show headKeys (F := Ideal) kn kr (ix2 s d) = kr (ix2 s ⟨d.val - 128, by omega⟩) from ?_).trans
      ((hr s ⟨d.val - 128, by omega⟩).trans (congrArg (fun e => ((k s e : ℝ) : EReal)) (Fin.ext (by show 128 + (d.val - 128) = d.val; omega))))
    unfold headKeys
    exact dif_neg h

variable (H : Holds V c q kk v) (t : Fin cfg0.N)
include H

theorem fwd_blk0 (r : Fin 256) (d : Fin 256) :
    (fwdBlk V c 0 t : FVec Ideal S256x256 .bf16) (ix2 r d) = ((q (fwdHead t) (fwdRow t r) d : ℝ) : EReal) := by
  refine Eq.trans ?_ (H.queries (fwdRow t r) (fwdHead t) d)
  blk_ext [fwdBlk, fwd_idx t, fwdRow, fwdHead]

theorem fwd_blk1 (s : Fin 2048) (d : Fin 128) :
    (fwdBlk V c 1 t : FVec Ideal S2048x128 .bf16) (ix2 s d) = ((kk (fwdHead t) s ⟨d.val, by omega⟩ : ℝ) : EReal) := by
  refine Eq.trans ?_ (H.keys s (fwdHead t) d)
  blk_ext [fwdBlk, fwd_idx t, fwdHead]

theorem fwd_blk2 (h : Fin 8) (s : Fin 2048) (d : Fin 128) :
    (fwdBlk V c 2 t : FVec Ideal S2048x128 .bf16) (ix2 s d) = ((kk h s ⟨128 + d.val, by omega⟩ : ℝ) : EReal) := by
  refine Eq.trans ?_ (H.rotary s h d)
  blk_ext [fwdBlk, fwd_idx t]

theorem fwd_blk3 (s : Fin 2048) (d : Fin 128) :
    (fwdBlk V c 3 t : FVec Ideal S2048x128 .bf16) (ix2 s d) = ((v (fwdHead t) s d : ℝ) : EReal) := by
  refine Eq.trans ?_ (H.values s (fwdHead t) d)
  blk_ext [fwdBlk, fwd_idx t, fwdHead]

theorem fwd_keys (s : Fin 2048) (d : Fin 256) : fwdKeys V c t (ix2 s d) = ((kk (fwdHead t) s d : ℝ) : EReal) := by
  unfold fwdKeys
  refine headKeys_at (fun s d => ?_) (fun s d => fwd_blk2 H (fwdStart t) (fwdHead t) s d) s d
  rw [← fwdStart_head t]; exact fwd_blk1 H (fwdStart t) s d

/-- The output array after the region. -/
theorem fwd_out_array : (fwdDat V c).arrAt 4 cfg0.N = byHead fun h s d => out (q h) (kk h) (v h) s d := by
  refine (fwdDat V c).arrAt_eq_of_covers 4 _ (by decide +kernel) fun t _ y => ?_
  blk_simp
  rw [fwd_after4]
  obtain ⟨r, d, rfl⟩ : ∃ (r : Fin 256) (d : Fin 128), y = ix2 r d := ⟨y 0, y 1, eq_ix2 y⟩
  refine (fwd_out_at (fwd_blk0 H t) (fwd_keys H t) (fwd_blk3 H t) r d).trans ?_
  have e0 : (((cfg0.win 4).blk t).view.emb (ix2 r d)) 0 = fwdRow t r := Fin.ext (by blk_simp [fwd_idx t]; rfl)
  have e1 : headOf ((((cfg0.win 4).blk t).view.emb (ix2 r d)) 1) = fwdHead t := Fin.ext (by unfold headOf fwdHead; blk_simp [fwd_idx t]; show (t.val / 8 * 128 + d.val) / 128 = t.val / 8; omega)
  have e2 : colOf ((((cfg0.win 4).blk t).view.emb (ix2 r d)) 1) = d := Fin.ext (by unfold colOf; blk_simp [fwd_idx t]; show (t.val / 8 * 128 + d.val) % 128 = d.val; omega)
  unfold byHead
  rw [e0, e1, e2]
  rfl

/-- The array of logarithms after the region. -/
theorem fwd_lse_array : (fwdDat V c).arrAt 5 cfg0.N = byHead fun h s _ => Real.log (total (q h) (kk h) s) := by
  refine (fwdDat V c).arrAt_eq_of_covers 5 _ (by decide +kernel) fun t _ y => ?_
  blk_simp
  rw [fwd_after5]
  obtain ⟨r, d, rfl⟩ : ∃ (r : Fin 256) (d : Fin 128), y = ix2 r d := ⟨y 0, y 1, eq_ix2 y⟩
  refine (fwd_lse_at (fwd_blk0 H t) (fwd_keys H t) r d).trans ?_
  have e0 : (((cfg0.win 5).blk t).view.emb (ix2 r d)) 0 = fwdRow t r := Fin.ext (by blk_simp [fwd_idx t]; rfl)
  have e1 : headOf ((((cfg0.win 5).blk t).view.emb (ix2 r d)) 1) = fwdHead t := Fin.ext (by
    unfold headOf fwdHead; blk_simp [fwd_idx t]; show (t.val / 8 * 128 + d.val) / 128 = t.val / 8; omega)
  unfold byHead
  rw [e0, e1]
  rfl

end

end Cert.KernelIdeal.Attn

end
-- ==== Proof.Attn.BwdVal.lean ====
/- What the backward region leaves in its three arrays, when the arrays it reads hold real numbers and the forward region's
   results: the gradients of the packed queries, of the packed keys and of the values, head by head. A head's keys' and values'
   gradients are summed over its two blocks of queries. -/
module

public import proofs.«01_k».proof.Proof.Attn.FwdVal
public import proofs.«01_k».proof.Proof.Attn.BwdDat

@[expose] public section

set_option maxRecDepth 16384

noncomputable section

namespace Cert.KernelIdeal.Attn

open Cert.KernelIdeal Cert.KernelIdeal.Gen Cert.Attention
open Idealize.ShloMosaic Idealize.ShloMosaic.TcCoe Idealize.SL.Sem
open Idealize.ShloMosaic.Pipeline (Dat)

/-- The head of a column of 256 to a head, -/
def headOf' (n : Fin 2048) : Fin 8 := ⟨n.val / 256, by omega⟩
/-- and its place there. -/
def colOf' (n : Fin 2048) : Fin 256 := ⟨n.val % 256, by omega⟩

/-- An array of 256 columns to a head. -/
def byHead' (f : Fin 8 → Fin 2048 → Fin 256 → ℝ) : FVec Ideal S2048x2048 .f32 := fun j => ((f (headOf' (j 1)) (j 0) (colOf' (j 1)) : ℝ) : EReal)

/-- The windows' block numbers: a head is two points, one for each block of its queries. -/
theorem bwd_idx : ∀ t : Fin cfg1.N, win1_0.index t = ![t.val % 2, t.val / 2] ∧ win1_1.index t = ![0, t.val / 2] ∧ win1_2.index t = ![0, 0]
    ∧ win1_3.index t = ![0, 8 + t.val / 2] ∧ win1_4.index t = ![t.val % 2, t.val / 2] ∧ win1_5.index t = ![t.val % 2, t.val / 2]
    ∧ win1_6.index t = ![t.val % 2, t.val / 2] ∧ win1_7.index t = ![t.val % 2, t.val / 2] ∧ win1_8.index t = ![0, t.val / 2]
    ∧ win1_9.index t = ![0, t.val / 2] :=
  (by decide +kernel : ∀ t : Fin grid1.N, win1_0.index t = ![t.val % 2, t.val / 2] ∧ win1_1.index t = ![0, t.val / 2] ∧ win1_2.index t = ![0, 0]
    ∧ win1_3.index t = ![0, 8 + t.val / 2] ∧ win1_4.index t = ![t.val % 2, t.val / 2] ∧ win1_5.index t = ![t.val % 2, t.val / 2]
    ∧ win1_6.index t = ![t.val % 2, t.val / 2] ∧ win1_7.index t = ![t.val % 2, t.val / 2] ∧ win1_8.index t = ![0, t.val / 2]
    ∧ win1_9.index t = ![0, t.val / 2])

theorem bwd_lt (t : Fin cfg1.N) : t.val < 16 := lt_of_lt_of_eq t.isLt N_1

/-- A point's head, -/
def bwdHead (t : Fin cfg1.N) : Fin 8 := ⟨t.val / 2, by have := bwd_lt t; omega⟩
/-- and the query of row `r` of its block. -/
def bwdRow (t : Fin cfg1.N) (r : Fin 1024) : Fin 2048 := ⟨t.val % 2 * 1024 + r.val, by omega⟩

theorem bwdStart_head (t : Fin cfg1.N) : bwdHead (bwdStart t) = bwdHead t := by
  have := bwd_lt t
  apply Fin.ext
  show (t.val - t.val % 2) / 2 = t.val / 2
  omega

/-- The sums over a head's two blocks make the sum over its queries. -/
theorem two_blocks {t : Fin cfg1.N} (ht : t.val % 2 = 1) (f : Fin 2048 → ℝ) :
    (∑ r, f (bwdRow (bwdStart t) r)) + ∑ r, f (bwdRow t r) = ∑ s, f s := by
  refine Eq.trans ?_ (Fin.sum_univ_add (a := 1024) (b := 1024) f).symm
  congr 1
  · refine Finset.sum_congr rfl fun r _ => congrArg f (Fin.ext ?_)
    show (t.val - t.val % 2) % 2 * 1024 + r.val = r.val
    omega
  · refine Finset.sum_congr rfl fun r _ => congrArg f (Fin.ext ?_)
    show t.val % 2 * 1024 + r.val = 1024 + r.val
    omega

section

variable {V : Dev nD → Valuation τ sig (Elt Ideal)} {c : Dev nD}
  {q kk : Fin 8 → Fin 2048 → Fin 256 → ℝ} {v g : Fin 8 → Fin 2048 → Fin 128 → ℝ}

/-- The region's arrays hold the heads' real numbers, the forward region's results and the output's gradient. -/
structure HoldsAll (V : Dev nD → Valuation τ sig (Elt Ideal)) (c : Dev nD) (q kk : Fin 8 → Fin 2048 → Fin 256 → ℝ) (v g : Fin 8 → Fin 2048 → Fin 128 → ℝ) : Prop
    extends Holds V c q kk v where
  outputs : (V c main_v16_0 : FVec Ideal S2048x1024 .f32) = byHead fun h s d => out (q h) (kk h) (v h) s d
  logs : (V c main_v16_1 : FVec Ideal S2048x1024 .f32) = byHead fun h s _ => Real.log (total (q h) (kk h) s)
  grads : (V c main_v17 : FVec Ideal S2048x1024 .f32) = byHead g

theorem byHead_at (f : Fin 8 → Fin 2048 → Fin 128 → ℝ) (s : Fin 2048) (h : Fin 8) (d : Fin 128) :
    byHead f (ix2 s ⟨h.val * 128 + d.val, by omega⟩) = ((f h s d : ℝ) : EReal) := by
  have e1 : headOf ⟨h.val * 128 + d.val, by omega⟩ = h := Fin.ext (by show (h.val * 128 + d.val) / 128 = h.val; omega)
  have e2 : colOf ⟨h.val * 128 + d.val, by omega⟩ = d := Fin.ext (by show (h.val * 128 + d.val) % 128 = d.val; omega)
  show ((f (headOf ⟨h.val * 128 + d.val, by omega⟩) s (colOf ⟨h.val * 128 + d.val, by omega⟩) : ℝ) : EReal) = _
  rw [e1, e2]

theorem byHead'_at (f : Fin 8 → Fin 2048 → Fin 256 → ℝ) (s : Fin 2048) (h : Fin 8) (d : Fin 256) :
    byHead' f (ix2 s ⟨h.val * 256 + d.val, by omega⟩) = ((f h s d : ℝ) : EReal) := by
  have e1 : headOf' ⟨h.val * 256 + d.val, by omega⟩ = h := Fin.ext (by show (h.val * 256 + d.val) / 256 = h.val; omega)
  have e2 : colOf' ⟨h.val * 256 + d.val, by omega⟩ = d := Fin.ext (by show (h.val * 256 + d.val) % 256 = d.val; omega)
  show ((f (headOf' ⟨h.val * 256 + d.val, by omega⟩) s (colOf' ⟨h.val * 256 + d.val, by omega⟩) : ℝ) : EReal) = _
  rw [e1, e2]

variable (H : HoldsAll V c q kk v g) (t : Fin cfg1.N)
include H

theorem bwd_blk0 (r : Fin 1024) (d : Fin 256) :
    (bwdBlk V c 0 t : FVec Ideal S1024x256 .bf16) (ix2 r d) = ((q (bwdHead t) (bwdRow t r) d : ℝ) : EReal) := by
  refine Eq.trans ?_ (H.queries (bwdRow t r) (bwdHead t) d)
  blk_ext [bwdBlk, bwd_idx t, bwdRow, bwdHead]

theorem bwd_blk1 (s : Fin 2048) (d : Fin 128) :
    (bwdBlk V c 1 t : FVec Ideal S2048x128 .bf16) (ix2 s d) = ((kk (bwdHead t) s ⟨d.val, by omega⟩ : ℝ) : EReal) := by
  refine Eq.trans ?_ (H.keys s (bwdHead t) d)
  blk_ext [bwdBlk, bwd_idx t, bwdHead]

theorem bwd_blk2 (h : Fin 8) (s : Fin 2048) (d : Fin 128) :
    (bwdBlk V c 2 t : FVec Ideal S2048x128 .bf16) (ix2 s d) = ((kk h s ⟨128 + d.val, by omega⟩ : ℝ) : EReal) := by
  refine Eq.trans ?_ (H.rotary s h d)
  blk_ext [bwdBlk, bwd_idx t]

theorem bwd_blk3 (s : Fin 2048) (d : Fin 128) :
    (bwdBlk V c 3 t : FVec Ideal S2048x128 .bf16) (ix2 s d) = ((v (bwdHead t) s d : ℝ) : EReal) := by
  refine Eq.trans ?_ (H.values s (bwdHead t) d)
  blk_ext [bwdBlk, bwd_idx t, bwdHead]

theorem bwd_blk4 (r : Fin 1024) (d : Fin 128) :
    (bwdBlk V c 4 t : FVec Ideal S1024x128 .f32) (ix2 r d)
      = ((out (q (bwdHead t)) (kk (bwdHead t)) (v (bwdHead t)) (bwdRow t r) d : ℝ) : EReal) := by
  refine Eq.trans ?_ ((congrFun H.outputs _).trans (byHead_at _ (bwdRow t r) (bwdHead t) d))
  blk_ext [bwdBlk, bwd_idx t, bwdRow, bwdHead]

theorem bwd_blk5 (r : Fin 1024) (d : Fin 128) :
    (bwdBlk V c 5 t : FVec Ideal S1024x128 .f32) (ix2 r d) = ((Real.log (total (q (bwdHead t)) (kk (bwdHead t)) (bwdRow t r)) : ℝ) : EReal) := by
  refine Eq.trans ?_ ((congrFun H.logs _).trans (byHead_at _ (bwdRow t r) (bwdHead t) d))
  blk_ext [bwdBlk, bwd_idx t, bwdRow, bwdHead]

theorem bwd_blk6 (r : Fin 1024) (d : Fin 128) :
    (bwdBlk V c 6 t : FVec Ideal S1024x128 .f32) (ix2 r d) = ((g (bwdHead t) (bwdRow t r) d : ℝ) : EReal) := by
  refine Eq.trans ?_ ((congrFun H.grads _).trans (byHead_at _ (bwdRow t r) (bwdHead t) d))
  blk_ext [bwdBlk, bwd_idx t, bwdRow, bwdHead]

theorem bwd_keys (s : Fin 2048) (d : Fin 256) : bwdKeys V c t (ix2 s d) = ((kk (bwdHead t) s d : ℝ) : EReal) := by
  unfold bwdKeys
  refine headKeys_at (fun s d => ?_) (fun s d => bwd_blk2 H (bwdStart t) (bwdHead t) s d) s d
  rw [← bwdStart_head t]; exact bwd_blk1 H (bwdStart t) s d

/-- The probabilities at a point. -/
theorem bwd_p (r : Fin 1024) (k : Fin 2048) :
    bwdP V c t (ix2 r k) = ((weight (q (bwdHead t)) (kk (bwdHead t)) (bwdRow t r) k : ℝ) : EReal) :=
  bwd_weight (q := fun r => q (bwdHead t) (bwdRow t r)) (bwd_blk0 H t) (bwd_keys H t) (fun r => bwd_blk5 H t r 0) r k

/-- The scores' gradient at a point. -/
theorem bwd_ds (r : Fin 1024) (k : Fin 2048) :
    bwdDs V c t (ix2 r k)
      = ((dscore (q (bwdHead t)) (kk (bwdHead t)) (v (bwdHead t)) (g (bwdHead t)) (bwdRow t r) k : ℝ) : EReal) :=
  bwd_score (q := fun r => q (bwdHead t) (bwdRow t r)) (g := fun r => g (bwdHead t) (bwdRow t r)) (bwd_blk0 H t) (bwd_keys H t) (bwd_blk3 H t)
    (bwd_blk4 H t) (fun r => bwd_blk5 H t r 0) (bwd_blk6 H t) r k

/-- The queries' gradient at a point. -/
theorem bwd_dq (r : Fin 1024) (d : Fin 256) :
    bwdDq V c t (ix2 r d)
      = (((∑ k, dscore (q (bwdHead t)) (kk (bwdHead t)) (v (bwdHead t)) (g (bwdHead t)) (bwdRow t r) k * kk (bwdHead t) k d) * scale : ℝ) : EReal) :=
  bwd_dq_at (q := fun r => q (bwdHead t) (bwdRow t r)) (g := fun r => g (bwdHead t) (bwdRow t r)) (bwd_blk0 H t) (bwd_keys H t) (bwd_blk3 H t)
    (bwd_blk4 H t) (fun r => bwd_blk5 H t r 0) (bwd_blk6 H t) r d

/-- One block's part of the keys' gradient, -/
theorem bwd_dk_part (k : Fin 2048) (d : Fin 256) :
    k1_pay2 (F := Ideal) (bwdDs V c t) (bwdBlk V c 0 t) (ix2 k d)
      = ((∑ r, dscore (q (bwdHead t)) (kk (bwdHead t)) (v (bwdHead t)) (g (bwdHead t)) (bwdRow t r) k * q (bwdHead t) (bwdRow t r) d : ℝ) : EReal) :=
  bwd_dk_at (bwd_ds H t) (bwd_blk0 H t) k d

/-- and of the values'. -/
theorem bwd_dv_part (k : Fin 2048) (d : Fin 128) :
    k1_pay1 (F := Ideal) (bwdP V c t) (k1_pay10 (bwdBlk V c 6 t)) (ix2 k d)
      = ((∑ r, weight (q (bwdHead t)) (kk (bwdHead t)) (bwdRow t r) k * g (bwdHead t) (bwdRow t r) d : ℝ) : EReal) :=
  bwd_dv_at (bwd_p H t) (bwd_blk6 H t) k d

/-- The keys' gradient when its block is written back: at the head's second point. -/
theorem bwd_dk (ht : t.val % 2 = 1) (k : Fin 2048) (d : Fin 256) :
    bwdDk V c t (ix2 k d)
      = (((∑ s, dscore (q (bwdHead t)) (kk (bwdHead t)) (v (bwdHead t)) (g (bwdHead t)) s k * q (bwdHead t) s d) * scale : ℝ) : EReal) := by
  unfold bwdDk
  rw [if_neg (by omega)]
  refine (bwd_dk_last k d).trans ?_
  have h0 := bwd_dk_part H (bwdStart t) k d
  rw [bwdStart_head t] at h0
  rw [h0, bwd_dk_part H t k d, scale_word, ← EReal.coe_add, ← EReal.coe_mul]
  exact congrArg (fun x : ℝ => ((x * scale : ℝ) : EReal))
    (two_blocks ht fun s => dscore (q (bwdHead t)) (kk (bwdHead t)) (v (bwdHead t)) (g (bwdHead t)) s k * q (bwdHead t) s d)

/-- The values' gradient there. -/
theorem bwd_dv (ht : t.val % 2 = 1) (k : Fin 2048) (d : Fin 128) :
    bwdDv V c t (ix2 k d)
      = ((∑ s, weight (q (bwdHead t)) (kk (bwdHead t)) s k * g (bwdHead t) s d : ℝ) : EReal) := by
  unfold bwdDv
  rw [if_neg (by omega)]
  refine (bwd_dv_last k d).trans ?_
  have h0 := bwd_dv_part H (bwdStart t) k d
  rw [bwdStart_head t] at h0
  rw [h0, bwd_dv_part H t k d, ← EReal.coe_add]
  exact congrArg (fun x : ℝ => (x : EReal))
    (two_blocks ht fun s => weight (q (bwdHead t)) (kk (bwdHead t)) s k * g (bwdHead t) s d)

/-- The packed queries' gradient after the region. -/
theorem bwd_dq_array : (bwdDat V c).arrAt 7 cfg1.N
    = byHead' fun h s d => (∑ k, dscore (q h) (kk h) (v h) (g h) s k * kk h k d) * scale := by
  refine (bwdDat V c).arrAt_eq_of_covers 7 _ (by decide +kernel) fun t _ y => ?_
  blk_simp
  rw [bwd_after7]
  obtain ⟨r, d, rfl⟩ : ∃ (r : Fin 1024) (d : Fin 256), y = ix2 r d := ⟨y 0, y 1, eq_ix2 y⟩
  refine (bwd_dq H t r d).trans ?_
  have e0 : (((cfg1.win 7).blk t).view.emb (ix2 r d)) 0 = bwdRow t r := Fin.ext (by blk_simp [bwd_idx t]; rfl)
  have e1 : headOf' ((((cfg1.win 7).blk t).view.emb (ix2 r d)) 1) = bwdHead t := Fin.ext (by
    unfold headOf' bwdHead; blk_simp [bwd_idx t]; show (t.val / 2 * 256 + d.val) / 256 = t.val / 2; omega)
  have e2 : colOf' ((((cfg1.win 7).blk t).view.emb (ix2 r d)) 1) = d := Fin.ext (by
    unfold colOf'; blk_simp [bwd_idx t]; show (t.val / 2 * 256 + d.val) % 256 = d.val; omega)
  unfold byHead'
  rw [e0, e1, e2]

/-- The packed keys' gradient after the region. -/
theorem bwd_dk_array : (bwdDat V c).arrAt 8 cfg1.N
    = byHead' fun h k d => (∑ s, dscore (q h) (kk h) (v h) (g h) s k * q h s d) * scale := by
  refine (bwdDat V c).arrAt_eq_of_covers 8 _ (by decide +kernel) fun t hf y => ?_
  blk_simp
  rw [bwd_after8]
  obtain ⟨k, d, rfl⟩ : ∃ (k : Fin 2048) (d : Fin 256), y = ix2 k d := ⟨y 0, y 1, eq_ix2 y⟩
  refine (bwd_dk H t ((flush1_8 t).mp hf) k d).trans ?_
  have e0 : (((cfg1.win 8).blk t).view.emb (ix2 k d)) 0 = k := Fin.ext (by blk_simp [bwd_idx t])
  have e1 : headOf' ((((cfg1.win 8).blk t).view.emb (ix2 k d)) 1) = bwdHead t := Fin.ext (by
    unfold headOf' bwdHead; blk_simp [bwd_idx t]; show (t.val / 2 * 256 + d.val) / 256 = t.val / 2; omega)
  have e2 : colOf' ((((cfg1.win 8).blk t).view.emb (ix2 k d)) 1) = d := Fin.ext (by
    unfold colOf'; blk_simp [bwd_idx t]; show (t.val / 2 * 256 + d.val) % 256 = d.val; omega)
  unfold byHead'
  rw [e0, e1, e2]

/-- The values' gradient after the region. -/
theorem bwd_dv_array : (bwdDat V c).arrAt 9 cfg1.N
    = byHead fun h k d => ∑ s, weight (q h) (kk h) s k * g h s d := by
  refine (bwdDat V c).arrAt_eq_of_covers 9 _ (by decide +kernel) fun t hf y => ?_
  blk_simp
  rw [bwd_after9]
  obtain ⟨k, d, rfl⟩ : ∃ (k : Fin 2048) (d : Fin 128), y = ix2 k d := ⟨y 0, y 1, eq_ix2 y⟩
  refine (bwd_dv H t ((flush1_9 t).mp hf) k d).trans ?_
  have e0 : (((cfg1.win 9).blk t).view.emb (ix2 k d)) 0 = k := Fin.ext (by blk_simp [bwd_idx t])
  have e1 : headOf ((((cfg1.win 9).blk t).view.emb (ix2 k d)) 1) = bwdHead t := Fin.ext (by
    unfold headOf bwdHead; blk_simp [bwd_idx t]; show (t.val / 2 * 128 + d.val) / 128 = t.val / 2; omega)
  have e2 : colOf ((((cfg1.win 9).blk t).view.emb (ix2 k d)) 1) = d := Fin.ext (by
    unfold colOf; blk_simp [bwd_idx t]; show (t.val / 2 * 128 + d.val) % 128 = d.val; omega)
  unfold byHead
  rw [e0, e1, e2]

end

end Cert.KernelIdeal.Attn

end
-- ==== Proof.Attn.Host.lean ====
/- The host's own arithmetic around the two regions: the packed arrays the regions read, from the arguments, and the five
   results from what the regions leave. -/
module

public import proofs.«01_k».proof.Proof.Attn.Heads
public import proofs.«01_k».proof.Proof.Attn.BwdVal
public import proofs.«01_k».proof.Proof.Attn.Run
public import Idealize.ShloMosaic.Lib.Pointwise

@[expose] public section

set_option maxRecDepth 16384

noncomputable section

namespace Cert.KernelIdeal.Attn

open Cert.KernelIdeal Cert.KernelIdeal.Gen Cert.Attention
open Idealize.ShloMosaic Idealize.ShloMosaic.TcCoe Idealize.SL.Sem
open Idealize.ShloMosaic.Pipeline (Dat)

/-- The packed queries, from the arguments; -/
def packQ (x0 : FVec Ideal S1x2048x8x128 .f32) (x1 : FVec Ideal S1x2048x8x64 .f32) : FVec Ideal S2048x2048 .bf16 :=
  truncf .bf16 (shapeCast S2048x2048 (concatenate S2048x8x256 2 [⟨S2048x8x128, shapeCast S2048x8x128 x0 shapeCasts_S1x2048x8x128_S2048x8x128⟩,
    ⟨S2048x8x64, shapeCast S2048x8x64 x1 shapeCasts_S1x2048x8x64_S2048x8x64⟩,
    ⟨S2048x8x64, broadcastInDim S2048x8x64 ![] bcast_S_S2048x8x64 (constant S_ .f32 0x00000000#32)⟩]
    concatenates_S2048x8x128_S2048x8x64_S2048x8x64_S2048x8x256_d2) shapeCasts_S2048x8x256_S2048x2048) bitsLt_bf16_f32

/-- the heads' plain keys followed by their values; -/
def packKV (x2 x4 : FVec Ideal S1x2048x8x128 .f32) : FVec Ideal S2048x2048 .bf16 :=
  truncf .bf16 (concatenate S2048x2048 1 [⟨S2048x1024, shapeCast S2048x1024 (shapeCast S2048x8x128 x2 shapeCasts_S1x2048x8x128_S2048x8x128) shapeCasts_S2048x8x128_S2048x1024⟩,
    ⟨S2048x1024, shapeCast S2048x1024 (shapeCast S2048x8x128 x4 shapeCasts_S1x2048x8x128_S2048x8x128) shapeCasts_S2048x8x128_S2048x1024⟩]
    concatenates_S2048x1024_S2048x1024_S2048x2048_d1) bitsLt_bf16_f32

/-- and the rotary keys, padded with zeros. -/
def packR (x3 : FVec Ideal S1x2048x64 .f32) : FVec Ideal S2048x128 .bf16 :=
  truncf .bf16 (concatenate S2048x128 1 [⟨S2048x64, shapeCast S2048x64 x3 shapeCasts_S1x2048x64_S2048x64⟩,
    ⟨S2048x64, broadcastInDim S2048x64 ![] bcast_S_S2048x64 (constant S_ .f32 0x00000000#32)⟩]
    concatenates_S2048x64_S2048x64_S2048x128_d1) bitsLt_bf16_f32

section

variable (m : (ℓ : Loc nD τ sig) → Buf (Elt Ideal) ℓ) (c : Dev nD)

theorem V1_5 : V1 m c main_v5 = packQ (m ((c.tc : Thread nD τ).loc main_arg0)) (m ((c.tc : Thread nD τ).loc main_arg1)) := by
  unfold V1
  after_results_simp
  rfl
theorem V1_11 : V1 m c main_v11 = packKV (m ((c.tc : Thread nD τ).loc main_arg2)) (m ((c.tc : Thread nD τ).loc main_arg4)) := by
  unfold V1
  after_results_simp
  rfl
theorem V1_15 : V1 m c main_v15 = packR (m ((c.tc : Thread nD τ).loc main_arg3)) := by
  unfold V1
  after_results_simp
  rfl

end

variable {x0 : FVec Ideal S1x2048x8x128 .f32} {x1 : FVec Ideal S1x2048x8x64 .f32} {x2 : FVec Ideal S1x2048x8x128 .f32} {x3 : FVec Ideal S1x2048x64 .f32}
  {x4 : FVec Ideal S1x2048x8x128 .f32} {a0 a2 : Fin 2048 → Fin 8 → Fin 128 → ℝ} {a1 : Fin 2048 → Fin 8 → Fin 64 → ℝ} {a3 : Fin 2048 → Fin 64 → ℝ}

theorem packQ_at (h0 : ∀ s h d, x0 (ix4 0 s h d) = ((a0 s h d : ℝ) : EReal)) (h1 : ∀ s h d, x1 (ix4 0 s h d) = ((a1 s h d : ℝ) : EReal))
    (s : Fin 2048) (h : Fin 8) (d : Fin 256) : packQ x0 x1 (ix2 s ⟨h.val * 256 + d.val, by omega⟩) = ((qOf a0 a1 h s d : ℝ) : EReal) := by
  pointwise [packQ]
  have e : (h.val * 256 + d.val) % 256 = d.val := by omega
  simp only [e, h0, h1]
  unfold qOf packed
  by_cases c1 : d.val < 128
  · rw [dif_pos c1, dif_pos c1]
  · rw [dif_neg c1, dif_neg c1]
    by_cases c2 : d.val < 192
    · rw [dif_pos c2, dif_pos (by omega)]
    · rw [dif_neg c2, dif_neg (by omega)]; rfl

theorem packKV_key (s : Fin 2048) (h : Fin 8) (d : Fin 128) : packKV x2 x4 (ix2 s ⟨h.val * 128 + d.val, by omega⟩) = x2 (ix4 0 s h d) := by
  pointwise [packKV]
  exact dif_pos (by omega)

theorem packKV_value (s : Fin 2048) (h : Fin 8) (d : Fin 128) : packKV x2 x4 (ix2 s ⟨1024 + h.val * 128 + d.val, by omega⟩) = x4 (ix4 0 s h d) := by
  pointwise [packKV]
  rw [dif_neg (by omega)]
  refine congrArg x4 ?_
  have e1 : (⟨(1024 + h.val * 128 + d.val - 1024) / 128, by omega⟩ : Fin 8) = h := Fin.ext (by show (1024 + h.val * 128 + d.val - 1024) / 128 = h.val; omega)
  have e2 : (⟨(1024 + h.val * 128 + d.val - 1024) % 128, by omega⟩ : Fin 128) = d := Fin.ext (by show (1024 + h.val * 128 + d.val - 1024) % 128 = d.val; omega)
  rw [e1, e2]

theorem packR_at (h2 : ∀ s h d, x2 (ix4 0 s h d) = ((a2 s h d : ℝ) : EReal)) (h3 : ∀ s d, x3 (ix3 0 s d) = ((a3 s d : ℝ) : EReal))
    (s : Fin 2048) (h : Fin 8) (d : Fin 128) : packR x3 (ix2 s d) = ((kOf a2 a3 h s ⟨128 + d.val, by omega⟩ : ℝ) : EReal) := by
  pointwise [packR]
  simp only [h3]
  unfold kOf packed
  rw [dif_neg (show ¬ 128 + d.val < 128 by omega)]
  by_cases c : d.val < 64
  · rw [dif_pos c, dif_pos (show 128 + d.val < 192 by omega)]
    exact congrArg (fun j => ((a3 s j : ℝ) : EReal)) (Fin.ext (by show d.val = 128 + d.val - 128; omega))
  · rw [dif_neg c, dif_neg (show ¬ 128 + d.val < 192 by omega)]; rfl

section

variable {m : (ℓ : Loc nD τ sig) → Buf (Elt Ideal) ℓ} {c : Dev nD} {a4 : Fin 2048 → Fin 8 → Fin 128 → ℝ} {a5 : Fin 2048 → Fin 1024 → ℝ}

/-- The six arguments hold real numbers. -/
structure Args (m : (ℓ : Loc nD τ sig) → Buf (Elt Ideal) ℓ) (c : Dev nD) (a0 : Fin 2048 → Fin 8 → Fin 128 → ℝ) (a1 : Fin 2048 → Fin 8 → Fin 64 → ℝ)
    (a2 : Fin 2048 → Fin 8 → Fin 128 → ℝ) (a3 : Fin 2048 → Fin 64 → ℝ) (a4 : Fin 2048 → Fin 8 → Fin 128 → ℝ) (a5 : Fin 2048 → Fin 1024 → ℝ) : Prop where
  at0 : ∀ s h d, (m ((c.tc : Thread nD τ).loc main_arg0) : FVec Ideal S1x2048x8x128 .f32) (ix4 0 s h d) = ((a0 s h d : ℝ) : EReal)
  at1 : ∀ s h d, (m ((c.tc : Thread nD τ).loc main_arg1) : FVec Ideal S1x2048x8x64 .f32) (ix4 0 s h d) = ((a1 s h d : ℝ) : EReal)
  at2 : ∀ s h d, (m ((c.tc : Thread nD τ).loc main_arg2) : FVec Ideal S1x2048x8x128 .f32) (ix4 0 s h d) = ((a2 s h d : ℝ) : EReal)
  at3 : ∀ s d, (m ((c.tc : Thread nD τ).loc main_arg3) : FVec Ideal S1x2048x64 .f32) (ix3 0 s d) = ((a3 s d : ℝ) : EReal)
  at4 : ∀ s h d, (m ((c.tc : Thread nD τ).loc main_arg4) : FVec Ideal S1x2048x8x128 .f32) (ix4 0 s h d) = ((a4 s h d : ℝ) : EReal)
  at5 : ∀ s n, (m ((c.tc : Thread nD τ).loc main_arg5) : FVec Ideal S1x2048x1024 .f32) (ix3 0 s n) = ((a5 s n : ℝ) : EReal)

variable (A : Args m c a0 a1 a2 a3 a4 a5)
include A

/-- The forward region's arrays at its entry. -/
theorem holds_fwd : Holds (V1 m) c (qOf a0 a1) (kOf a2 a3) (vOf a4) where
  queries s h d := by rw [V1_5]; exact packQ_at A.at0 A.at1 s h d
  keys s h d := by rw [V1_11, packKV_key, A.at2, kOf_lo]
  rotary s h d := by rw [V1_15]; exact packR_at A.at2 A.at3 s h d
  values s h d := by rw [V1_11, packKV_value]; exact A.at4 s h d

omit A in
theorem beforeBwd_eq (r : Ref sig .tc) (hr : r ∉ ([main_v16_0, main_v16_1, main_v17] : List (Ref sig .tc))) : beforeBwd m c r = V1 m c r := by
  rw [← V3_eq, V3_of m (outs m) c r (by simp only [List.mem_cons, List.not_mem_nil, or_false, not_or] at hr ⊢; exact hr.2.2)]
  exact V2_of m (outs m) c r (by simp only [List.mem_cons, List.not_mem_nil, or_false, not_or] at hr ⊢; exact ⟨hr.1, hr.2.1⟩)

omit A in
theorem beforeBwd_17 : beforeBwd m c main_v17 = shapeCast S2048x1024 (m ((c.tc : Thread nD τ).loc main_arg5)) shapeCasts_S1x2048x1024_S2048x1024 := by
  have e : afterFwd m c main_arg5 = m ((c.tc : Thread nD τ).loc main_arg5) := by
    rw [← V2_eq, V2_of m (outs m) c main_arg5 (by decide)]
    exact V1_of m c main_arg5 (by decide)
  rw [← e]
  unfold beforeBwd
  after_results_simp
  rfl

omit A in
theorem drop_batch (x5 : FVec Ideal S1x2048x1024 .f32) (s : Fin 2048) (n : Fin 1024) :
    shapeCast S2048x1024 x5 shapeCasts_S1x2048x1024_S2048x1024 (ix2 s n) = x5 (ix3 0 s n) := by
  pointwise

/-- The backward region's arrays at its entry. -/
theorem holds_bwd : HoldsAll (beforeBwd m) c (qOf a0 a1) (kOf a2 a3) (vOf a4) (gOf a5) where
  queries s h d := by rw [beforeBwd_eq main_v5 (by decide)]; exact (holds_fwd A).queries s h d
  keys s h d := by rw [beforeBwd_eq main_v11 (by decide)]; exact (holds_fwd A).keys s h d
  rotary s h d := by rw [beforeBwd_eq main_v15 (by decide)]; exact (holds_fwd A).rotary s h d
  values s h d := by rw [beforeBwd_eq main_v11 (by decide)]; exact (holds_fwd A).values s h d
  outputs := by
    rw [← V3_eq, V3_of m (outs m) c main_v16_0 (by decide), V2_eq, afterFwd_0]
    exact fwd_out_array (holds_fwd A)
  logs := by
    rw [← V3_eq, V3_of m (outs m) c main_v16_1 (by decide), V2_eq, afterFwd_1]
    exact fwd_lse_array (holds_fwd A)
  grads := by
    rw [beforeBwd_17]
    funext j
    obtain ⟨s, n, rfl⟩ : ∃ (s : Fin 2048) (n : Fin 1024), j = ix2 s n := ⟨j 0, j 1, eq_ix2 j⟩
    rw [drop_batch, A.at5]
    refine congrArg (fun n => ((a5 s n : ℝ) : EReal)) (Fin.ext ?_)
    show n.val = n.val / 128 * 128 + n.val % 128
    omega

/-! ## The results -/

theorem V4_dq : V4 m (outs m) c main_v18_0 = byHead' (dqOf (qOf a0 a1) (kOf a2 a3) (vOf a4) (gOf a5)) := (V4_0 m c).trans (bwd_dq_array (holds_bwd A))
theorem V4_dk : V4 m (outs m) c main_v18_1 = byHead' (dkOf (qOf a0 a1) (kOf a2 a3) (vOf a4) (gOf a5)) := (V4_1 m c).trans (bwd_dk_array (holds_bwd A))
theorem V4_dv : V4 m (outs m) c main_v18_2 = byHead (dvOf (qOf a0 a1) (kOf a2 a3) (gOf a5)) := (V4_2 m c).trans (bwd_dv_array (holds_bwd A))

end

/-- A head's plain columns, its rotary columns, their sum over the heads, and an array of 128 columns to a head, with the heads on an axis. -/
def plainOf (y : FVec Ideal S2048x2048 .f32) : FVec Ideal S1x2048x8x128 .f32 :=
  extractStridedSlice S1x2048x8x128 ![0, 0, 0, 0] (shapeCast S1x2048x8x256 y shapeCasts_S2048x2048_S1x2048x8x256) slices_S1x2048x8x256_S1x2048x8x128_0_0_0_0
def ropeOf (y : FVec Ideal S2048x2048 .f32) : FVec Ideal S1x2048x8x64 .f32 :=
  extractStridedSlice S1x2048x8x64 ![0, 0, 0, 128] (shapeCast S1x2048x8x256 y shapeCasts_S2048x2048_S1x2048x8x256) slices_S1x2048x8x256_S1x2048x8x64_0_0_0_128
def overHeads (y : FVec Ideal S1x2048x8x64 .f32) : FVec Ideal S1x2048x64 .f32 :=
  Host.reduceAdd y (constant S_ .f32 0x00000000#32) reducesTo_S1x2048x8x64_S1x2048x64_d2 h_S_
def splitHeads (y : FVec Ideal S2048x1024 .f32) : FVec Ideal S1x2048x8x128 .f32 := shapeCast S1x2048x8x128 y shapeCasts_S2048x1024_S1x2048x8x128

theorem plainOf_at (y : FVec Ideal S2048x2048 .f32) (s : Fin 2048) (h : Fin 8) (j : Fin 128) :
    plainOf y (ix4 0 s h j) = y (ix2 s ⟨h.val * 256 + j.val, by omega⟩) := by
  pointwise [plainOf]
theorem ropeOf_at (y : FVec Ideal S2048x2048 .f32) (s : Fin 2048) (h : Fin 8) (j : Fin 64) :
    ropeOf y (ix4 0 s h j) = y (ix2 s ⟨h.val * 256 + (128 + j.val), by omega⟩) := by
  pointwise [ropeOf]
theorem overHeads_at (y : FVec Ideal S1x2048x8x64 .f32) (s : Fin 2048) (j : Fin 64) :
    overHeads y (ix3 0 s j) = ∑ h : Fin 8, y (ix4 0 s h j) := by
  pointwise [overHeads]
theorem splitHeads_at (y : FVec Ideal S2048x1024 .f32) (s : Fin 2048) (h : Fin 8) (j : Fin 128) :
    splitHeads y (ix4 0 s h j) = y (ix2 s ⟨h.val * 128 + j.val, by omega⟩) := by
  pointwise [splitHeads]

section

variable (m : (ℓ : Loc nD τ sig) → Buf (Elt Ideal) ℓ) (c : Dev nD)

theorem V5_21 : V5 m (outs m) c main_v21 = plainOf (V4 m (outs m) c main_v18_0) := by
  unfold V5
  after_results_simp
  rfl
theorem V5_22 : V5 m (outs m) c main_v22 = ropeOf (V4 m (outs m) c main_v18_0) := by
  unfold V5
  after_results_simp
  rfl
theorem V5_23 : V5 m (outs m) c main_v23 = plainOf (V4 m (outs m) c main_v18_1) := by
  unfold V5
  after_results_simp
  rfl
theorem V5_25 : V5 m (outs m) c main_v25 = overHeads (ropeOf (V4 m (outs m) c main_v18_1)) := by
  unfold V5
  after_results_simp
  rfl
theorem V5_26 : V5 m (outs m) c main_v26 = splitHeads (V4 m (outs m) c main_v18_2) := by
  unfold V5
  after_results_simp
  rfl

end

section

variable {m : (ℓ : Loc nD τ sig) → Buf (Elt Ideal) ℓ} {c : Dev nD} {a4 : Fin 2048 → Fin 8 → Fin 128 → ℝ} {a5 : Fin 2048 → Fin 1024 → ℝ}
  (A : Args m c a0 a1 a2 a3 a4 a5)
include A

theorem dq_nope_at (s : Fin 2048) (h : Fin 8) (j : Fin 128) : (V5 m (outs m) c main_v21 : FVec Ideal S1x2048x8x128 .f32) (ix4 0 s h j)
    = ((dqOf (qOf a0 a1) (kOf a2 a3) (vOf a4) (gOf a5) h s ⟨j.val, by omega⟩ : ℝ) : EReal) := by
  rw [V5_21, plainOf_at, V4_dq A]
  exact byHead'_at _ s h ⟨j.val, by omega⟩
theorem dq_rope_at (s : Fin 2048) (h : Fin 8) (j : Fin 64) : (V5 m (outs m) c main_v22 : FVec Ideal S1x2048x8x64 .f32) (ix4 0 s h j)
    = ((dqOf (qOf a0 a1) (kOf a2 a3) (vOf a4) (gOf a5) h s ⟨128 + j.val, by omega⟩ : ℝ) : EReal) := by
  rw [V5_22, ropeOf_at, V4_dq A]
  exact byHead'_at _ s h ⟨128 + j.val, by omega⟩
theorem dk_nope_at (k : Fin 2048) (h : Fin 8) (j : Fin 128) : (V5 m (outs m) c main_v23 : FVec Ideal S1x2048x8x128 .f32) (ix4 0 k h j)
    = ((dkOf (qOf a0 a1) (kOf a2 a3) (vOf a4) (gOf a5) h k ⟨j.val, by omega⟩ : ℝ) : EReal) := by
  rw [V5_23, plainOf_at, V4_dk A]
  exact byHead'_at _ k h ⟨j.val, by omega⟩
theorem dk_rope_at (k : Fin 2048) (j : Fin 64) : (V5 m (outs m) c main_v25 : FVec Ideal S1x2048x64 .f32) (ix3 0 k j)
    = ((∑ h, dkOf (qOf a0 a1) (kOf a2 a3) (vOf a4) (gOf a5) h k ⟨128 + j.val, by omega⟩ : ℝ) : EReal) := by
  rw [V5_25]
  refine (overHeads_at _ k j).trans (Eq.trans ?_ (sum_real Finset.univ _))
  refine Finset.sum_congr rfl fun h _ => ?_
  rw [ropeOf_at, V4_dk A]
  exact byHead'_at _ k h ⟨128 + j.val, by omega⟩
theorem dv_at (k : Fin 2048) (h : Fin 8) (j : Fin 128) : (V5 m (outs m) c main_v26 : FVec Ideal S1x2048x8x128 .f32) (ix4 0 k h j)
    = ((dvOf (qOf a0 a1) (kOf a2 a3) (gOf a5) h k j : ℝ) : EReal) := by
  rw [V5_26, splitHeads_at, V4_dv A]
  exact byHead_at _ k h j

end

end Cert.KernelIdeal.Attn

end
-- ==== Proof.Attn.Ref.lean ====
/- The reference's five results, read stage by stage at an index: when the arguments hold real numbers each is the real
   gradient, written with the functions of `Real.lean` over the packed queries and keys. -/
module

public import proofs.«01_k».proof.Proof.Gen.ReferenceIdeal.Run
public import proofs.«01_k».proof.Proof.Attn.Heads
public import Idealize.ShloMosaic.Lib.Pointwise

@[expose] public section

set_option maxRecDepth 16384

noncomputable section

namespace Cert.ReferenceIdeal.Attn

open Cert.ReferenceIdeal Cert.ReferenceIdeal.Gen Cert.Attention
open Idealize.ShloMosaic Idealize.ShloMosaic.TcCoe Idealize.SL.Sem

/-! ## The stages -/

/-- The scaled scores: the two products of a head's query and key, times the scale. -/
def scores (x0 : FVec Ideal S1x2048x8x128 .f32) (x1 : FVec Ideal S1x2048x8x64 .f32) (x2 : FVec Ideal S1x2048x8x128 .f32) (x3 : FVec Ideal S1x2048x64 .f32) :
    FVec Ideal S1x8x2048x2048 .f32 :=
  mulf (addf (Host.dotGeneral dot_S1x2048x8x128_S1x2048x8x128_S1x8x2048x2048_3_3_1_1_02_02 none x0 x2)
      (transpose S1x8x2048x2048 [0, 3, 2, 1] (Host.dotGeneral dot_S1x2048x64_S1x2048x8x64_S1x2048x2048x8_2_3_1_12_0_0 none x3 x1) transposes_S1x2048x2048x8_S1x8x2048x2048_0_3_2_1))
    (broadcastInDim S1x8x2048x2048 ![] bcast_S_S1x8x2048x2048 (constant S_ .f32 0x3D93CD3A#32))

/-- The greatest score of each query. -/
def greatest (s : FVec Ideal S1x8x2048x2048 .f32) : FVec Ideal S1x8x2048 .f32 :=
  maximumf (broadcastInDim S1x8x2048 ![] bcast_S_S1x8x2048 (constant S_ .f32 0xFF800000#32))
    (Host.reduce FloatOps.maximumf s (constant S_ .f32 0xFF800000#32) reducesTo_S1x8x2048x2048_S1x8x2048_d3 h_S_)

/-- The exponentials of the scores, each less its query's greatest. -/
def exps (s : FVec Ideal S1x8x2048x2048 .f32) : FVec Ideal S1x8x2048x2048 .f32 :=
  Host.exp (subf s (broadcastInDim S1x8x2048x2048 ![0, 1, 2, 3] bcast_S1x8x2048x1_S1x8x2048x2048_0_1_2_3
    (broadcastInDim S1x8x2048x1 ![0, 1, 2] bcast_S1x8x2048_S1x8x2048x1_0_1_2 (greatest s))))

/-- Their sum for each query. -/
def sums (e : FVec Ideal S1x8x2048x2048 .f32) : FVec Ideal S1x8x2048x1 .f32 :=
  broadcastInDim S1x8x2048x1 ![0, 1, 2] bcast_S1x8x2048_S1x8x2048x1_0_1_2
    (Host.reduceAdd e (constant S_ .f32 0x00000000#32) reducesTo_S1x8x2048x2048_S1x8x2048_d3 h_S_)

/-- The output's gradient, one column to a head's query. -/
def heads (x5 : FVec Ideal S1x2048x1024 .f32) : FVec Ideal S1x8x128x2048 .f32 :=
  transpose S1x8x128x2048 [0, 2, 3, 1] (shapeCast S1x2048x8x128 x5 shapeCasts_S1x2048x1024_S1x2048x8x128) transposes_S1x2048x8x128_S1x8x128x2048_0_2_3_1

/-- The gradient of the weights. -/
def dweights (x4 : FVec Ideal S1x2048x8x128 .f32) (x5 : FVec Ideal S1x2048x1024 .f32) : FVec Ideal S1x8x2048x2048 .f32 :=
  Host.dotGeneral dot_S1x8x128x2048_S1x2048x8x128_S1x8x2048x2048_2_3_3_1_01_02 none (heads x5) x4

/-- The gradient of the scores, from the weights' gradient, the exponentials and their sums. -/
def dscores (w e : FVec Ideal S1x8x2048x2048 .f32) (l : FVec Ideal S1x8x2048x1 .f32) : FVec Ideal S1x8x2048x2048 .f32 :=
  mulf (mulf (addf (Host.divf w (broadcastInDim S1x8x2048x2048 ![0, 1, 2, 3] bcast_S1x8x2048x1_S1x8x2048x2048_0_1_2_3 l))
      (broadcastInDim S1x8x2048x2048 ![0, 1, 2] bcast_S1x8x2048_S1x8x2048x2048_0_1_2 (broadcastInDim S1x8x2048 ![1, 2] bcast_S8x2048_S1x8x2048_1_2
        (Host.reduceAdd (Host.negf (shapeCast S1x8x2048x1
            (Host.reduceAdd (mulf (mulf w (broadcastInDim S1x8x2048x2048 ![0, 1, 2, 3] bcast_S1x8x2048x1_S1x8x2048x2048_0_1_2_3
                (Host.divf (broadcastInDim S1x8x2048x1 ![] bcast_S_S1x8x2048x1 (constant S_ .f32 0x3F800000#32)) (mulf l l)))) e)
              (constant S_ .f32 0x00000000#32) reducesTo_S1x8x2048x2048_S1x8x2048_d3 h_S_) shapeCasts_S1x8x2048_S1x8x2048x1))
          (constant S_ .f32 0x00000000#32) reducesTo_S1x8x2048x1_S8x2048_d0_3 h_S_)))) e)
    (broadcastInDim S1x8x2048x2048 ![] bcast_S_S1x8x2048x2048 (constant S_ .f32 0x3D93CD3A#32))

/-- The values' gradient, from the exponentials and their sums. -/
def dvalues (x5 : FVec Ideal S1x2048x1024 .f32) (e : FVec Ideal S1x8x2048x2048 .f32) (l : FVec Ideal S1x8x2048x1 .f32) : FVec Ideal S1x2048x8x128 .f32 :=
  transpose S1x2048x8x128 [0, 3, 1, 2] (Host.dotGeneral dot_S1x8x128x2048_S1x8x2048x2048_S1x8x128x2048_3_2_2_3_01_01 none (heads x5)
    (Host.divf e (broadcastInDim S1x8x2048x2048 ![0, 1, 2, 3] bcast_S1x8x2048x1_S1x8x2048x2048_0_1_2_3 l))) transposes_S1x8x128x2048_S1x2048x8x128_0_3_1_2

/-- The scores' gradient with the head last. -/
def turned (d : FVec Ideal S1x8x2048x2048 .f32) : FVec Ideal S1x2048x2048x8 .f32 :=
  transpose S1x2048x2048x8 [0, 3, 2, 1] d transposes_S1x8x2048x2048_S1x2048x2048x8_0_3_2_1

/-! ## The stages at an index -/

variable {x0 : FVec Ideal S1x2048x8x128 .f32} {x1 : FVec Ideal S1x2048x8x64 .f32} {x2 : FVec Ideal S1x2048x8x128 .f32} {x3 : FVec Ideal S1x2048x64 .f32}
  {x4 : FVec Ideal S1x2048x8x128 .f32} {x5 : FVec Ideal S1x2048x1024 .f32}
  {s e w d : FVec Ideal S1x8x2048x2048 .f32} {l : FVec Ideal S1x8x2048x1 .f32}

theorem nope_at (h : Fin 8) (r k : Fin 2048) :
    Host.dotGeneral dot_S1x2048x8x128_S1x2048x8x128_S1x8x2048x2048_3_3_1_1_02_02 none x0 x2 (ix4 0 h r k) = ∑ d : Fin 128, x0 (ix4 0 r h d) * x2 (ix4 0 k h d) := by
  pointwise

theorem rope_at (h : Fin 8) (r k : Fin 2048) :
    Host.dotGeneral dot_S1x2048x64_S1x2048x8x64_S1x2048x2048x8_2_3_1_12_0_0 none x3 x1 (ix4 0 k r h) = ∑ d : Fin 64, x3 (ix3 0 k d) * x1 (ix4 0 r h d) := by
  pointwise

theorem rope_turned (z : FVec Ideal S1x2048x2048x8 .f32) (h : Fin 8) (r k : Fin 2048) :
    transpose S1x8x2048x2048 [0, 3, 2, 1] z transposes_S1x2048x2048x8_S1x8x2048x2048_0_3_2_1 (ix4 0 h r k) = z (ix4 0 k r h) := by
  pointwise

theorem scaled_at (z : FVec Ideal S1x8x2048x2048 .f32) (h : Fin 8) (r k : Fin 2048) :
    mulf z (broadcastInDim S1x8x2048x2048 ![] bcast_S_S1x8x2048x2048 (constant S_ .f32 0x3D93CD3A#32)) (ix4 0 h r k)
      = z (ix4 0 h r k) * Ideal.ofBits .f32 0x3D93CD3A#32 := by
  pointwise

theorem scores_at (h : Fin 8) (r k : Fin 2048) : scores x0 x1 x2 x3 (ix4 0 h r k)
    = ((∑ d : Fin 128, x0 (ix4 0 r h d) * x2 (ix4 0 k h d)) + ∑ d : Fin 64, x3 (ix3 0 k d) * x1 (ix4 0 r h d)) * Ideal.ofBits .f32 0x3D93CD3A#32 := by
  unfold scores
  rw [scaled_at, ← nope_at, ← rope_at, ← rope_turned (Host.dotGeneral dot_S1x2048x64_S1x2048x8x64_S1x2048x2048x8_2_3_1_12_0_0 none x3 x1)]
  rfl

theorem maximumf_first (z : FVec Ideal S1x8x2048 .f32) (h : Fin 8) (r : Fin 2048) :
    maximumf (broadcastInDim S1x8x2048 ![] bcast_S_S1x8x2048 (constant S_ .f32 0xFF800000#32)) z (ix3 0 h r)
      = max (Ideal.ofBits .f32 0xFF800000#32) (z (ix3 0 h r)) := by
  pointwise

theorem fold_at (z : FVec Ideal S_ .f32) (h : Fin 8) (r : Fin 2048) :
    Host.reduce FloatOps.maximumf s z reducesTo_S1x8x2048x2048_S1x8x2048_d3 h_S_ (ix3 0 h r)
      = (Finset.univ : Finset (Fin 2048)).fold max (z (Shape.Idx.first h_S_)) fun k => s (ix4 0 h r k) := by
  pointwise

theorem greatest_at (h : Fin 8) (r : Fin 2048) : greatest s (ix3 0 h r)
    = max (Ideal.ofBits .f32 0xFF800000#32) ((Finset.univ : Finset (Fin 2048)).fold max (Ideal.ofBits .f32 0xFF800000#32) fun k => s (ix4 0 h r k)) := by
  refine Eq.trans ?_ (congrArg (fun x : EReal => max (Ideal.ofBits .f32 0xFF800000#32) x) (fold_at (constant S_ .f32 0xFF800000#32) h r))
  unfold greatest
  exact maximumf_first _ h r

theorem exps_at (h : Fin 8) (r k : Fin 2048) : exps s (ix4 0 h r k) = Ideal.exp (s (ix4 0 h r k) - greatest s (ix3 0 h r)) := by
  pointwise [exps]

theorem sums_at (h : Fin 8) (r : Fin 2048) : sums e (ix4 0 h r 0) = ∑ k : Fin 2048, e (ix4 0 h r k) := by
  pointwise [sums]

theorem heads_at (h : Fin 8) (d : Fin 128) (r : Fin 2048) : heads x5 (ix4 0 h d r) = x5 (ix3 0 r ⟨h.val * 128 + d.val, by omega⟩) := by
  pointwise [heads]

theorem dweights_at (h : Fin 8) (r k : Fin 2048) : dweights x4 x5 (ix4 0 h r k)
    = ∑ d : Fin 128, heads x5 (ix4 0 h d r) * x4 (ix4 0 k h d) := by
  pointwise [dweights]

theorem dvalues_at (h : Fin 8) (k : Fin 2048) (d : Fin 128) : dvalues x5 e l (ix4 0 k h d)
    = ∑ r : Fin 2048, heads x5 (ix4 0 h d r) * Ideal.div (e (ix4 0 h r k)) (l (ix4 0 h r 0)) := by
  pointwise [dvalues]

/-- A sum over two axes of one element each. -/
theorem unit_sum (hr : S1x8x2048x1.ReducesTo [0, 3] S8x2048) (x : S1x8x2048x1.Idx → EReal) (z : EReal) (h : Fin 8) (r : Fin 2048) :
    Ideal.hostReduceAdd hr x z (ix2 h r) = z + x (ix4 0 h r 0) := by
  unfold Ideal.hostReduceAdd
  congr 1
  have e : (Finset.univ.filter fun i : S1x8x2048x1.Idx => hr.drop i = ix2 h r) = {ix4 0 h r 0} := by
    ext i
    simp only [Finset.mem_filter, Finset.mem_univ, true_and, Finset.mem_singleton]
    constructor
    · intro e
      have e1 : (i 1).val = h.val := congrArg Fin.val (congrFun e 0)
      have e2 : (i 2).val = r.val := congrArg Fin.val (congrFun e 1)
      have l0 : (i 0).val < 1 := (i 0).isLt
      have l3 : (i 3).val < 1 := (i 3).isLt
      funext a
      apply Fin.ext
      match a with
      | ⟨0, _⟩ => show (i 0).val = 0; omega
      | ⟨1, _⟩ => exact e1
      | ⟨2, _⟩ => exact e2
      | ⟨3, _⟩ => show (i 3).val = 0; omega
    · rintro rfl
      funext b
      match b with
      | ⟨0, _⟩ => rfl
      | ⟨1, _⟩ => rfl
  rw [e, Finset.sum_singleton]

theorem dscores_at (h : Fin 8) (r k : Fin 2048) : dscores w e l (ix4 0 h r k)
    = (Ideal.div (w (ix4 0 h r k)) (l (ix4 0 h r 0))
        + -(∑ k' : Fin 2048, w (ix4 0 h r k') * Ideal.div (Ideal.ofBits .f32 0x3F800000#32) (l (ix4 0 h r 0) * l (ix4 0 h r 0)) * e (ix4 0 h r k')))
      * e (ix4 0 h r k) * Ideal.ofBits .f32 0x3D93CD3A#32 := by
  pointwise [dscores]
  rw [unit_sum]
  pointwise

/-! ## The results from the scores' gradient -/

theorem dq_nope_at (h : Fin 8) (r : Fin 2048) (j : Fin 128) :
    transpose S1x2048x8x128 [0, 2, 1, 3] (Host.dotGeneral dot_S1x8x2048x2048_S1x2048x8x128_S1x8x2048x128_3_1_2_3_01_02 none d x2) transposes_S1x8x2048x128_S1x2048x8x128_0_2_1_3
      (ix4 0 r h j) = ∑ k : Fin 2048, d (ix4 0 h r k) * x2 (ix4 0 k h j) := by
  pointwise

theorem dk_nope_at (h : Fin 8) (k : Fin 2048) (j : Fin 128) :
    transpose S1x2048x8x128 [0, 2, 1, 3] (Host.dotGeneral dot_S1x8x2048x2048_S1x2048x8x128_S1x8x2048x128_2_1_3_3_01_02 none d x0) transposes_S1x8x2048x128_S1x2048x8x128_0_2_1_3
      (ix4 0 k h j) = ∑ r : Fin 2048, d (ix4 0 h r k) * x0 (ix4 0 r h j) := by
  pointwise

theorem turned_at (h : Fin 8) (r k : Fin 2048) : turned d (ix4 0 k r h) = d (ix4 0 h r k) := by
  pointwise [turned]

theorem dq_rope_at (z : FVec Ideal S1x2048x2048x8 .f32) (h : Fin 8) (r : Fin 2048) (j : Fin 64) :
    Host.dotGeneral dot_S1x2048x2048x8_S1x2048x64_S1x2048x8x64_1_1_23_2_0_0 none z x3 (ix4 0 r h j)
      = ∑ k : Fin 2048, z (ix4 0 k r h) * x3 (ix3 0 k j) := by
  pointwise

theorem dk_rope_at (z : FVec Ideal S1x2048x2048x8 .f32) (k : Fin 2048) (j : Fin 64) :
    Host.dotGeneral dot_S1x2048x2048x8_S1x2048x8x64_S1x2048x64_23_12_1_3_0_0 none z x1 (ix3 0 k j)
      = ∑ r : Fin 2048, ∑ h : Fin 8, z (ix4 0 k r h) * x1 (ix4 0 r h j) := by
  pointwise

/-! ## Real numbers -/

/-- The six arguments hold real numbers. -/
structure Args (x0 : FVec Ideal S1x2048x8x128 .f32) (x1 : FVec Ideal S1x2048x8x64 .f32) (x2 : FVec Ideal S1x2048x8x128 .f32) (x3 : FVec Ideal S1x2048x64 .f32)
    (x4 : FVec Ideal S1x2048x8x128 .f32) (x5 : FVec Ideal S1x2048x1024 .f32) (a0 : Fin 2048 → Fin 8 → Fin 128 → ℝ) (a1 : Fin 2048 → Fin 8 → Fin 64 → ℝ)
    (a2 : Fin 2048 → Fin 8 → Fin 128 → ℝ) (a3 : Fin 2048 → Fin 64 → ℝ) (a4 : Fin 2048 → Fin 8 → Fin 128 → ℝ) (a5 : Fin 2048 → Fin 1024 → ℝ) : Prop where
  at0 : ∀ s h d, x0 (ix4 0 s h d) = ((a0 s h d : ℝ) : EReal)
  at1 : ∀ s h d, x1 (ix4 0 s h d) = ((a1 s h d : ℝ) : EReal)
  at2 : ∀ s h d, x2 (ix4 0 s h d) = ((a2 s h d : ℝ) : EReal)
  at3 : ∀ s d, x3 (ix3 0 s d) = ((a3 s d : ℝ) : EReal)
  at4 : ∀ s h d, x4 (ix4 0 s h d) = ((a4 s h d : ℝ) : EReal)
  at5 : ∀ s n, x5 (ix3 0 s n) = ((a5 s n : ℝ) : EReal)

variable {a0 a2 a4 : Fin 2048 → Fin 8 → Fin 128 → ℝ} {a1 : Fin 2048 → Fin 8 → Fin 64 → ℝ} {a3 : Fin 2048 → Fin 64 → ℝ} {a5 : Fin 2048 → Fin 1024 → ℝ}
  (A : Args x0 x1 x2 x3 x4 x5 a0 a1 a2 a3 a4 a5)
include A

theorem scores_real (h : Fin 8) (r k : Fin 2048) :
    scores x0 x1 x2 x3 (ix4 0 h r k) = ((score (qOf a0 a1 h) (kOf a2 a3 h) r k * scale : ℝ) : EReal) := by
  rw [scores_at, scale_word]
  simp only [A.at0, A.at1, A.at2, A.at3, ← EReal.coe_mul]
  rw [sum_real, sum_real, ← EReal.coe_add, ← EReal.coe_mul]
  refine congrArg (fun x : ℝ => ((x * scale : ℝ) : EReal)) ?_
  unfold score qOf kOf
  rw [packed_dot]
  exact congrArg _ (Finset.sum_congr rfl fun _ _ => mul_comm _ _)

theorem greatest_real (h : Fin 8) (r : Fin 2048) : ∃ M : ℝ, greatest (scores x0 x1 x2 x3) (ix3 0 h r) = (M : EReal) := by
  rw [greatest_at, ninf_word]
  simp only [scores_real A]
  obtain ⟨M, hM⟩ := fold_max_real (n := 2048) (by omega) fun k => score (qOf a0 a1 h) (kOf a2 a3 h) r k * scale
  exact ⟨M, by rw [hM]; exact max_eq_right bot_le⟩

omit A in
theorem real_parts {M : ℝ} {h : Fin 8} {r : Fin 2048} {sc : Fin 2048 → ℝ} (hs : ∀ k, s (ix4 0 h r k) = ((sc k : ℝ) : EReal))
    (hM : greatest s (ix3 0 h r) = (M : EReal)) :
    (∀ k, exps s (ix4 0 h r k) = ((Real.exp (sc k - M) : ℝ) : EReal))
      ∧ sums (exps s) (ix4 0 h r 0) = ((∑ k, Real.exp (sc k - M) : ℝ) : EReal) := by
  have he : ∀ k, exps s (ix4 0 h r k) = ((Real.exp (sc k - M) : ℝ) : EReal) := fun k => by
    rw [exps_at, hs, hM, ← EReal.coe_sub, Ideal.exp_coe]
  refine ⟨he, ?_⟩
  rw [sums_at]
  simp only [he]
  exact sum_real _ _

theorem heads_real (h : Fin 8) (d : Fin 128) (r : Fin 2048) : heads x5 (ix4 0 h d r) = ((gOf a5 h r d : ℝ) : EReal) := by
  rw [heads_at]; exact A.at5 _ _

theorem dweights_real (h : Fin 8) (r k : Fin 2048) : dweights x4 x5 (ix4 0 h r k) = ((dweight (vOf a4 h) (gOf a5 h) r k : ℝ) : EReal) := by
  rw [dweights_at]
  simp only [heads_real A, A.at4, ← EReal.coe_mul]
  exact sum_real _ _

omit A in
theorem sum_exp_ne (f : Fin 2048 → ℝ) : (∑ k, Real.exp (f k)) ≠ 0 :=
  (Finset.sum_pos (fun _ _ => Real.exp_pos _) ⟨(0 : Fin 2048), Finset.mem_univ _⟩).ne'

/-- The exponentials over their sums are the attention weights. -/
theorem weights_real (h : Fin 8) (r k : Fin 2048) :
    Ideal.div (exps (scores x0 x1 x2 x3) (ix4 0 h r k)) (sums (exps (scores x0 x1 x2 x3)) (ix4 0 h r 0))
      = ((weight (qOf a0 a1 h) (kOf a2 a3 h) r k : ℝ) : EReal) := by
  obtain ⟨M, hM⟩ := greatest_real A h r
  obtain ⟨he, hl⟩ := real_parts (fun k => scores_real A h r k) hM
  rw [he, hl, div_real _ (sum_exp_ne _), weight_sub]

/-- The scores' gradient. -/
theorem dscores_real (h : Fin 8) (r k : Fin 2048) :
    dscores (dweights x4 x5) (exps (scores x0 x1 x2 x3)) (sums (exps (scores x0 x1 x2 x3))) (ix4 0 h r k)
      = ((dscore (qOf a0 a1 h) (kOf a2 a3 h) (vOf a4 h) (gOf a5 h) r k * scale : ℝ) : EReal) := by
  obtain ⟨M, hM⟩ := greatest_real A h r
  obtain ⟨he, hl⟩ := real_parts (fun k => scores_real A h r k) hM
  have hne := sum_exp_ne fun k => score (qOf a0 a1 h) (kOf a2 a3 h) r k * scale - M
  rw [dscores_at, hl, scale_word, one_word, ← EReal.coe_mul, div_real _ (mul_ne_zero hne hne), dweights_real A, div_real _ hne]
  simp only [he, dweights_real A, ← EReal.coe_mul]
  rw [sum_real, ← EReal.coe_neg, ← EReal.coe_add, ← EReal.coe_mul, ← EReal.coe_mul, dscore_sub]

/-- The five results. -/
theorem dvalues_real (h : Fin 8) (k : Fin 2048) (j : Fin 128) :
    dvalues x5 (exps (scores x0 x1 x2 x3)) (sums (exps (scores x0 x1 x2 x3))) (ix4 0 k h j)
      = ((dvOf (qOf a0 a1) (kOf a2 a3) (gOf a5) h k j : ℝ) : EReal) := by
  rw [dvalues_at]
  simp only [weights_real A, heads_real A, ← EReal.coe_mul]
  rw [sum_real]
  exact congrArg _ (Finset.sum_congr rfl fun _ _ => mul_comm _ _)

/-- The scores' gradient times the scale, all of it. -/
def dAll (x0 : FVec Ideal S1x2048x8x128 .f32) (x1 : FVec Ideal S1x2048x8x64 .f32) (x2 : FVec Ideal S1x2048x8x128 .f32) (x3 : FVec Ideal S1x2048x64 .f32)
    (x4 : FVec Ideal S1x2048x8x128 .f32) (x5 : FVec Ideal S1x2048x1024 .f32) : FVec Ideal S1x8x2048x2048 .f32 :=
  dscores (dweights x4 x5) (exps (scores x0 x1 x2 x3)) (sums (exps (scores x0 x1 x2 x3)))

theorem dq_nope_real (h : Fin 8) (r : Fin 2048) (j : Fin 128) :
    transpose S1x2048x8x128 [0, 2, 1, 3] (Host.dotGeneral dot_S1x8x2048x2048_S1x2048x8x128_S1x8x2048x128_3_1_2_3_01_02 none (dAll x0 x1 x2 x3 x4 x5) x2)
      transposes_S1x8x2048x128_S1x2048x8x128_0_2_1_3 (ix4 0 r h j)
      = ((dqOf (qOf a0 a1) (kOf a2 a3) (vOf a4) (gOf a5) h r ⟨j.val, by omega⟩ : ℝ) : EReal) := by
  rw [dq_nope_at]
  unfold dAll dqOf
  simp only [dscores_real A, A.at2, ← EReal.coe_mul]
  rw [sum_real, Finset.sum_mul]
  exact congrArg _ (Finset.sum_congr rfl fun k _ => by rw [kOf_lo]; ring)

theorem dq_rope_real (h : Fin 8) (r : Fin 2048) (j : Fin 64) :
    Host.dotGeneral dot_S1x2048x2048x8_S1x2048x64_S1x2048x8x64_1_1_23_2_0_0 none (turned (dAll x0 x1 x2 x3 x4 x5)) x3 (ix4 0 r h j)
      = ((dqOf (qOf a0 a1) (kOf a2 a3) (vOf a4) (gOf a5) h r ⟨128 + j.val, by omega⟩ : ℝ) : EReal) := by
  rw [dq_rope_at]
  unfold dAll dqOf
  simp only [turned_at, dscores_real A, A.at3, ← EReal.coe_mul]
  rw [sum_real, Finset.sum_mul]
  exact congrArg _ (Finset.sum_congr rfl fun k _ => by rw [kOf_hi]; ring)

theorem dk_nope_real (h : Fin 8) (k : Fin 2048) (j : Fin 128) :
    transpose S1x2048x8x128 [0, 2, 1, 3] (Host.dotGeneral dot_S1x8x2048x2048_S1x2048x8x128_S1x8x2048x128_2_1_3_3_01_02 none (dAll x0 x1 x2 x3 x4 x5) x0)
      transposes_S1x8x2048x128_S1x2048x8x128_0_2_1_3 (ix4 0 k h j)
      = ((dkOf (qOf a0 a1) (kOf a2 a3) (vOf a4) (gOf a5) h k ⟨j.val, by omega⟩ : ℝ) : EReal) := by
  rw [dk_nope_at]
  unfold dAll dkOf
  simp only [dscores_real A, A.at0, ← EReal.coe_mul]
  rw [sum_real, Finset.sum_mul]
  exact congrArg _ (Finset.sum_congr rfl fun s _ => by rw [qOf_lo]; ring)

theorem dk_rope_real (k : Fin 2048) (j : Fin 64) :
    Host.dotGeneral dot_S1x2048x2048x8_S1x2048x8x64_S1x2048x64_23_12_1_3_0_0 none (turned (dAll x0 x1 x2 x3 x4 x5)) x1 (ix3 0 k j)
      = ((∑ h, dkOf (qOf a0 a1) (kOf a2 a3) (vOf a4) (gOf a5) h k ⟨128 + j.val, by omega⟩ : ℝ) : EReal) := by
  rw [dk_rope_at, Finset.sum_comm]
  unfold dAll dkOf
  simp only [turned_at, dscores_real A, A.at1, ← EReal.coe_mul, sum_real]
  refine congrArg _ (Finset.sum_congr rfl fun h _ => ?_)
  rw [Finset.sum_mul]
  exact Finset.sum_congr rfl fun s _ => by rw [qOf_hi]; ring

end Cert.ReferenceIdeal.Attn

end
-- ==== Proof.Attn.Pre.lean ====
/- The precondition read back: six arrays whose every absolute value is below infinity hold real numbers. -/
module

public import proofs.«01_k».proof.Defs
public import proofs.«01_k».proof.Proof.Attn.Real
public import Idealize.ShloMosaic.Lib.Pointwise

@[expose] public section

set_option maxRecDepth 16384

noncomputable section

namespace Cert.Attention

open Idealize.ShloMosaic Idealize.SL.Sem

theorem andi_one {a b : BitVec 1} (h : IntOp.andi a b = 1#1) : a = 1#1 ∧ b = 1#1 := by
  revert h; revert a b; decide

/-- A conjunction folded over a list that comes out true has only true members. -/
theorem fold_true {ι : Type} (f : ι → BitVec 1) (l : List ι) (a : BitVec 1)
    (h : l.foldl (fun r n => IntOp.andi r (f n)) a = 1#1) : a = 1#1 ∧ ∀ n ∈ l, f n = 1#1 := by
  induction l generalizing a with
  | nil => exact ⟨h, fun n hn => absurd hn (List.not_mem_nil)⟩
  | cons x l ih =>
    obtain ⟨h1, h2⟩ := ih _ h
    obtain ⟨h3, h4⟩ := andi_one h1
    refine ⟨h3, fun n hn => ?_⟩
    rcases List.mem_cons.mp hn with rfl | hn
    · exact h4
    · exact h2 n hn

/-- A conjunction over all of an array's elements that comes out true has only true elements. -/
theorem reduce_true {s t u : Shape} {axes : List (Fin s.rank)} (x : s.Idx → BitVec 1) (init : u.Idx → BitVec 1) (h : s.ReducesTo axes t)
    (hu : 0 < u.numel) (j : t.Idx) (ht : ∀ j' : t.Idx, j' = j) (e : Host.reduce IntOp.andi x init h hu j = 1#1) (i : s.Idx) : x i = 1#1 := by
  have h2 := (fold_true (fun n => x (s.rowMajor.symm n)) _ _ e).2 (s.rowMajor i)
    (List.mem_filter.mpr ⟨List.mem_finRange _, decide_eq_true (ht _)⟩)
  simpa using h2

/-- A number whose absolute value is below infinity is real. -/
theorem real_of_abs {x : EReal} (h : max x (-x) < ⊤) : ∃ r : ℝ, x = (r : EReal) := by
  refine ⟨x.toReal, (EReal.coe_toReal ?_ ?_).symm⟩
  · rintro rfl; simp at h
  · rintro rfl; simp at h

theorem real_of_cmp {s : Shape} {b : FVec Ideal s .f32} (hb : ∀ i, b i = (⊤ : EReal)) (x : FVec Ideal s .f32) (i : s.Idx)
    (h : cmpf .olt (Host.absf x) b i = 1#1) : ∃ r : ℝ, x i = (r : EReal) := by
  refine real_of_abs ?_
  rw [← hb i]
  by_contra hn
  have : cmpf .olt (Host.absf x) b i = BitVec.ofBool (decide (max (x i) (-(x i)) < b i)) := rfl
  rw [this, decide_eq_false hn] at h
  exact absurd h (by decide)

theorem no_axes (j j' : (⟨0, ![]⟩ : Shape).Idx) : j' = j := funext fun a => a.elim0

/-- What the precondition says of the six arguments. -/
theorem finite_real [Cert.Pre_finite.Facts] {x0 x1 x2 x3 x4 x5}
    (h : Cert.Pre_finite.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h0 := congrFun h (fun a => a.elim0)
  unfold Cert.Pre_finite.fn Cert.Pre_finite.fn_part1 at h0
  obtain ⟨h0, e5⟩ := andi_one h0
  obtain ⟨h0, e4⟩ := andi_one h0
  obtain ⟨h0, e3⟩ := andi_one h0
  obtain ⟨h0, e2⟩ := andi_one h0
  obtain ⟨e0, e1⟩ := andi_one h0
  exact ⟨fun i => real_of_cmp (fun _ => pinf_word) x0 i (reduce_true _ _ _ _ _ (no_axes _) e0 i),
    fun i => real_of_cmp (fun _ => pinf_word) x1 i (reduce_true _ _ _ _ _ (no_axes _) e1 i),
    fun i => real_of_cmp (fun _ => pinf_word) x2 i (reduce_true _ _ _ _ _ (no_axes _) e2 i),
    fun i => real_of_cmp (fun _ => pinf_word) x3 i (reduce_true _ _ _ _ _ (no_axes _) e3 i),
    fun i => real_of_cmp (fun _ => pinf_word) x4 i (reduce_true _ _ _ _ _ (no_axes _) e4 i),
    fun i => real_of_cmp (fun _ => pinf_word) x5 i (reduce_true _ _ _ _ _ (no_axes _) e5 i)⟩

end Cert.Attention

end
-- ==== Proof.Attn.Value.lean ====
/- The algebraic claim: both programs' five results are, element by element, the same real numbers. -/
module

public import proofs.«01_k».proof.Proof.Attn.Host
public import proofs.«01_k».proof.Proof.Attn.Ref
public import proofs.«01_k».proof.Proof.Attn.Pre
public import proofs.«01_k».proof.Proof.Attn.Frames

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (c : Dev nD)

/-- The scores' gradient of the arguments in `m`. -/
abbrev dArgs : FVec Ideal S1x8x2048x2048 .f32 :=
  dAll (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem res_dq_nope : res_out0 m c = transpose S1x2048x8x128 [0, 2, 1, 3]
    (Host.dotGeneral (φ₂ := .f32) dot_S1x8x2048x2048_S1x2048x8x128_S1x8x2048x128_3_1_2_3_01_02 none (dArgs m c) (m ((c.tc : Thread nD τ).loc main_arg2)))
    transposes_S1x8x2048x128_S1x2048x8x128_0_2_1_3 := by
  unfold res_out0 res_main_v63; rfl
theorem res_dq_rope : res_out1 m c = Host.dotGeneral (φ₂ := .f32) dot_S1x2048x2048x8_S1x2048x64_S1x2048x8x64_1_1_23_2_0_0 none (turned (dArgs m c))
    (m ((c.tc : Thread nD τ).loc main_arg3)) := by
  unfold res_out1 res_main_v58; rfl
theorem res_dk_nope : res_out2 m c = transpose S1x2048x8x128 [0, 2, 1, 3]
    (Host.dotGeneral (φ₂ := .f32) dot_S1x8x2048x2048_S1x2048x8x128_S1x8x2048x128_2_1_3_3_01_02 none (dArgs m c) (m ((c.tc : Thread nD τ).loc main_arg0)))
    transposes_S1x8x2048x128_S1x2048x8x128_0_2_1_3 := by
  unfold res_out2 res_main_v61; rfl
theorem res_dk_rope : res_out3 m c = Host.dotGeneral (φ₂ := .f32) dot_S1x2048x2048x8_S1x2048x8x64_S1x2048x64_23_12_1_3_0_0 none (turned (dArgs m c))
    (m ((c.tc : Thread nD τ).loc main_arg1)) := by
  unfold res_out3 res_main_v59; rfl

/-- The exponentials of the arguments' scores. -/
abbrev eArgs : FVec Ideal S1x8x2048x2048 .f32 :=
  exps (scores (m ((c.tc : Thread nD τ).loc main_arg0)) (m ((c.tc : Thread nD τ).loc main_arg1)) (m ((c.tc : Thread nD τ).loc main_arg2))
    (m ((c.tc : Thread nD τ).loc main_arg3)))

end Cert.ReferenceIdeal.Attn

namespace Cert.Proof

open Idealize.ShloMosaic Idealize.ShloMosaic.TcCoe Idealize.SL.Sem Cert.Attention

/-- On arguments that hold the same real numbers the two programs' results agree. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    {a0 a2 a4 : Fin 2048 → Fin 8 → Fin 128 → ℝ} {a1 : Fin 2048 → Fin 8 → Fin 64 → ℝ} {a3 : Fin 2048 → Fin 64 → ℝ} {a5 : Fin 2048 → Fin 1024 → ℝ}
    (A : Cert.KernelIdeal.Attn.Args m c a0 a1 a2 a3 a4 a5)
    (B : Cert.ReferenceIdeal.Attn.Args (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) a0 a1 a2 a3 a4 a5) :
    Cert.ReferenceIdeal.Value.res_out0 m' c = Cert.KernelIdeal.Gen.V5 m (Cert.KernelIdeal.Attn.outs m) c Cert.KernelIdeal.main_v21
    ∧ Cert.ReferenceIdeal.Value.res_out1 m' c = Cert.KernelIdeal.Gen.V5 m (Cert.KernelIdeal.Attn.outs m) c Cert.KernelIdeal.main_v22
    ∧ Cert.ReferenceIdeal.Value.res_out2 m' c = Cert.KernelIdeal.Gen.V5 m (Cert.KernelIdeal.Attn.outs m) c Cert.KernelIdeal.main_v23
    ∧ Cert.ReferenceIdeal.Value.res_out3 m' c = Cert.KernelIdeal.Gen.V5 m (Cert.KernelIdeal.Attn.outs m) c Cert.KernelIdeal.main_v25
    ∧ Cert.ReferenceIdeal.Attn.dvalues (m' ((c.tc : Thread Cert.ReferenceIdeal.nD Cert.ReferenceIdeal.τ).loc Cert.ReferenceIdeal.main_arg5))
        (Cert.ReferenceIdeal.Attn.eArgs m' c) (Cert.ReferenceIdeal.Attn.sums (Cert.ReferenceIdeal.Attn.eArgs m' c))
      = Cert.KernelIdeal.Gen.V5 m (Cert.KernelIdeal.Attn.outs m) c Cert.KernelIdeal.main_v26 := by
  refine ⟨?_, ?_, ?_, ?_, ?_⟩
  · funext i
    obtain ⟨z, s, h, j, rfl⟩ : ∃ (z : Fin 1) (s : Fin 2048) (h : Fin 8) (j : Fin 128), i = ix4 z s h j := ⟨i 0, i 1, i 2, i 3, eq_ix4 i⟩
    obtain rfl : z = 0 := Subsingleton.elim _ _
    refine ((congrFun (Cert.ReferenceIdeal.Attn.res_dq_nope m' c) _).trans (Cert.ReferenceIdeal.Attn.dq_nope_real B h s j)).trans ?_
    exact (Cert.KernelIdeal.Attn.dq_nope_at A s h j).symm
  · funext i
    obtain ⟨z, s, h, j, rfl⟩ : ∃ (z : Fin 1) (s : Fin 2048) (h : Fin 8) (j : Fin 64), i = ix4 z s h j := ⟨i 0, i 1, i 2, i 3, eq_ix4 i⟩
    obtain rfl : z = 0 := Subsingleton.elim _ _
    refine ((congrFun (Cert.ReferenceIdeal.Attn.res_dq_rope m' c) _).trans (Cert.ReferenceIdeal.Attn.dq_rope_real B h s j)).trans ?_
    exact (Cert.KernelIdeal.Attn.dq_rope_at A s h j).symm
  · funext i
    obtain ⟨z, s, h, j, rfl⟩ : ∃ (z : Fin 1) (s : Fin 2048) (h : Fin 8) (j : Fin 128), i = ix4 z s h j := ⟨i 0, i 1, i 2, i 3, eq_ix4 i⟩
    obtain rfl : z = 0 := Subsingleton.elim _ _
    refine ((congrFun (Cert.ReferenceIdeal.Attn.res_dk_nope m' c) _).trans (Cert.ReferenceIdeal.Attn.dk_nope_real B h s j)).trans ?_
    exact (Cert.KernelIdeal.Attn.dk_nope_at A s h j).symm
  · funext i
    obtain ⟨z, s, j, rfl⟩ : ∃ (z : Fin 1) (s : Fin 2048) (j : Fin 64), i = ix3 z s j := ⟨i 0, i 1, i 2, eq_ix3 i⟩
    obtain rfl : z = 0 := Subsingleton.elim _ _
    refine ((congrFun (Cert.ReferenceIdeal.Attn.res_dk_rope m' c) _).trans (Cert.ReferenceIdeal.Attn.dk_rope_real B s j)).trans ?_
    exact (Cert.KernelIdeal.Attn.dk_rope_at A s j).symm
  · funext i
    obtain ⟨z, s, h, j, rfl⟩ : ∃ (z : Fin 1) (s : Fin 2048) (h : Fin 8) (j : Fin 128), i = ix4 z s h j := ⟨i 0, i 1, i 2, i 3, eq_ix4 i⟩
    obtain rfl : z = 0 := Subsingleton.elim _ _
    refine (Cert.ReferenceIdeal.Attn.dvalues_real B h s j).trans ?_
    exact (Cert.KernelIdeal.Attn.dv_at A s h j).symm

/-- The precondition gives the arguments' real numbers. -/
theorem args_real (m : (ℓ : Loc Cert.KernelIdeal.nD Cert.KernelIdeal.τ Cert.KernelIdeal.sig) → Buf (Elt Ideal) ℓ) (h : Cert.Pre_KernelIdeal_finite m)
    (c : Dev Cert.KernelIdeal.nD) : ∃ a0 a1 a2 a3 a4 a5, Cert.KernelIdeal.Attn.Args m c a0 a1 a2 a3 a4 a5 := by
  obtain ⟨h0, h1, h2, h3, h4, h5⟩ := finite_real (h c)
  choose f0 e0 using h0
  choose f1 e1 using h1
  choose f2 e2 using h2
  choose f3 e3 using h3
  choose f4 e4 using h4
  choose f5 e5 using h5
  exact ⟨fun s h d => f0 (ix4 0 s h d), fun s h d => f1 (ix4 0 s h d), fun s h d => f2 (ix4 0 s h d), fun s d => f3 (ix3 0 s d),
    fun s h d => f4 (ix4 0 s h d), fun s n => f5 (ix3 0 s n),
    ⟨fun s h d => e0 _, fun s h d => e1 _, fun s h d => e2 _, fun s d => e3 _, fun s h d => e4 _, fun s n => e5 _⟩⟩

theorem algebraic : Cert.algebraic_KernelIdeal_ReferenceIdeal_pre_finite := by
  intro m g m' g' hpre hargs
  refine ⟨fun c => Cert.KernelIdeal.Gen.V5 m (Cert.KernelIdeal.Attn.outs m) c Cert.KernelIdeal.main_v21,
    fun c => Cert.KernelIdeal.Gen.V5 m (Cert.KernelIdeal.Attn.outs m) c Cert.KernelIdeal.main_v22,
    fun c => Cert.KernelIdeal.Gen.V5 m (Cert.KernelIdeal.Attn.outs m) c Cert.KernelIdeal.main_v23,
    fun c => Cert.KernelIdeal.Gen.V5 m (Cert.KernelIdeal.Attn.outs m) c Cert.KernelIdeal.main_v25,
    fun c => Cert.KernelIdeal.Gen.V5 m (Cert.KernelIdeal.Attn.outs m) c Cert.KernelIdeal.main_v26, ?_, ?_⟩
  · refine (θ_run Cert.KernelIdeal.defs _ _).mono (fun r hr c => ?_) (Cert.KernelIdeal.Attn.run_main m g)
    exact ⟨hr.1 c Cert.KernelIdeal.main_v21 rfl, hr.1 c Cert.KernelIdeal.main_v22 rfl, hr.1 c Cert.KernelIdeal.main_v23 rfl, hr.1 c Cert.KernelIdeal.main_v25 rfl, hr.1 c Cert.KernelIdeal.main_v26 rfl,
      (hr.1 c Cert.KernelIdeal.main_arg0 rfl).trans (Cert.KernelIdeal.Gen.V5_main_arg0 m (Cert.KernelIdeal.Attn.outs m) c),
      (hr.1 c Cert.KernelIdeal.main_arg1 rfl).trans (Cert.KernelIdeal.Gen.V5_main_arg1 m (Cert.KernelIdeal.Attn.outs m) c),
      (hr.1 c Cert.KernelIdeal.main_arg2 rfl).trans (Cert.KernelIdeal.Gen.V5_main_arg2 m (Cert.KernelIdeal.Attn.outs m) c),
      (hr.1 c Cert.KernelIdeal.main_arg3 rfl).trans (Cert.KernelIdeal.Gen.V5_main_arg3 m (Cert.KernelIdeal.Attn.outs m) c),
      (hr.1 c Cert.KernelIdeal.main_arg4 rfl).trans (Cert.KernelIdeal.Gen.V5_main_arg4 m (Cert.KernelIdeal.Attn.outs m) c),
      (hr.1 c Cert.KernelIdeal.main_arg5 rfl).trans (Cert.KernelIdeal.Gen.V5_main_arg5 m (Cert.KernelIdeal.Attn.outs m) c)⟩
  · refine (θ_run Cert.ReferenceIdeal.defs _ _).mono (fun r hr c => ?_) (Cert.ReferenceIdeal.Value.run m' g')
    obtain ⟨a0, a1, a2, a3, a4, a5, A⟩ := args_real m hpre c
    obtain ⟨q0, q1, q2, q3, q4, q5⟩ := hargs c
    have B : Cert.ReferenceIdeal.Attn.Args (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) a0 a1 a2 a3 a4 a5 :=
      ⟨fun s h d => (congrFun q0 _).trans (A.at0 s h d), fun s h d => (congrFun q1 _).trans (A.at1 s h d), fun s h d => (congrFun q2 _).trans (A.at2 s h d),
        fun s d => (congrFun q3 _).trans (A.at3 s d), fun s h d => (congrFun q4 _).trans (A.at4 s h d), fun s n => (congrFun q5 _).trans (A.at5 s n)⟩
    obtain ⟨p0, p1, p2, p3, p4⟩ := results_agree m m' c A B
    obtain ⟨r0, r1, r2, r3, r4, rest⟩ := hr c
    exact ⟨r0.trans p0, r1.trans p1, r2.trans p2, r3.trans p3, r4.trans p4, rest⟩

end Cert.Proof

end
-- ==== Proof.Prod.InProj.lean ====
/- The input projection: the array that the call leaves. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Prod

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

theorem idx : ∀ t : Fin cfg0.N, win0_0.index t = ![t.val / 21, 0] ∧ win0_1.index t = ![t.val % 21, 0] ∧ win0_2.index t = ![t.val / 21, t.val % 21] :=
  (by decide +kernel : ∀ t : Fin grid0.N, _)

/-- The rows of the first array against the rows of the second. -/
def byRows (a : FVec Ideal S2048x2048 .bf16) (b : FVec Ideal S10752x2048 .bf16) : FVec Ideal S2048x10752 .f32 :=
  fun y => (∑ k : Fin 2048, (a (ix2 (y 0) k) : EReal) * b (ix2 (y 1) k) : EReal)

theorem point (a : FVec Ideal S1024x2048 .bf16) (b : FVec Ideal S512x2048 .bf16) (y : S1024x512.Idx) :
    k0_pay2 (F := Ideal) a b y = (∑ k : Fin 2048, (a (ix2 (y 0) k) : EReal) * b (ix2 (y 1) k) : EReal) := by
  pointwise [k0_pay2, k0_pay1]

theorem final (c : Dev nD) : (dats m 0 c).arrAt 2 cfg0.N = byRows (V m c main_v0) (V m c main_v13) := by
  refine (dats m 0 c).arrAt_eq_of_covers 2 _ (by decide +kernel) fun t _ y => ?_
  blk_simp
  rw [after0_2]
  unfold outsAt0
  frame_out
  rw [point]
  unfold byRows
  blk_point [iblk, idx t]

end Cert.Kernel2Ideal.Prod

end
-- ==== Proof.Prod.Packed.lean ====
/- The order in which the kernels take the columns of the input projection's weight: the two gates, the two state inputs, the
   two latents, the three recurrence inputs, the rotary key and the decay's latent, then 64 columns of zeros. -/
module

public import Mathlib.Data.EReal.Operations
public import Mathlib.Algebra.BigOperators.Fin

@[expose] public section

set_option maxRecDepth 16384

namespace Cert.Packed

/-- The column of the weight that stands at place `j`, -/
def orig (j : ℕ) : ℕ :=
  if j < 4096 then 6592 + j
  else if j < 6144 then 4544 + (j - 4096)
  else if j < 7168 then j - 6144
  else if j < 10240 then 1088 + (j - 7168)
  else if j < 10304 then 1024 + (j - 10240)
  else 4160 + (j - 10304)

/-- and the place of the weight's column `i`. -/
def place (i : ℕ) : ℕ :=
  if i < 1024 then 6144 + i
  else if i < 1088 then 10240 + (i - 1024)
  else if i < 4160 then 7168 + (i - 1088)
  else if i < 4544 then 10304 + (i - 4160)
  else if i < 6592 then 4096 + (i - 4544)
  else i - 6592

theorem orig_lt {j : ℕ} (h : j < 10688) : orig j < 10688 := by unfold orig; split_ifs <;> omega
theorem place_lt {i : ℕ} (h : i < 10688) : place i < 10688 := by unfold place; split_ifs <;> omega
theorem orig_place {i : ℕ} (h : i < 10688) : orig (place i) = i := by unfold place; split_ifs <;> unfold orig <;> split_ifs <;> omega
theorem place_orig {j : ℕ} (h : j < 10688) : place (orig j) = j := by unfold orig; split_ifs <;> unfold place <;> split_ifs <;> omega

/-- The columns in the kernels' order, zeros at the end. -/
noncomputable def packed (f : Fin 10688 → EReal) (j : Fin 10752) : EReal :=
  if h : j.val < 10688 then f ⟨orig j.val, orig_lt h⟩ else 0

theorem packed_of_lt (f : Fin 10688 → EReal) (j : Fin 10752) (i : Fin 10688) (hj : j.val < 10688) (h : orig j.val = i.val) : packed f j = f i := by
  unfold packed
  rw [dif_pos hj]
  exact congrArg f (Fin.ext h)

/-- Ten pieces written one after another, the last one zeros, are the columns in that order. -/
theorem pieces (f : Fin 10688 → EReal) (j : Fin 10752) :
    (if h : j.val < 2048 then f ⟨6592 + j.val, by omega⟩
      else if h : j.val - 2048 < 2048 then f ⟨8640 + (j.val - 2048), by omega⟩
      else if h : j.val - 2048 - 2048 < 1024 then f ⟨4544 + (j.val - 2048 - 2048), by omega⟩
      else if h : j.val - 2048 - 2048 - 1024 < 1024 then f ⟨5568 + (j.val - 2048 - 2048 - 1024), by omega⟩
      else if h : j.val - 2048 - 2048 - 1024 - 1024 < 512 then f ⟨j.val - 2048 - 2048 - 1024 - 1024, by omega⟩
      else if h : j.val - 2048 - 2048 - 1024 - 1024 - 512 < 512 then f ⟨512 + (j.val - 2048 - 2048 - 1024 - 1024 - 512), by omega⟩
      else if h : j.val - 2048 - 2048 - 1024 - 1024 - 512 - 512 < 3072 then f ⟨1088 + (j.val - 2048 - 2048 - 1024 - 1024 - 512 - 512), by omega⟩
      else if h : j.val - 2048 - 2048 - 1024 - 1024 - 512 - 512 - 3072 < 64 then
        f ⟨1024 + (j.val - 2048 - 2048 - 1024 - 1024 - 512 - 512 - 3072), by omega⟩
      else if h : j.val - 2048 - 2048 - 1024 - 1024 - 512 - 512 - 3072 - 64 < 384 then
        f ⟨4160 + (j.val - 2048 - 2048 - 1024 - 1024 - 512 - 512 - 3072 - 64), by omega⟩
      else 0) = packed f j := by
  split_ifs <;> first
    | exact (packed_of_lt f j ⟨_, _⟩ (by omega) (by dsimp only; unfold orig; split_ifs <;> omega)).symm
    | (unfold packed; rw [dif_neg (by omega)])

/-- A sum over the places is the sum over the columns. -/
theorem sum_packed (f g : Fin 10688 → EReal) : (∑ j : Fin 10752, packed f j * packed g j) = ∑ i : Fin 10688, f i * g i := by
  symm
  refine Fintype.sum_of_injective (fun i : Fin 10688 => (⟨place i.val, (place_lt i.isLt).trans (by omega)⟩ : Fin 10752)) ?_ _ _ ?_ ?_
  · intro a b h
    have h' : place a.val = place b.val := congrArg Fin.val h
    exact Fin.ext ((orig_place a.isLt).symm.trans ((congrArg orig h').trans (orig_place b.isLt)))
  · intro j hj
    have : ¬ j.val < 10688 := fun h => hj ⟨⟨orig j.val, orig_lt h⟩, Fin.ext (place_orig h)⟩
    unfold packed
    rw [dif_neg this, zero_mul]
  · intro i
    rw [packed_of_lt f _ i (place_lt i.isLt) (orig_place i.isLt), packed_of_lt g _ i (place_lt i.isLt) (orig_place i.isLt)]

end Cert.Packed

end
-- ==== Proof.Prod.InProjHost.lean ====
/- The input projection: the host's reordering of the weight's columns and the nine results cut out of the product. -/
module

public import proofs.«01_k».proof.Proof.Prod.InProj
public import proofs.«01_k».proof.Proof.Prod.Packed
public import proofs.«01_k».proof.Proof.Gen.Reference2Ideal.Run

@[expose] public section

set_option maxRecDepth 65536

noncomputable section

namespace Cert.Kernel2Ideal.Prod

open Idealize.ShloMosaic Idealize.ShloMosaic.TcCoe Idealize.SL.Sem
open Idealize.ShloMosaic.Pipeline (Dat)
open Cert.Kernel2Ideal Cert.Kernel2Ideal.Gen

/-- The weight as rows, and its rows in the order the kernel takes them, with 64 rows of zeros at the end. -/
def rowsOf (w : FVec Ideal S2048x10688 .f32) : FVec Ideal S10688x2048 .bf16 :=
  truncf .bf16 (transpose S10688x2048 [1, 0] w transposes_S2048x10688_S10688x2048_1_0) bitsLt_bf16_f32

def packW (w : FVec Ideal S2048x10688 .f32) : FVec Ideal S10752x2048 .bf16 :=
  concatenate S10752x2048 0 [
    ⟨S2048x2048, extractStridedSlice S2048x2048 ![6592, 0] (rowsOf w) slices_S10688x2048_S2048x2048_6592_0⟩,
    ⟨S2048x2048, extractStridedSlice S2048x2048 ![8640, 0] (rowsOf w) slices_S10688x2048_S2048x2048_8640_0⟩,
    ⟨S1024x2048, extractStridedSlice S1024x2048 ![4544, 0] (rowsOf w) slices_S10688x2048_S1024x2048_4544_0⟩,
    ⟨S1024x2048, extractStridedSlice S1024x2048 ![5568, 0] (rowsOf w) slices_S10688x2048_S1024x2048_5568_0⟩,
    ⟨S512x2048, extractStridedSlice S512x2048 ![0, 0] (rowsOf w) slices_S10688x2048_S512x2048_0_0⟩,
    ⟨S512x2048, extractStridedSlice S512x2048 ![512, 0] (rowsOf w) slices_S10688x2048_S512x2048_512_0⟩,
    ⟨S3072x2048, extractStridedSlice S3072x2048 ![1088, 0] (rowsOf w) slices_S10688x2048_S3072x2048_1088_0⟩,
    ⟨S64x2048, extractStridedSlice S64x2048 ![1024, 0] (rowsOf w) slices_S10688x2048_S64x2048_1024_0⟩,
    ⟨S384x2048, extractStridedSlice S384x2048 ![4160, 0] (rowsOf w) slices_S10688x2048_S384x2048_4160_0⟩,
    ⟨S64x2048, broadcastInDim S64x2048 ![] bcast_S_S64x2048 (constant S_ .bf16 0x0000#16)⟩]
    concatenates_S2048x2048_S2048x2048_S1024x2048_S1024x2048_S512x2048_S512x2048_S3072x2048_S64x2048_S384x2048_S64x2048_S10752x2048_d0

section

variable (m : (ℓ : Loc nD τ sig) → Buf (Elt Ideal) ℓ) (c : Dev nD)

theorem V_rows : V m c main_v0 = (m ((c.tc : Thread nD τ).loc main_arg0) : FVec Ideal S2048x2048 .f32) := by
  entry_read
  rfl

theorem V_packed : V m c main_v13 = packW (m ((c.tc : Thread nD τ).loc main_arg1)) := by
  entry_read
  rfl

end

variable (w : FVec Ideal S2048x10688 .f32) (k : Fin 2048)

theorem rowsOf_at (i : Fin 10688) : rowsOf w (ix2 i k) = w (ix2 k i) := by
  pointwise [rowsOf]

theorem packW_at (j : Fin 10752) : packW w (ix2 j k) = Packed.packed (fun i => w (ix2 k i)) j := by
  pointwise [packW]
  simp only [rowsOf_at]
  exact Packed.pieces (fun i => w (ix2 k i)) j

variable (x : FVec Ideal S2048x2048 .f32)

/-! Each result is the same columns of the plain product. -/

theorem cols_q_a : extractStridedSlice S2048x512 ![0, 6144] (byRows x (packW w)) slices_S2048x10752_S2048x512_0_6144
    = extractStridedSlice S2048x512 ![0, 0] (Host.dotGeneral (φ₂ := .f32) Cert.Reference2Ideal.dot_S2048x2048_S2048x10688_S2048x10688_1_0_0_1_n_n none x w)
        Cert.Reference2Ideal.Gen.slices_S2048x10688_S2048x512_0_0 := by
  funext i
  obtain ⟨s, j, rfl⟩ : ∃ (s : Fin 2048) (j : Fin 512), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

theorem cols_kv_a : extractStridedSlice S2048x512 ![0, 6656] (byRows x (packW w)) slices_S2048x10752_S2048x512_0_6656
    = extractStridedSlice S2048x512 ![0, 512] (Host.dotGeneral (φ₂ := .f32) Cert.Reference2Ideal.dot_S2048x2048_S2048x10688_S2048x10688_1_0_0_1_n_n none x w)
        Cert.Reference2Ideal.Gen.slices_S2048x10688_S2048x512_0_512 := by
  funext i
  obtain ⟨s, j, rfl⟩ : ∃ (s : Fin 2048) (j : Fin 512), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

theorem cols_k_rope : extractStridedSlice S2048x64 ![0, 10240] (byRows x (packW w)) slices_S2048x10752_S2048x64_0_10240
    = extractStridedSlice S2048x64 ![0, 1024] (Host.dotGeneral (φ₂ := .f32) Cert.Reference2Ideal.dot_S2048x2048_S2048x10688_S2048x10688_1_0_0_1_n_n none x w)
        Cert.Reference2Ideal.Gen.slices_S2048x10688_S2048x64_0_1024 := by
  funext i
  obtain ⟨s, j, rfl⟩ : ∃ (s : Fin 2048) (j : Fin 64), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

theorem cols_rkv : extractStridedSlice S2048x3072 ![0, 7168] (byRows x (packW w)) slices_S2048x10752_S2048x3072_0_7168
    = extractStridedSlice S2048x3072 ![0, 1088] (Host.dotGeneral (φ₂ := .f32) Cert.Reference2Ideal.dot_S2048x2048_S2048x10688_S2048x10688_1_0_0_1_n_n none x w)
        Cert.Reference2Ideal.Gen.slices_S2048x10688_S2048x3072_0_1088 := by
  funext i
  obtain ⟨s, j, rfl⟩ : ∃ (s : Fin 2048) (j : Fin 3072), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

theorem cols_lora : extractStridedSlice S2048x384 ![0, 10304] (byRows x (packW w)) slices_S2048x10752_S2048x384_0_10304
    = extractStridedSlice S2048x384 ![0, 4160] (Host.dotGeneral (φ₂ := .f32) Cert.Reference2Ideal.dot_S2048x2048_S2048x10688_S2048x10688_1_0_0_1_n_n none x w)
        Cert.Reference2Ideal.Gen.slices_S2048x10688_S2048x384_0_4160 := by
  funext i
  obtain ⟨s, j, rfl⟩ : ∃ (s : Fin 2048) (j : Fin 384), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

theorem cols_z_m : extractStridedSlice S2048x1024 ![0, 4096] (byRows x (packW w)) slices_S2048x10752_S2048x1024_0_4096
    = extractStridedSlice S2048x1024 ![0, 4544] (Host.dotGeneral (φ₂ := .f32) Cert.Reference2Ideal.dot_S2048x2048_S2048x10688_S2048x10688_1_0_0_1_n_n none x w)
        Cert.Reference2Ideal.Gen.slices_S2048x10688_S2048x1024_0_4544 := by
  funext i
  obtain ⟨s, j, rfl⟩ : ∃ (s : Fin 2048) (j : Fin 1024), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

theorem cols_z_r : extractStridedSlice S2048x1024 ![0, 5120] (byRows x (packW w)) slices_S2048x10752_S2048x1024_0_5120
    = extractStridedSlice S2048x1024 ![0, 5568] (Host.dotGeneral (φ₂ := .f32) Cert.Reference2Ideal.dot_S2048x2048_S2048x10688_S2048x10688_1_0_0_1_n_n none x w)
        Cert.Reference2Ideal.Gen.slices_S2048x10688_S2048x1024_0_5568 := by
  funext i
  obtain ⟨s, j, rfl⟩ : ∃ (s : Fin 2048) (j : Fin 1024), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

theorem cols_gate_m : extractStridedSlice S2048x2048 ![0, 0] (byRows x (packW w)) slices_S2048x10752_S2048x2048_0_0
    = extractStridedSlice S2048x2048 ![0, 6592] (Host.dotGeneral (φ₂ := .f32) Cert.Reference2Ideal.dot_S2048x2048_S2048x10688_S2048x10688_1_0_0_1_n_n none x w)
        Cert.Reference2Ideal.Gen.slices_S2048x10688_S2048x2048_0_6592 := by
  funext i
  obtain ⟨s, j, rfl⟩ : ∃ (s : Fin 2048) (j : Fin 2048), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

theorem cols_gate_r : extractStridedSlice S2048x2048 ![0, 2048] (byRows x (packW w)) slices_S2048x10752_S2048x2048_0_2048
    = extractStridedSlice S2048x2048 ![0, 8640] (Host.dotGeneral (φ₂ := .f32) Cert.Reference2Ideal.dot_S2048x2048_S2048x10688_S2048x10688_1_0_0_1_n_n none x w)
        Cert.Reference2Ideal.Gen.slices_S2048x10688_S2048x2048_0_8640 := by
  funext i
  obtain ⟨s, j, rfl⟩ : ∃ (s : Fin 2048) (j : Fin 2048), i = ix2 s j := ⟨i 0, i 1, eq_ix2 i⟩
  pointwise [byRows]
  refine Finset.sum_congr rfl fun k _ => congrArg (x (ix2 s k) * ·) ?_
  refine (packW_at w k _).trans ?_
  exact Packed.packed_of_lt _ _ _ (by dsimp only; omega) (by dsimp only; unfold Packed.orig; split_ifs <;> omega)

end Cert.Kernel2Ideal.Prod

end
-- ==== Proof.Prod.InProjValue.lean ====
/- The input projection: the run of the call with the host's operations around it, and the claim. -/
module

public import proofs.«01_k».proof.Defs
public import proofs.«01_k».proof.Proof.Prod.InProjHost

@[expose] public section

set_option maxRecDepth 16384

noncomputable section

namespace Cert.Kernel2Ideal.Prod

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg)

/-- The product that the region leaves. -/
def product (c : Dev nD) : FVec Ideal S2048x10752 .f32 :=
  byRows (m ((c.tc : Thread nD τ).loc main_arg0) : FVec Ideal S2048x2048 .f32) (packW (m ((c.tc : Thread nD τ).loc main_arg1)))

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v14) = product m c := by
  refine (Pipeline.withArrays_arr (cfgs 0).spec arrays_distinct c (V0 m c) (fun w => (dats m 0 c).arrAt w (cfgs 0).N) 2).trans ?_
  refine (final m c).trans ?_
  rw [V_rows, V_packed]
  rfl

theorem result_q_a (c : Dev nD) : Pipeline.afterTail₀ cfgs (dats m) 0 (V0 m) [hostOps1] c main_v15
    = extractStridedSlice S2048x512 ![0, 6144] (product m c) slices_S2048x10752_S2048x512_0_6144 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v15) = _
  after_results

theorem result_kv_a (c : Dev nD) : Pipeline.afterTail₀ cfgs (dats m) 0 (V0 m) [hostOps1] c main_v16
    = extractStridedSlice S2048x512 ![0, 6656] (product m c) slices_S2048x10752_S2048x512_0_6656 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v16) = _
  after_results

theorem result_k_rope (c : Dev nD) : Pipeline.afterTail₀ cfgs (dats m) 0 (V0 m) [hostOps1] c main_v17
    = extractStridedSlice S2048x64 ![0, 10240] (product m c) slices_S2048x10752_S2048x64_0_10240 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v17) = _
  after_results

theorem result_rkv (c : Dev nD) : Pipeline.afterTail₀ cfgs (dats m) 0 (V0 m) [hostOps1] c main_v18
    = extractStridedSlice S2048x3072 ![0, 7168] (product m c) slices_S2048x10752_S2048x3072_0_7168 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v18) = _
  after_results

theorem result_lora (c : Dev nD) : Pipeline.afterTail₀ cfgs (dats m) 0 (V0 m) [hostOps1] c main_v19
    = extractStridedSlice S2048x384 ![0, 10304] (product m c) slices_S2048x10752_S2048x384_0_10304 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v19) = _
  after_results

theorem result_z_m (c : Dev nD) : Pipeline.afterTail₀ cfgs (dats m) 0 (V0 m) [hostOps1] c main_v20
    = extractStridedSlice S2048x1024 ![0, 4096] (product m c) slices_S2048x10752_S2048x1024_0_4096 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v20) = _
  after_results

theorem result_z_r (c : Dev nD) : Pipeline.afterTail₀ cfgs (dats m) 0 (V0 m) [hostOps1] c main_v21
    = extractStridedSlice S2048x1024 ![0, 5120] (product m c) slices_S2048x10752_S2048x1024_0_5120 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v21) = _
  after_results

theorem result_gate_m (c : Dev nD) : Pipeline.afterTail₀ cfgs (dats m) 0 (V0 m) [hostOps1] c main_v22
    = extractStridedSlice S2048x2048 ![0, 0] (product m c) slices_S2048x10752_S2048x2048_0_0 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v22) = _
  after_results

theorem result_gate_r (c : Dev nD) : Pipeline.afterTail₀ cfgs (dats m) 0 (V0 m) [hostOps1] c main_v23
    = extractStridedSlice S2048x2048 ![0, 2048] (product m c) slices_S2048x10752_S2048x2048_0_2048 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v23) = _
  after_results

end Cert.Kernel2Ideal.Prod

namespace Cert.Proof

open Idealize.ShloMosaic Idealize.ShloMosaic.TcCoe Idealize.SL.Sem

theorem algebraic2 : Cert.algebraic_Kernel2Ideal_Reference2Ideal := by
  intro m g m' g' _ hargs
  refine ⟨fun c => extractStridedSlice Cert.Kernel2Ideal.S2048x512 ![0, 6144] (Cert.Kernel2Ideal.Prod.product m c) Cert.Kernel2Ideal.Gen.slices_S2048x10752_S2048x512_0_6144,
    fun c => extractStridedSlice Cert.Kernel2Ideal.S2048x512 ![0, 6656] (Cert.Kernel2Ideal.Prod.product m c) Cert.Kernel2Ideal.Gen.slices_S2048x10752_S2048x512_0_6656,
    fun c => extractStridedSlice Cert.Kernel2Ideal.S2048x64 ![0, 10240] (Cert.Kernel2Ideal.Prod.product m c) Cert.Kernel2Ideal.Gen.slices_S2048x10752_S2048x64_0_10240,
    fun c => extractStridedSlice Cert.Kernel2Ideal.S2048x3072 ![0, 7168] (Cert.Kernel2Ideal.Prod.product m c) Cert.Kernel2Ideal.Gen.slices_S2048x10752_S2048x3072_0_7168,
    fun c => extractStridedSlice Cert.Kernel2Ideal.S2048x384 ![0, 10304] (Cert.Kernel2Ideal.Prod.product m c) Cert.Kernel2Ideal.Gen.slices_S2048x10752_S2048x384_0_10304,
    fun c => extractStridedSlice Cert.Kernel2Ideal.S2048x1024 ![0, 4096] (Cert.Kernel2Ideal.Prod.product m c) Cert.Kernel2Ideal.Gen.slices_S2048x10752_S2048x1024_0_4096,
    fun c => extractStridedSlice Cert.Kernel2Ideal.S2048x1024 ![0, 5120] (Cert.Kernel2Ideal.Prod.product m c) Cert.Kernel2Ideal.Gen.slices_S2048x10752_S2048x1024_0_5120,
    fun c => extractStridedSlice Cert.Kernel2Ideal.S2048x2048 ![0, 0] (Cert.Kernel2Ideal.Prod.product m c) Cert.Kernel2Ideal.Gen.slices_S2048x10752_S2048x2048_0_0,
    fun c => extractStridedSlice Cert.Kernel2Ideal.S2048x2048 ![0, 2048] (Cert.Kernel2Ideal.Prod.product m c) Cert.Kernel2Ideal.Gen.slices_S2048x10752_S2048x2048_0_2048, ?_, ?_⟩
  · refine (θ_run Cert.Kernel2Ideal.defs _ _).mono (fun r hr c => ?_)
      (θ_run_and (Cert.Kernel2Ideal.Gen.run_main m g) (Cert.Kernel2Ideal.Gen.unchanged m g))
    obtain ⟨h, hu⟩ := hr
    exact ⟨((h c).2 Cert.Kernel2Ideal.main_v15 (Pipeline.mem_restRefs_of _ (by decide) (by decide))).trans (Cert.Kernel2Ideal.Prod.result_q_a m c),
      ((h c).2 Cert.Kernel2Ideal.main_v16 (Pipeline.mem_restRefs_of _ (by decide) (by decide))).trans (Cert.Kernel2Ideal.Prod.result_kv_a m c),
      ((h c).2 Cert.Kernel2Ideal.main_v17 (Pipeline.mem_restRefs_of _ (by decide) (by decide))).trans (Cert.Kernel2Ideal.Prod.result_k_rope m c),
      ((h c).2 Cert.Kernel2Ideal.main_v18 (Pipeline.mem_restRefs_of _ (by decide) (by decide))).trans (Cert.Kernel2Ideal.Prod.result_rkv m c),
      ((h c).2 Cert.Kernel2Ideal.main_v19 (Pipeline.mem_restRefs_of _ (by decide) (by decide))).trans (Cert.Kernel2Ideal.Prod.result_lora m c),
      ((h c).2 Cert.Kernel2Ideal.main_v20 (Pipeline.mem_restRefs_of _ (by decide) (by decide))).trans (Cert.Kernel2Ideal.Prod.result_z_m m c),
      ((h c).2 Cert.Kernel2Ideal.main_v21 (Pipeline.mem_restRefs_of _ (by decide) (by decide))).trans (Cert.Kernel2Ideal.Prod.result_z_r m c),
      ((h c).2 Cert.Kernel2Ideal.main_v22 (Pipeline.mem_restRefs_of _ (by decide) (by decide))).trans (Cert.Kernel2Ideal.Prod.result_gate_m m c),
      ((h c).2 Cert.Kernel2Ideal.main_v23 (Pipeline.mem_restRefs_of _ (by decide) (by decide))).trans (Cert.Kernel2Ideal.Prod.result_gate_r m c),
      (hu c).1, (hu c).2⟩
  · refine (θ_run Cert.Reference2Ideal.defs _ _).mono (fun r hr c => ?_) (Cert.Reference2Ideal.Value.run m' g')
    obtain ⟨q0, q1⟩ := hargs c
    obtain ⟨r0, r1, r2, r3, r4, r5, r6, r7, r8, rest⟩ := hr c
    rw [q0, q1] at r0 r1 r2 r3 r4 r5 r6 r7 r8
    exact ⟨r0.trans (Cert.Kernel2Ideal.Prod.cols_q_a _ _).symm,
      r1.trans (Cert.Kernel2Ideal.Prod.cols_kv_a _ _).symm,
      r2.trans (Cert.Kernel2Ideal.Prod.cols_k_rope _ _).symm,
      r3.trans (Cert.Kernel2Ideal.Prod.cols_rkv _ _).symm,
      r4.trans (Cert.Kernel2Ideal.Prod.cols_lora _ _).symm,
      r5.trans (Cert.Kernel2Ideal.Prod.cols_z_m _ _).symm,
      r6.trans (Cert.Kernel2Ideal.Prod.cols_z_r _ _).symm,
      r7.trans (Cert.Kernel2Ideal.Prod.cols_gate_m _ _).symm,
      r8.trans (Cert.Kernel2Ideal.Prod.cols_gate_r _ _).symm, rest⟩

end Cert.Proof

end
-- ==== Proof.Prod.GradW.lean ====
/- The gradient of the input projection's weight: the array that the call leaves. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.Prod

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The columns of the first array against the columns of the second. -/
def byColumns (a : FVec Ideal S2048x10752 .bf16) (b : FVec Ideal S2048x2048 .bf16) : FVec Ideal S10752x2048 .bf16 :=
  fun y => (∑ k : Fin 2048, (a (ix2 k (y 0)) : EReal) * b (ix2 k (y 1)) : EReal)

theorem point (a : FVec Ideal S2048x896 .bf16) (b : FVec Ideal S2048x1024 .bf16) (y : S896x1024.Idx) :
    k0_pay4 (F := Ideal) (k0_pay2 (F := Ideal) a b) y = (∑ k : Fin 2048, (a (ix2 k (y 0)) : EReal) * b (ix2 k (y 1)) : EReal) := by
  pointwise [k0_pay4, k0_pay2, k0_pay1]

theorem final (c : Dev nD) : (dats m 0 c).arrAt 2 cfg0.N = byColumns (V m c main_v11) (V m c main_v12) := by
  refine (dats m 0 c).arrAt_eq_of_covers 2 _ (by decide +kernel) fun t _ y => ?_
  blk_simp
  rw [after0_2]
  unfold outsAt0
  frame_out
  rw [point]
  unfold byColumns
  blk_point [iblk, idx t]

end Cert.Kernel3Ideal.Prod

end
-- ==== Proof.Prod.GradWHost.lean ====
/- The gradient of the input projection's weight: the host's reordering of the cotangent's columns, and the product's rows put
   back in the weight's own order. -/
module

public import proofs.«01_k».proof.Proof.Prod.GradW
public import proofs.«01_k».proof.Proof.Prod.Packed
public import proofs.«01_k».proof.Proof.Gen.Reference3Ideal.Run

@[expose] public section

set_option maxRecDepth 65536

noncomputable section

namespace Cert.Kernel3Ideal.Prod

open Idealize.ShloMosaic Idealize.ShloMosaic.TcCoe Idealize.SL.Sem
open Cert.Kernel3Ideal Cert.Kernel3Ideal.Gen

/-- The cotangent's columns in the order the kernel takes them, with 64 columns of zeros at the end. -/
def packD (d : FVec Ideal S2048x10688 .f32) : FVec Ideal S2048x10752 .bf16 :=
  truncf .bf16 (concatenate S2048x10752 1 [
    ⟨S2048x2048, extractStridedSlice S2048x2048 ![0, 6592] d slices_S2048x10688_S2048x2048_0_6592⟩,
    ⟨S2048x2048, extractStridedSlice S2048x2048 ![0, 8640] d slices_S2048x10688_S2048x2048_0_8640⟩,
    ⟨S2048x1024, extractStridedSlice S2048x1024 ![0, 4544] d slices_S2048x10688_S2048x1024_0_4544⟩,
    ⟨S2048x1024, extractStridedSlice S2048x1024 ![0, 5568] d slices_S2048x10688_S2048x1024_0_5568⟩,
    ⟨S2048x512, extractStridedSlice S2048x512 ![0, 0] d slices_S2048x10688_S2048x512_0_0⟩,
    ⟨S2048x512, extractStridedSlice S2048x512 ![0, 512] d slices_S2048x10688_S2048x512_0_512⟩,
    ⟨S2048x3072, extractStridedSlice S2048x3072 ![0, 1088] d slices_S2048x10688_S2048x3072_0_1088⟩,
    ⟨S2048x64, extractStridedSlice S2048x64 ![0, 1024] d slices_S2048x10688_S2048x64_0_1024⟩,
    ⟨S2048x384, extractStridedSlice S2048x384 ![0, 4160] d slices_S2048x10688_S2048x384_0_4160⟩,
    ⟨S2048x64, broadcastInDim S2048x64 ![] bcast_S_S2048x64 (constant S_ .f32 0x00000000#32)⟩]
    concatenates_S2048x2048_S2048x2048_S2048x1024_S2048x1024_S2048x512_S2048x512_S2048x3072_S2048x64_S2048x384_S2048x64_S2048x10752_d1) bitsLt_bf16_f32

/-- The nine pieces of the product's rows, -/
def parts (g : FVec Ideal S10752x2048 .bf16) : List ((s : Shape) × (s.Idx → Ideal .bf16)) :=
  [
    ⟨S512x2048, extractStridedSlice S512x2048 ![6144, 0] g slices_S10752x2048_S512x2048_6144_0⟩,
    ⟨S512x2048, extractStridedSlice S512x2048 ![6656, 0] g slices_S10752x2048_S512x2048_6656_0⟩,
    ⟨S64x2048, extractStridedSlice S64x2048 ![10240, 0] g slices_S10752x2048_S64x2048_10240_0⟩,
    ⟨S3072x2048, extractStridedSlice S3072x2048 ![7168, 0] g slices_S10752x2048_S3072x2048_7168_0⟩,
    ⟨S384x2048, extractStridedSlice S384x2048 ![10304, 0] g slices_S10752x2048_S384x2048_10304_0⟩,
    ⟨S1024x2048, extractStridedSlice S1024x2048 ![4096, 0] g slices_S10752x2048_S1024x2048_4096_0⟩,
    ⟨S1024x2048, extractStridedSlice S1024x2048 ![5120, 0] g slices_S10752x2048_S1024x2048_5120_0⟩,
    ⟨S2048x2048, extractStridedSlice S2048x2048 ![0, 0] g slices_S10752x2048_S2048x2048_0_0⟩,
    ⟨S2048x2048, extractStridedSlice S2048x2048 ![2048, 0] g slices_S10752x2048_S2048x2048_2048_0⟩]

/-- the rows put back, -/
def restored (g : FVec Ideal S10752x2048 .bf16) : FVec Ideal S10688x2048 .bf16 :=
  concatenate S10688x2048 0 (parts g) concatenates_S512x2048_S512x2048_S64x2048_S3072x2048_S384x2048_S1024x2048_S1024x2048_S2048x2048_S2048x2048_S10688x2048_d0

/-- and what the host returns. -/
def tail (g : FVec Ideal S10752x2048 .bf16) : FVec Ideal S2048x10688 .f32 :=
  extf .f32 (transpose S2048x10688 [1, 0] (shapeCast S10688x2048 (shapeCast S8x1336x2048 (restored g) shapeCasts_S10688x2048_S8x1336x2048)
    shapeCasts_S8x1336x2048_S10688x2048) transposes_S10688x2048_S2048x10688_1_0) bitsLt_bf16_f32

section

variable (m : (ℓ : Loc nD τ sig) → Buf (Elt Ideal) ℓ) (c : Dev nD)

theorem V_packed : V m c main_v11 = packD (m ((c.tc : Thread nD τ).loc main_arg2)) := by
  entry_read
  rfl

theorem V_rows : V m c main_v12 = (m ((c.tc : Thread nD τ).loc main_arg0) : FVec Ideal S2048x2048 .f32) := by
  entry_read
  rfl

end

variable (d : FVec Ideal S2048x10688 .f32) (x : FVec Ideal S2048x2048 .f32) (g : FVec Ideal S10752x2048 .bf16)

set_option maxHeartbeats 1000000 in
theorem packD_at (k : Fin 2048) (j : Fin 10752) : packD d (ix2 k j) = Packed.packed (fun i => d (ix2 k i)) j := by
  pointwise [packD]
  exact Packed.pieces (fun i => d (ix2 k i)) j

theorem restored_q_a (i : Fin 512) (k : Fin 2048) :
    restored g (ix2 ⟨0 + i.val, by omega⟩ k) = g (ix2 ⟨6144 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 0 (show 0 < 9 by decide) S512x2048 (extractStridedSlice S512x2048 ![6144, 0] g slices_S10752x2048_S512x2048_6144_0) rfl rfl 0 rfl (ix2 i k) ?_ rfl).trans ?_
  · intro b hb
    match b with
    | 0 => exact absurd rfl hb
    | 1 => rfl
  · pointwise []

theorem restored_kv_a (i : Fin 512) (k : Fin 2048) :
    restored g (ix2 ⟨512 + i.val, by omega⟩ k) = g (ix2 ⟨6656 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 1 (show 1 < 9 by decide) S512x2048 (extractStridedSlice S512x2048 ![6656, 0] g slices_S10752x2048_S512x2048_6656_0) rfl rfl 512 rfl (ix2 i k) ?_ rfl).trans ?_
  · intro b hb
    match b with
    | 0 => exact absurd rfl hb
    | 1 => rfl
  · pointwise []

theorem restored_k_rope (i : Fin 64) (k : Fin 2048) :
    restored g (ix2 ⟨1024 + i.val, by omega⟩ k) = g (ix2 ⟨10240 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 2 (show 2 < 9 by decide) S64x2048 (extractStridedSlice S64x2048 ![10240, 0] g slices_S10752x2048_S64x2048_10240_0) rfl rfl 1024 rfl (ix2 i k) ?_ rfl).trans ?_
  · intro b hb
    match b with
    | 0 => exact absurd rfl hb
    | 1 => rfl
  · pointwise []

theorem restored_rkv (i : Fin 3072) (k : Fin 2048) :
    restored g (ix2 ⟨1088 + i.val, by omega⟩ k) = g (ix2 ⟨7168 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 3 (show 3 < 9 by decide) S3072x2048 (extractStridedSlice S3072x2048 ![7168, 0] g slices_S10752x2048_S3072x2048_7168_0) rfl rfl 1088 rfl (ix2 i k) ?_ rfl).trans ?_
  · intro b hb
    match b with
    | 0 => exact absurd rfl hb
    | 1 => rfl
  · pointwise []

theorem restored_lora (i : Fin 384) (k : Fin 2048) :
    restored g (ix2 ⟨4160 + i.val, by omega⟩ k) = g (ix2 ⟨10304 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 4 (show 4 < 9 by decide) S384x2048 (extractStridedSlice S384x2048 ![10304, 0] g slices_S10752x2048_S384x2048_10304_0) rfl rfl 4160 rfl (ix2 i k) ?_ rfl).trans ?_
  · intro b hb
    match b with
    | 0 => exact absurd rfl hb
    | 1 => rfl
  · pointwise []

theorem restored_z_m (i : Fin 1024) (k : Fin 2048) :
    restored g (ix2 ⟨4544 + i.val, by omega⟩ k) = g (ix2 ⟨4096 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 5 (show 5 < 9 by decide) S1024x2048 (extractStridedSlice S1024x2048 ![4096, 0] g slices_S10752x2048_S1024x2048_4096_0) rfl rfl 4544 rfl (ix2 i k) ?_ rfl).trans ?_
  · intro b hb
    match b with
    | 0 => exact absurd rfl hb
    | 1 => rfl
  · pointwise []

theorem restored_z_r (i : Fin 1024) (k : Fin 2048) :
    restored g (ix2 ⟨5568 + i.val, by omega⟩ k) = g (ix2 ⟨5120 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 6 (show 6 < 9 by decide) S1024x2048 (extractStridedSlice S1024x2048 ![5120, 0] g slices_S10752x2048_S1024x2048_5120_0) rfl rfl 5568 rfl (ix2 i k) ?_ rfl).trans ?_
  · intro b hb
    match b with
    | 0 => exact absurd rfl hb
    | 1 => rfl
  · pointwise []

theorem restored_gate_m (i : Fin 2048) (k : Fin 2048) :
    restored g (ix2 ⟨6592 + i.val, by omega⟩ k) = g (ix2 ⟨0 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 7 (show 7 < 9 by decide) S2048x2048 (extractStridedSlice S2048x2048 ![0, 0] g slices_S10752x2048_S2048x2048_0_0) rfl rfl 6592 rfl (ix2 i k) ?_ rfl).trans ?_
  · intro b hb
    match b with
    | 0 => exact absurd rfl hb
    | 1 => rfl
  · pointwise []

set_option maxHeartbeats 2000000 in
theorem restored_gate_r (i : Fin 2048) (k : Fin 2048) :
    restored g (ix2 ⟨8640 + i.val, by omega⟩ k) = g (ix2 ⟨2048 + i.val, by omega⟩ k) := by
  unfold restored
  refine (concatenate_apply_piece (t := S10688x2048) 0 (parts g) concatenates_S512x2048_S512x2048_S64x2048_S3072x2048_S384x2048_S1024x2048_S1024x2048_S2048x2048_S2048x2048_S10688x2048_d0
    _ 8 (show 8 < 9 by decide) S2048x2048 (extractStridedSlice S2048x2048 ![2048, 0] g slices_S10752x2048_S2048x2048_2048_0) rfl rfl 8640 rfl (ix2 i k) ?_ rfl).trans ?_
  · intro b hb
    match b with
    | 0 => exact absurd rfl hb
    | 1 => rfl
  · pointwise []

theorem restored_at (i : Fin 10688) (k : Fin 2048) :
    restored g (ix2 i k) = g (ix2 ⟨Packed.place i.val, (Packed.place_lt i.isLt).trans (by omega)⟩ k) := by
  have key : ∀ (o p n : ℕ) (hi : o ≤ i.val ∧ i.val < o + n) (ho : o + n ≤ 10688) (hp : p + n ≤ 10752)
      (_ : ∀ j : Fin n, restored g (ix2 ⟨o + j.val, by omega⟩ k) = g (ix2 ⟨p + j.val, by omega⟩ k))
      (_ : Packed.place i.val = p + (i.val - o)),
      restored g (ix2 i k) = g (ix2 ⟨Packed.place i.val, (Packed.place_lt i.isLt).trans (by omega)⟩ k) := by
    intro o p n hi ho hp h e
    refine (congrArg (fun j => restored g (ix2 j k)) (Fin.ext ?_)).trans ((h ⟨i.val - o, by omega⟩).trans (congrArg (fun j => g (ix2 j k)) (Fin.ext ?_)))
    · dsimp only; omega
    · exact e.symm
  by_cases h0 : i.val < 512
  · exact key 0 6144 512 (by omega) (by omega) (by omega) (fun j => restored_q_a g j k) (by unfold Packed.place; split_ifs <;> omega)
  by_cases h1 : i.val < 1024
  · exact key 512 6656 512 (by omega) (by omega) (by omega) (fun j => restored_kv_a g j k) (by unfold Packed.place; split_ifs <;> omega)
  by_cases h2 : i.val < 1088
  · exact key 1024 10240 64 (by omega) (by omega) (by omega) (fun j => restored_k_rope g j k) (by unfold Packed.place; split_ifs <;> omega)
  by_cases h3 : i.val < 4160
  · exact key 1088 7168 3072 (by omega) (by omega) (by omega) (fun j => restored_rkv g j k) (by unfold Packed.place; split_ifs <;> omega)
  by_cases h4 : i.val < 4544
  · exact key 4160 10304 384 (by omega) (by omega) (by omega) (fun j => restored_lora g j k) (by unfold Packed.place; split_ifs <;> omega)
  by_cases h5 : i.val < 5568
  · exact key 4544 4096 1024 (by omega) (by omega) (by omega) (fun j => restored_z_m g j k) (by unfold Packed.place; split_ifs <;> omega)
  by_cases h6 : i.val < 6592
  · exact key 5568 5120 1024 (by omega) (by omega) (by omega) (fun j => restored_z_r g j k) (by unfold Packed.place; split_ifs <;> omega)
  by_cases h7 : i.val < 8640
  · exact key 6592 0 2048 (by omega) (by omega) (by omega) (fun j => restored_gate_m g j k) (by unfold Packed.place; split_ifs <;> omega)
  exact key 8640 2048 2048 (by omega) (by omega) (by omega) (fun j => restored_gate_r g j k) (by unfold Packed.place; split_ifs <;> omega)

theorem tail_at (k : Fin 2048) (i : Fin 10688) : tail g (ix2 k i) = restored g (ix2 i k) := by
  unfold tail
  rw [shapeCast_shapeCast]
  pointwise []

/-- What the host returns is the gradient of the plain product. -/
theorem gradient : tail (byColumns (packD d) x)
    = transpose Cert.Reference3Ideal.S2048x10688 [1, 0] (Host.dotGeneral (φ₂ := .f32) Cert.Reference3Ideal.dot_S2048x10688_S2048x2048_S10688x2048_0_0_1_1_n_n none d x)
        Cert.Reference3Ideal.Gen.transposes_S10688x2048_S2048x10688_1_0 := by
  funext y
  obtain ⟨k, i, rfl⟩ : ∃ (k : Fin 2048) (i : Fin 10688), y = ix2 k i := ⟨y 0, y 1, eq_ix2 y⟩
  rw [tail_at, restored_at]
  pointwise [byColumns]
  refine Finset.sum_congr rfl fun s _ => congrArg (· * x (ix2 s k)) ?_
  refine (packD_at d s _).trans ?_
  exact Packed.packed_of_lt _ _ _ (Packed.place_lt i.isLt) (Packed.orig_place i.isLt)

end Cert.Kernel3Ideal.Prod

end
-- ==== Proof.Prod.GradWValue.lean ====
/- The gradient of the input projection's weight: the run of the call with the host's operations around it, and the claim. -/
module

public import proofs.«01_k».proof.Defs
public import proofs.«01_k».proof.Proof.Prod.GradWHost

@[expose] public section

set_option maxRecDepth 16384

noncomputable section

namespace Cert.Kernel3Ideal.Prod

open Idealize.ShloMosaic Idealize.ShloMosaic.TcCoe Idealize.SL.Sem
open Cert.Kernel3Ideal Cert.Kernel3Ideal.Gen

variable (m : (ℓ : Loc nD τ sig) → Buf (Elt Ideal) ℓ)

/-- The product that the region leaves. -/
def product (c : Dev nD) : FVec Ideal S10752x2048 .bf16 :=
  byColumns (packD (m ((c.tc : Thread nD τ).loc main_arg2))) (m ((c.tc : Thread nD τ).loc main_arg0) : FVec Ideal S2048x2048 .f32)

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v13) = product m c := by
  refine (Pipeline.withArrays_arr (cfgs 0).spec arrays_distinct c (V0 m c) (fun w => (dats m 0 c).arrAt w (cfgs 0).N) 2).trans ?_
  refine (final m c).trans ?_
  rw [V_rows, V_packed]
  rfl

theorem result (c : Dev nD) : Pipeline.afterTail₀ cfgs (dats m) 0 (V0 m) [hostOps1] c main_v27 = tail (product m c) := by
  rw [← region m c]
  unfold Pipeline.afterTail₀
  generalize Pipeline.withArrays (cfgs 0).spec c (V0 m c) (fun w => (dats m 0 c).arrAt w (cfgs 0).N) = W
  show StableHlo.after hostOps1 W (Proc.devRef .tc main_v27) = _
  after_results_simp
  rfl

end Cert.Kernel3Ideal.Prod

namespace Cert.Proof

open Idealize.ShloMosaic Idealize.ShloMosaic.TcCoe Idealize.SL.Sem

theorem algebraic3 : Cert.algebraic_Kernel3Ideal_Reference3Ideal := by
  intro m g m' g' _ hargs
  refine ⟨fun c => Cert.Kernel3Ideal.Prod.tail (Cert.Kernel3Ideal.Prod.product m c), ?_, ?_⟩
  · refine (θ_run Cert.Kernel3Ideal.defs _ _).mono (fun r hr c => ?_)
      (θ_run_and (Cert.Kernel3Ideal.Gen.run_main m g) (Cert.Kernel3Ideal.Gen.unchanged m g))
    obtain ⟨h, hu⟩ := hr
    exact ⟨((h c).2 Cert.Kernel3Ideal.main_v27 (Pipeline.mem_restRefs_of _ (by decide) (by decide))).trans (Cert.Kernel3Ideal.Prod.result m c), hu c⟩
  · refine (θ_run Cert.Reference3Ideal.defs _ _).mono (fun r hr c => ?_) (Cert.Reference3Ideal.Value.run m' g')
    obtain ⟨q0, q1, q2⟩ := hargs c
    obtain ⟨r0, rest⟩ := hr c
    rw [q0, q2] at r0
    exact ⟨r0.trans (Cert.Kernel3Ideal.Prod.gradient _ _).symm, rest⟩

end Cert.Proof

end
-- ==== Proof.Prod.GradH.lean ====
/- The gradient of the input projection's input: the array that the call leaves. The contraction runs in six parts, which the
   kernel adds up in a buffer of its own. -/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Kernel4Ideal.Prod

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

theorem idx : ∀ t : Fin cfg0.N, win0_0.index t = ![t.val / 12, t.val % 6] ∧ win0_1.index t = ![t.val % 6, t.val / 6 % 2]
    ∧ win0_2.index t = ![t.val / 12, t.val / 6 % 2] :=
  (by decide +kernel : ∀ t : Fin grid0.N, _)

/-- The rows of the first array against the columns of the second. -/
def plain (a : FVec Ideal S2048x10752 .bf16) (b : FVec Ideal S10752x2048 .bf16) : FVec Ideal S2048x2048 .f32 :=
  fun y => (∑ k : Fin 10752, (a (ix2 (y 0) k) : EReal) * b (ix2 k (y 1)) : EReal)

/-- One part of the contraction. -/
def part (a : FVec Ideal S1024x1792 .bf16) (b : FVec Ideal S1792x1024 .bf16) (y : S1024x1024.Idx) : EReal :=
  ∑ k : Fin 1792, (a (ix2 (y 0) k) : EReal) * b (ix2 k (y 1))

theorem first (a : FVec Ideal S1024x1792 .bf16) (b : FVec Ideal S1792x1024 .bf16) (y : S1024x1024.Idx) :
    k0_pay2 (F := Ideal) a b y = part a b y := by
  pointwise [k0_pay2, k0_pay1, part]

theorem further (a : FVec Ideal S1024x1792 .bf16) (b : FVec Ideal S1792x1024 .bf16) (acc : FVec Ideal S1024x1024 .f32) (y : S1024x1024.Idx) :
    k0_pay3 (F := Ideal) a b acc y = acc y + part a b y := by
  pointwise [k0_pay3, k0_pay1, part]

theorem start (c : Dev nD) (t : Fin cfg0.N) (h : t.val % 6 = 0) (y : S1024x1024.Idx) :
    (outsAt0 m c t.val t.isLt).2 y = (0 : EReal) + part (iblk m c 0 t) (iblk m c 1 t) y := by
  rw [outsAt0_A m c t h (by omega) (by omega)]
  frame_out
  rw [first, zero_add]

theorem step (c : Dev nD) (t : Fin cfg0.N) (h : ¬t.val % 6 = 0) (y : S1024x1024.Idx) :
    (outsAt0 m c t.val t.isLt).2 y
      = ((outsAt0 m c (t.val - 1) (Nat.lt_of_le_of_lt (Nat.sub_le _ _) t.isLt)).2 y : EReal) + part (iblk m c 0 t) (iblk m c 1 t) y := by
  by_cases h5 : t.val % 6 = 5
  · rw [outsAt0_C m c t h (by omega) h5]
    frame_out
    rw [further]
    exact congrArg (fun z : EReal => z + part (iblk m c 0 t) (iblk m c 1 t) y) (congrFun ((Memref.isWhole_whole cc0_scratch0).read_unread _) y)
  · rw [outsAt0_B m c t h (by omega) h5]
    frame_out
    rw [further]
    exact congrArg (fun z : EReal => z + part (iblk m c 0 t) (iblk m c 1 t) y) (congrFun ((Memref.isWhole_whole cc0_scratch0).read_unread _) y)

/-- At a run's last point the block written back is what the buffer holds. -/
theorem last (c : Dev nD) (t : Fin cfg0.N) (h : t.val % 6 = 5) (y : S1024x1024.Idx) :
    (outsAt0 m c t.val t.isLt).1 y = (outsAt0 m c t.val t.isLt).2 y := by
  rw [outsAt0_C m c t (by omega) (by omega) h]
  frame_out

theorem final (c : Dev nD) : (dats m 0 c).arrAt 2 cfg0.N = plain (V m c main_v11) (V m c main_v24) := by
  refine (dats m 0 c).arrAt_eq_of_covers 2 _ (by decide +kernel) fun t hf y => ?_
  have h5 := (flush0_2 t).mp hf
  blk_simp
  rw [after0_2]
  refine (last m c t h5 y).trans ?_
  refine (Pipeline.eq_sum_fin_of_reset_step_apply_of_flush (M := EReal) (fun n h => (outsAt0 m c n h).2) 6 (fun _ => 0)
    (fun t y => part (iblk m c 0 t) (iblk m c 1 t) y) (start m c) (step m c) t h5 y).trans ?_
  refine (zero_add _).trans ?_
  unfold plain part
  show (_ : EReal) = _
  refine Fin.sum_mul_add_congr fun s k hl => ?_
  refine congrArg₂ (fun a b : EReal => a * b) ?_ ?_
  · blk_ext [iblk, idx t, idx ⟨_, Pipeline.run_point_lt_of_flush t h5 s⟩]
  · blk_ext [iblk, idx t, idx ⟨_, Pipeline.run_point_lt_of_flush t h5 s⟩]

end Cert.Kernel4Ideal.Prod

end
-- ==== Proof.Prod.GradHValue.lean ====
/- The gradient of the input projection's input: the host's reordering of the cotangent's columns and of the weight's, and the
   claim. -/
module

public import proofs.«01_k».proof.Defs
public import proofs.«01_k».proof.Proof.Prod.GradH
public import proofs.«01_k».proof.Proof.Prod.Packed
public import proofs.«01_k».proof.Proof.Gen.Kernel4Ideal.Value
public import proofs.«01_k».proof.Proof.Gen.Reference4Ideal.Run

@[expose] public section

set_option maxRecDepth 65536

noncomputable section

namespace Cert.Kernel4Ideal.Prod

open Idealize.ShloMosaic Idealize.ShloMosaic.TcCoe Idealize.SL.Sem
open Cert.Kernel4Ideal Cert.Kernel4Ideal.Gen

/-- The cotangent's columns in the order the kernel takes them, with 64 columns of zeros at the end. -/
def packD (d : FVec Ideal S2048x10688 .f32) : FVec Ideal S2048x10752 .bf16 :=
  truncf .bf16 (concatenate S2048x10752 1 [
    ⟨S2048x2048, extractStridedSlice S2048x2048 ![0, 6592] d slices_S2048x10688_S2048x2048_0_6592⟩,
    ⟨S2048x2048, extractStridedSlice S2048x2048 ![0, 8640] d slices_S2048x10688_S2048x2048_0_8640⟩,
    ⟨S2048x1024, extractStridedSlice S2048x1024 ![0, 4544] d slices_S2048x10688_S2048x1024_0_4544⟩,
    ⟨S2048x1024, extractStridedSlice S2048x1024 ![0, 5568] d slices_S2048x10688_S2048x1024_0_5568⟩,
    ⟨S2048x512, extractStridedSlice S2048x512 ![0, 0] d slices_S2048x10688_S2048x512_0_0⟩,
    ⟨S2048x512, extractStridedSlice S2048x512 ![0, 512] d slices_S2048x10688_S2048x512_0_512⟩,
    ⟨S2048x3072, extractStridedSlice S2048x3072 ![0, 1088] d slices_S2048x10688_S2048x3072_0_1088⟩,
    ⟨S2048x64, extractStridedSlice S2048x64 ![0, 1024] d slices_S2048x10688_S2048x64_0_1024⟩,
    ⟨S2048x384, extractStridedSlice S2048x384 ![0, 4160] d slices_S2048x10688_S2048x384_0_4160⟩,
    ⟨S2048x64, broadcastInDim S2048x64 ![] bcast_S_S2048x64 (constant S_ .f32 0x00000000#32)⟩]
    concatenates_S2048x2048_S2048x2048_S2048x1024_S2048x1024_S2048x512_S2048x512_S2048x3072_S2048x64_S2048x384_S2048x64_S2048x10752_d1) bitsLt_bf16_f32

/-- The weight as rows, and its rows in the order the kernel takes them, with 64 rows of zeros at the end. -/
def rowsOf (w : FVec Ideal S2048x10688 .f32) : FVec Ideal S10688x2048 .bf16 :=
  truncf .bf16 (transpose S10688x2048 [1, 0] w transposes_S2048x10688_S10688x2048_1_0) bitsLt_bf16_f32

def packW (w : FVec Ideal S2048x10688 .f32) : FVec Ideal S10752x2048 .bf16 :=
  concatenate S10752x2048 0 [
    ⟨S2048x2048, extractStridedSlice S2048x2048 ![6592, 0] (rowsOf w) slices_S10688x2048_S2048x2048_6592_0⟩,
    ⟨S2048x2048, extractStridedSlice S2048x2048 ![8640, 0] (rowsOf w) slices_S10688x2048_S2048x2048_8640_0⟩,
    ⟨S1024x2048, extractStridedSlice S1024x2048 ![4544, 0] (rowsOf w) slices_S10688x2048_S1024x2048_4544_0⟩,
    ⟨S1024x2048, extractStridedSlice S1024x2048 ![5568, 0] (rowsOf w) slices_S10688x2048_S1024x2048_5568_0⟩,
    ⟨S512x2048, extractStridedSlice S512x2048 ![0, 0] (rowsOf w) slices_S10688x2048_S512x2048_0_0⟩,
    ⟨S512x2048, extractStridedSlice S512x2048 ![512, 0] (rowsOf w) slices_S10688x2048_S512x2048_512_0⟩,
    ⟨S3072x2048, extractStridedSlice S3072x2048 ![1088, 0] (rowsOf w) slices_S10688x2048_S3072x2048_1088_0⟩,
    ⟨S64x2048, extractStridedSlice S64x2048 ![1024, 0] (rowsOf w) slices_S10688x2048_S64x2048_1024_0⟩,
    ⟨S384x2048, extractStridedSlice S384x2048 ![4160, 0] (rowsOf w) slices_S10688x2048_S384x2048_4160_0⟩,
    ⟨S64x2048, broadcastInDim S64x2048 ![] bcast_S_S64x2048 (constant S_ .bf16 0x0000#16)⟩]
    concatenates_S2048x2048_S2048x2048_S1024x2048_S1024x2048_S512x2048_S512x2048_S3072x2048_S64x2048_S384x2048_S64x2048_S10752x2048_d0

section

variable (m : (ℓ : Loc nD τ sig) → Buf (Elt Ideal) ℓ) (c : Dev nD)

theorem V_cotangent : V m c main_v11 = packD (m ((c.tc : Thread nD τ).loc main_arg2)) := by
  show StableHlo.after hostOps0 (fun b => m (c, b)) (Proc.devRef .tc main_v11) = _
  after_results_simp
  rfl

theorem V_weight : V m c main_v24 = packW (m ((c.tc : Thread nD τ).loc main_arg1)) := by
  show StableHlo.after hostOps0 (fun b => m (c, b)) (Proc.devRef .tc main_v24) = _
  after_results_simp
  rfl

end

variable (d w : FVec Ideal S2048x10688 .f32) (k : Fin 2048)

set_option maxHeartbeats 1000000 in
theorem packD_at (j : Fin 10752) : packD d (ix2 k j) = Packed.packed (fun i => d (ix2 k i)) j := by
  pointwise [packD]
  exact Packed.pieces (fun i => d (ix2 k i)) j

set_option maxHeartbeats 1000000 in
theorem rowsOf_at (i : Fin 10688) : rowsOf w (ix2 i k) = w (ix2 k i) := by
  pointwise [rowsOf]

set_option maxHeartbeats 1000000 in
theorem packW_at (j : Fin 10752) : packW w (ix2 j k) = Packed.packed (fun i => w (ix2 k i)) j := by
  pointwise [packW]
  simp only [rowsOf_at]
  exact Packed.pieces (fun i => w (ix2 k i)) j

/-- The product of the reordered arrays is the plain product: the order of the columns does not matter to the sum, and the zeros
    add nothing. -/
theorem gradient : plain (packD d) (packW w)
    = Host.dotGeneral (φ₂ := .f32) Cert.Reference4Ideal.dot_S2048x10688_S2048x10688_S2048x2048_1_1_0_0_n_n none d w := by
  funext y
  obtain ⟨i, k, rfl⟩ : ∃ (i : Fin 2048) (k : Fin 2048), y = ix2 i k := ⟨y 0, y 1, eq_ix2 y⟩
  pointwise [plain]
  refine Eq.trans (Finset.sum_congr rfl fun j _ => congrArg₂ (fun a b : EReal => a * b) (packD_at d i j) (packW_at w k j)) ?_
  exact Packed.sum_packed _ _

end Cert.Kernel4Ideal.Prod

namespace Cert.Proof

open Idealize.ShloMosaic Idealize.ShloMosaic.TcCoe Idealize.SL.Sem

theorem algebraic4 : Cert.algebraic_Kernel4Ideal_Reference4Ideal := by
  intro m g m' g' _ hargs
  refine ⟨fun c => Cert.Kernel4Ideal.Prod.plain (Cert.Kernel4Ideal.Prod.packD (m ((c.tc : Thread Cert.Kernel4Ideal.nD Cert.Kernel4Ideal.τ).loc Cert.Kernel4Ideal.main_arg2)))
    (Cert.Kernel4Ideal.Prod.packW (m ((c.tc : Thread Cert.Kernel4Ideal.nD Cert.Kernel4Ideal.τ).loc Cert.Kernel4Ideal.main_arg1))), ?_, ?_⟩
  · refine (θ_run Cert.Kernel4Ideal.defs _ _).mono (fun r hr c => ?_) (Cert.Kernel4Ideal.Value.run_blocks m g)
    obtain ⟨h, hu⟩ := hr c
    refine ⟨h.trans ((Cert.Kernel4Ideal.Prod.final m c).trans ?_), hu⟩
    rw [Cert.Kernel4Ideal.Prod.V_cotangent, Cert.Kernel4Ideal.Prod.V_weight]
  · refine (θ_run Cert.Reference4Ideal.defs _ _).mono (fun r hr c => ?_) (Cert.Reference4Ideal.Value.run m' g')
    obtain ⟨q0, q1, q2⟩ := hargs c
    obtain ⟨r0, rest⟩ := hr c
    rw [q1, q2] at r0
    exact ⟨r0.trans (Cert.Kernel4Ideal.Prod.gradient _ _).symm, rest⟩

end Cert.Proof

end
-- ==== Proof.Prod.Frames.lean ====
/- The frames of the products' reference programs, which use no counter at all. -/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Prod.InProjValue
public import proofs.«01_k».proof.Proof.Prod.GradWValue
public import proofs.«01_k».proof.Proof.Prod.GradHValue

@[expose] public section

noncomputable section

namespace Cert.Proof

open Idealize.ShloMosaic Idealize.ShloMosaic.TcCoe Idealize.SL.Sem

theorem frame_reference2 : Cert.quiescent_Reference2Ideal := fun m ρ _ =>
  (θ_run Cert.Reference2Ideal.defs _ _).mono (fun r h => ⟨fun c => (h c).2.2.2.2.2.2.2.2.2, sem_eq_zero_of_no_sems rfl r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2, sem_eq_zero_of_no_sems rfl r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems rfl r.2⟩)
    (Cert.Reference4Ideal.Value.run (F := Ideal) m ρ)

end Cert.Proof

end
-- ==== Proof.Prod.Shift.lean ====
/- The token shift, each row moved towards the mean of its two neighbours: the array that the call leaves, and the claim. -/
module

public import proofs.«01_k».proof.Defs
public import proofs.«01_k».proof.Proof.Gen.Kernel26Ideal.Frame
public import proofs.«01_k».proof.Proof.Gen.Reference26Ideal.Run
public import Idealize.ShloMosaic.Lib.Pipeline.ValueKit
public import Idealize.ShloMosaic.Lib.Pointwise
public import Idealize.ShloMosaic.Lib.KernelVsHost

@[expose] public section

set_option maxRecDepth 16384

noncomputable section

namespace Cert.Kernel26Ideal.Prod

open Idealize.ShloMosaic Idealize.ShloMosaic.TcCoe Idealize.SL.Sem
open Idealize.ShloMosaic.Pipeline (Dat)
open Cert.Kernel26Ideal Cert.Kernel26Ideal.Gen

variable (m : (ℓ : Loc nD τ sig) → Buf (Elt Ideal) ℓ)

theorem idx : ∀ t : Fin cfg0.N, win0_0.index t = ![0, t.val] ∧ win0_1.index t = ![0, t.val] ∧ win0_2.index t = ![0, t.val] :=
  (by decide +kernel : ∀ t : Fin grid0.N, _)

/-- The value in the row before, zero before the first row. -/
def before (f : Fin 2048 → EReal) (r : Fin 2048) : EReal := if r.val = 0 then 0 else f ⟨r.val - 1, lt_of_le_of_lt (Nat.sub_le _ _) r.isLt⟩

/-- The value in the row after, zero after the last row. -/
def behind (f : Fin 2048 → EReal) (r : Fin 2048) : EReal := if h : r.val = 2047 then 0 else f ⟨r.val + 1, by have := r.isLt; omega⟩

/-- A column's value at a row, moved towards the mean of its two neighbours by the column's weight. -/
def moved (f : Fin 2048 → EReal) (w : EReal) (r : Fin 2048) : EReal :=
  f r + w * (Ideal.ofBits FTy.f32 1056964608#32 * (before f r + behind f r) - f r)

theorem moved_congr {f f' : Fin 2048 → EReal} {w w' : EReal} {r r' : Fin 2048} (hf : ∀ i, f i = f' i) (hw : w = w') (hr : r = r') :
    moved f w r = moved f' w' r' := by
  rw [funext hf, hw, hr]

/-- The shifted array. -/
def shifted (a : FVec Ideal S2048x3584 .f32) (g : FVec Ideal S1x3584 .f32) : FVec Ideal S2048x3584 .f32 :=
  fun y => moved (fun i => a (ix2 i (y 1))) (g (ix2 0 (y 1))) (y 0)

/-- A choice by a comparison of two small words is the choice by the comparison of their numbers. -/
theorem select_eq (r k : ℕ) (hr : r < 2048) (hk : k < 2048) (u v : EReal) :
    Scalar.select (IntOp.cmpi CmpIPredicate.eq (BitVec.ofNat 32 r) (BitVec.ofNat 32 k)) u v = if r = k then u else v := by
  by_cases h : r = k
  · subst h
    simp [Scalar.select, IntOp.cmpi]
  · have hne : BitVec.ofNat 32 r ≠ BitVec.ofNat 32 k := fun e => by
      have e' := congrArg BitVec.toNat e
      rw [BitVec.toNat_ofNat, BitVec.toNat_ofNat, Nat.mod_eq_of_lt (by omega), Nat.mod_eq_of_lt (by omega)] at e'
      exact h e'
    have hb : (BitVec.ofNat 32 r == BitVec.ofNat 32 k) = false := beq_eq_false_iff_ne.mpr hne
    simp [Scalar.select, IntOp.cmpi, h, hb]

theorem point (a : FVec Ideal S2048x512 .f32) (g : FVec Ideal S1x512 .f32) (y : S2048x512.Idx) :
    k0_pay1 (F := Ideal) a g y = moved (fun i => a (ix2 i (y 1))) (g (ix2 0 (y 1))) (y 0) := by
  pointwise [k0_pay1, moved]
  have hr : (y 0).val < 2048 := (y 0).isLt
  refine congrArg₂ (fun a b : EReal => a + b) rfl (congrArg₂ (fun a b : EReal => a * b) rfl (congrArg₂ (fun a b : EReal => a - b)
    (congrArg₂ (fun a b : EReal => a * b) rfl (congrArg₂ (fun a b : EReal => a + b) ?_ ?_)) rfl))
  · refine (select_eq _ 0 hr (by omega) _ _).trans ?_
    unfold before
    split_ifs with h
    · rfl
    · exact congrArg (fun i : Fin 2048 => a (ix2 i (y 1))) (Fin.ext (by show ((y 0).val + 2048 - 1) % 2048 = (y 0).val - 1; omega))
  · refine (select_eq _ 2047 hr (by omega) _ _).trans ?_
    unfold behind
    split_ifs with h
    · rfl
    · exact congrArg (fun i : Fin 2048 => a (ix2 i (y 1))) (Fin.ext (by show ((y 0).val + 2048 - 2047) % 2048 = (y 0).val + 1; omega))

theorem final (c : Dev nD) : (dats m 0 c).arrAt 2 cfg0.N = shifted (V m c main_arg0) (V m c main_v0) := by
  refine (dats m 0 c).arrAt_eq_of_covers 2 _ (by decide +kernel) fun t _ y => ?_
  blk_simp
  rw [after0_2]
  frame_out
  rw [point]
  unfold shifted
  refine moved_congr (fun i => ?_) ?_ (Fin.ext ?_)
  all_goals blk_ext [iblk, idx t]

theorem V_0 (c : Dev nD) : V m c main_arg0 = (m ((c.tc : Thread nD τ).loc main_arg0) : FVec Ideal S2048x3584 .f32) := by
  entry_read
  rfl

theorem V_g (c : Dev nD) : V m c main_v0 = broadcastInDim S1x3584 ![1] bcast_S3584_S1x3584_1 (m ((c.tc : Thread nD τ).loc main_arg1) : FVec Ideal S3584 .f32) := by
  entry_read
  rfl

/-- The shifted array, of the call's arguments. -/
def shiftedOf (c : Dev nD) : FVec Ideal S2048x3584 .f32 :=
  shifted (m ((c.tc : Thread nD τ).loc main_arg0) : FVec Ideal S2048x3584 .f32) (broadcastInDim S1x3584 ![1] bcast_S3584_S1x3584_1 (m ((c.tc : Thread nD τ).loc main_arg1) : FVec Ideal S3584 .f32))

theorem left (c : Dev nD) : (dats m 0 c).arrAt 2 cfg0.N = shiftedOf m c := by
  refine (final m c).trans ?_
  rw [V_0, V_g]
  rfl

end Cert.Kernel26Ideal.Prod

namespace Cert.Proof

open Idealize.ShloMosaic Idealize.ShloMosaic.TcCoe Idealize.SL.Sem

theorem frame_reference26 : Cert.quiescent_Reference26Ideal := fun m ρ _ =>
  (θ_run Cert.Reference26Ideal.defs _ _).mono (fun r h => ⟨fun c => (h c).2, sem_eq_zero_of_no_sems rfl r.2⟩)
    (Cert.Reference26Ideal.Value.run (F := Ideal) m ρ)

theorem algebraic26 : Cert.algebraic_Kernel26Ideal_Reference26Ideal := by
  intro m g m' g' _ hargs
  refine ⟨fun c => Cert.Kernel26Ideal.Prod.shiftedOf m c, ?_, ?_⟩
  · refine (θ_run Cert.Kernel26Ideal.defs _ _).mono (fun r hr c => ?_) (θ_run_and (Cert.Kernel26Ideal.Gen.run_main m g) (Cert.Kernel26Ideal.Gen.unchanged m g))
    obtain ⟨h, hu⟩ := hr
    exact ⟨((h c).1 2).trans (Cert.Kernel26Ideal.Prod.left m c), hu c⟩
  · refine (θ_run Cert.Reference26Ideal.defs _ _).mono (fun r hr c => ?_) (Cert.Reference26Ideal.Value.run m' g')
    obtain ⟨q0, q1⟩ := hargs c
    obtain ⟨r0, rest⟩ := hr c
    rw [q0, q1] at r0
    refine ⟨r0.trans ?_, rest⟩
    unfold Cert.Kernel26Ideal.Prod.shiftedOf
    funext (y : Cert.Kernel26Ideal.S2048x3584.Idx)
    pointwise [Cert.Kernel26Ideal.Prod.shifted, Cert.Kernel26Ideal.Prod.moved]
    have hr : (y 0).val < 2048 := (y 0).isLt
    have hc : (y 1).val < 3584 := (y 1).isLt
    have hz : (FloatOps.sitofp FTy.f32 0#32 : Ideal FTy.f32) = (0 : EReal) := by
      show (((0#32 : BitVec 32).toInt : ℝ) : EReal) = 0
      simp
    refine congrArg₂ (fun a b : EReal => a + b) rfl (congrArg₂ (fun a b : EReal => a * b) rfl (congrArg₂ (fun a b : EReal => a - b)
      (congrArg₂ (fun a b : EReal => a * b) rfl (congrArg₂ (fun a b : EReal => a + b) ?_ ?_)) rfl))
    · unfold Cert.Kernel26Ideal.Prod.before
      split_ifs with h h0 h0
      · have k : 1 ≤ (y 0).val := (h (0 : Fin 2)).1
        exact absurd h0 (by omega)
      · rfl
      · exact hz
      · refine absurd (fun a => ?_) h
        match a with
        | ⟨0, _⟩ =>
          show 1 ≤ (y 0).val ∧ ((y 0).val - 1) % (0 + 1) = 0 ∧ ((y 0).val - 1) / (0 + 1) < 2048
          omega
        | ⟨1, _⟩ =>
          show 0 ≤ (y 1).val ∧ ((y 1).val - 0) % (0 + 1) = 0 ∧ ((y 1).val - 0) / (0 + 1) < 3584
          omega
    · unfold Cert.Kernel26Ideal.Prod.behind
      split_ifs with h h0 h0
      · have k : (2 + (y 0).val - 1) / (0 + 1) < 2048 := (h (0 : Fin 2)).2.2
        exact absurd h0 (by omega)
      · exact congrArg (fun i : Fin 2048 => (m ((c.tc : Thread Cert.Kernel26Ideal.nD Cert.Kernel26Ideal.τ).loc Cert.Kernel26Ideal.main_arg0) : FVec Ideal Cert.Kernel26Ideal.S2048x3584 .f32) (ix2 i (y 1)))
          (Fin.ext (by show 2 + (y 0).val - 1 = (y 0).val + 1; omega))
      · exact hz
      · refine absurd (fun a => ?_) h
        match a with
        | ⟨0, _⟩ =>
          show 1 ≤ 2 + (y 0).val ∧ (2 + (y 0).val - 1) % (0 + 1) = 0 ∧ (2 + (y 0).val - 1) / (0 + 1) < 2048
          have h0' : (y 0).val ≠ 2047 := h0
          omega
        | ⟨1, _⟩ =>
          show 0 ≤ (y 1).val ∧ ((y 1).val - 0) % (0 + 1) = 0 ∧ ((y 1).val - 0) / (0 + 1) < 3584
          omega

end Cert.Proof

end
-- ==== Proof.Prod.MlaNormGrad.lean ====
/- The gradients of the two norms before the up projections of the latent attention: the arrays that the call leaves, and the claim.
   The call leaves the gradients of the norms' two arguments side by side in one array. The gradients of the norms' weights are sums
   over all rows, which the kernel adds up in four parts. -/
module

public import proofs.«01_k».proof.Defs
public import proofs.«01_k».proof.Proof.Gen.Kernel25Ideal.Frame
public import proofs.«01_k».proof.Proof.Gen.Reference25Ideal.Run
public import Idealize.ShloMosaic.Lib.Pipeline.ValueKit
public import Idealize.ShloMosaic.Lib.Pointwise

@[expose] public section

set_option maxRecDepth 16384

noncomputable section

namespace Cert.Kernel25Ideal.Prod

open Idealize.ShloMosaic Idealize.ShloMosaic.TcCoe Idealize.SL.Sem
open Idealize.ShloMosaic.Pipeline (Dat)
open Cert.Kernel25Ideal Cert.Kernel25Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] :=
  (by decide +kernel : ∀ t : Fin grid0.N, _)

/-- The mean square of a row and the small constant, from the row's sum of squares. -/
def meanSq (s : EReal) : EReal := Ideal.div s (Ideal.ofBits FTy.f32 1140850688#32) + Ideal.ofBits FTy.f32 897988541#32

/-- What a row of the norm is multiplied by. -/
def scale (s : EReal) : EReal := Ideal.rsqrt (meanSq s)

/-- What comes to a row through its mean square, from its sum of squares and its sum of products with the cotangent. -/
def through (s p : EReal) : EReal :=
  Ideal.div (p * (Ideal.ofBits FTy.f32 3204448256#32 * Ideal.div (scale s) (meanSq s))) (Ideal.ofBits FTy.f32 1140850688#32)

/-- The gradient of one norm's argument along a row: from the row, its cotangent and the weight. -/
def side (a d w : Fin 512 → EReal) (k : Fin 512) : EReal :=
  d k * w k * scale (∑ j, a j * a j) + a k * through (∑ j, a j * a j) (∑ j, a j * (d j * w j))
    + through (∑ j, a j * a j) (∑ j, a j * (d j * w j)) * a k

theorem side_congr {a a' d d' w w' : Fin 512 → EReal} {k k' : Fin 512} (ha : ∀ j, a j = a' j) (hd : ∀ j, d j = d' j) (hw : ∀ j, w j = w' j)
    (hk : k = k') : side a d w k = side a' d' w' k' := by
  rw [funext ha, funext hd, funext hw, hk]

/-- The gradients of the two norms' arguments, side by side. -/
def back (a b d e : FVec Ideal S2048x512 .f32) (g k : FVec Ideal S1x512 .f32) : FVec Ideal S2048x1024 .bf16 := fun y =>
  (if h : (y 1).val < 512 then
      side (fun j => a (ix2 (y 0) j)) (fun j => d (ix2 (y 0) j)) (fun j => g (ix2 0 j)) ⟨(y 1).val, h⟩
    else
      side (fun j => b (ix2 (y 0) j)) (fun j => e (ix2 (y 0) j)) (fun j => k (ix2 0 j)) ⟨(y 1).val - 512, Nat.sub_lt_left_of_lt_add (Nat.le_of_not_lt h) (y 1).isLt⟩ : EReal)

theorem point_back (a b d e : FVec Ideal S512x512 .f32) (g k : FVec Ideal S1x512 .f32) (y : S512x1024.Idx) :
    k0_pay14 (F := Ideal) a b d e (k0_pay3 (F := Ideal) g) (k0_pay5 (F := Ideal) a)
    (k0_pay6 (F := Ideal) a) (k0_pay9 (F := Ideal) b) (k0_pay10 (F := Ideal) b) (k0_pay12 (F := Ideal) k) y
      = (if h : (y 1).val < 512 then
      side (fun j => a (ix2 (y 0) j)) (fun j => d (ix2 (y 0) j)) (fun j => g (ix2 0 j)) ⟨(y 1).val, h⟩
    else
      side (fun j => b (ix2 (y 0) j)) (fun j => e (ix2 (y 0) j)) (fun j => k (ix2 0 j)) ⟨(y 1).val - 512, Nat.sub_lt_left_of_lt_add (Nat.le_of_not_lt h) (y 1).isLt⟩ : EReal) := by
  pointwise [k0_pay14, k0_pay3, k0_pay5, k0_pay6, k0_pay7, k0_pay9, k0_pay10, k0_pay12, k0_pay4, k0_pay8, side, through, scale, meanSq]
  simp only [Fin.sum_univ_one]

/-- The gradient of one norm's weight. -/
def weight (a d : FVec Ideal S2048x512 .f32) : FVec Ideal S1x512 .f32 := fun y =>
  (∑ i : Fin 2048, (a (ix2 i (y 1)) * scale (∑ j : Fin 512, (a (ix2 i j) : EReal) * a (ix2 i j)) * d (ix2 i (y 1)) : EReal))

/-- The part of it that comes from one block of rows. -/
def part (a d : FVec Ideal S512x512 .f32) (y : S1x512.Idx) : EReal :=
  (∑ i : Fin 512, (a (ix2 i (y 1)) * scale (∑ j : Fin 512, (a (ix2 i j) : EReal) * a (ix2 i j)) * d (ix2 i (y 1)) : EReal))

theorem point_q (a d : FVec Ideal S512x512 .f32) (y : S1x512.Idx) : k0_pay13 (F := Ideal) d (k0_pay7 (F := Ideal) a) y = part a d y := by
  pointwise [k0_pay13, k0_pay3, k0_pay5, k0_pay6, k0_pay7, k0_pay9, k0_pay10, k0_pay12, k0_pay4, k0_pay8, part, scale, meanSq]

theorem point_kv (a d : FVec Ideal S512x512 .f32) (y : S1x512.Idx) : k0_pay11 (F := Ideal) a d y = part a d y := by
  pointwise [k0_pay11, k0_pay3, k0_pay5, k0_pay6, k0_pay7, k0_pay9, k0_pay10, k0_pay12, k0_pay4, k0_pay8, part, scale, meanSq]

theorem more_q (v acc : FVec Ideal S1x512 .f32) (y : S1x512.Idx) : k0_pay1 (F := Ideal) v acc y = (acc y + v y : EReal) := by
  pointwise [k0_pay1]

theorem more_kv (v acc : FVec Ideal S1x512 .f32) (y : S1x512.Idx) : k0_pay2 (F := Ideal) v acc y = (acc y + v y : EReal) := by
  pointwise [k0_pay2]

theorem final_back (c : Dev nD) : (dats m 0 c).arrAt 6 cfg0.N
    = back (V m c main_arg0) (V m c main_arg1) (V m c main_arg4) (V m c main_arg5) (V m c main_v0) (V m c main_v1) := by
  refine (dats m 0 c).arrAt_eq_of_covers 6 _ (by decide +kernel) fun t _ y => ?_
  blk_simp
  rw [after0_6]
  have e : (outsAt0 m c t.val t.isLt).1 = k0_pay14 (F := Ideal) (iblk m c 0 t) (iblk m c 1 t) (iblk m c 2 t) (iblk m c 3 t) (k0_pay3 (F := Ideal) (iblk m c 4 t)) (k0_pay5 (F := Ideal) (iblk m c 0 t))
    (k0_pay6 (F := Ideal) (iblk m c 0 t)) (k0_pay9 (F := Ideal) (iblk m c 1 t)) (k0_pay10 (F := Ideal) (iblk m c 1 t)) (k0_pay12 (F := Ideal) (iblk m c 5 t)) := by
    by_cases h : t.val % 4 = 0
    · have h1 : ¬1 ≤ t.val := by have hN : t.val < 4 := lt_of_lt_of_eq t.isLt N_0; omega
      rw [outsAt0_A m c t h h1 h h1]
      frame_out
    · have h1 : 1 ≤ t.val := by omega
      rw [outsAt0_B m c t h h1 h h1]
      frame_out
  rw [e, point_back]
  unfold back
  have e1 : ((win0_6.blk t).view.emb y 1).val = (y 1).val := by
    blk_ext [idx t]
  by_cases h : (y 1).val < 512
  · rw [dif_pos h, dif_pos (lt_of_eq_of_lt e1 h)]
    refine side_congr (fun j => ?_) (fun j => ?_) (fun j => ?_) (Fin.ext e1.symm)
    all_goals blk_ext [iblk, idx t]
  · rw [dif_neg h, dif_neg (fun h' => h (lt_of_eq_of_lt e1.symm h'))]
    refine side_congr (fun j => ?_) (fun j => ?_) (fun j => ?_) (Fin.ext (congrArg (· - 512) e1.symm))
    all_goals blk_ext [iblk, idx t]

theorem start_q (c : Dev nD) (t : Fin cfg0.N) (h : t.val % 4 = 0) (y : S1x512.Idx) :
    (outsAt0 m c t.val t.isLt).2.1 y = (0 : EReal) + part (iblk m c 0 t) (iblk m c 2 t) y := by
  have h1 : ¬1 ≤ t.val := by have hN : t.val < 4 := lt_of_lt_of_eq t.isLt N_0; omega
  rw [outsAt0_A m c t h h1 h h1]
  frame_out
  rw [point_q, zero_add]

theorem step_q (c : Dev nD) (t : Fin cfg0.N) (h : ¬t.val % 4 = 0) (y : S1x512.Idx) :
    (outsAt0 m c t.val t.isLt).2.1 y
      = ((outsAt0 m c (t.val - 1) (Nat.lt_of_le_of_lt (Nat.sub_le _ _) t.isLt)).2.1 y : EReal) + part (iblk m c 0 t) (iblk m c 2 t) y := by
  have h1 : 1 ≤ t.val := by omega
  rw [outsAt0_B m c t h h1 h h1]
  frame_out
  rw [more_q, point_q]

theorem final_q (c : Dev nD) : (dats m 0 c).arrAt 7 cfg0.N = weight (V m c main_arg0) (V m c main_arg4) := by
  refine (dats m 0 c).arrAt_eq_of_covers 7 _ (by decide +kernel) fun t hf y => ?_
  have h3 := (flush0_7 t).mp hf
  blk_simp
  rw [after0_7]
  refine (Pipeline.eq_sum_fin_of_reset_step_apply_of_flush (M := EReal) (fun n h => (outsAt0 m c n h).2.1) 4 (fun _ => 0)
    (fun t y => part (iblk m c 0 t) (iblk m c 2 t) y) (start_q m c) (step_q m c) t h3 y).trans ?_
  refine (zero_add _).trans ?_
  unfold weight part
  show (_ : EReal) = _
  refine Fin.sum_mul_add_congr fun s k hl => ?_
  refine congrArg₂ (fun a b : EReal => a * b) (congrArg₂ (fun a b : EReal => a * b) ?_ (congrArg scale (Finset.sum_congr rfl fun j _ =>
    congrArg₂ (fun a b : EReal => a * b) ?_ ?_))) ?_
  all_goals blk_ext [iblk, idx t, idx ⟨_, Pipeline.run_point_lt_of_flush t h3 s⟩]

theorem start_kv (c : Dev nD) (t : Fin cfg0.N) (h : t.val % 4 = 0) (y : S1x512.Idx) :
    (outsAt0 m c t.val t.isLt).2.2 y = (0 : EReal) + part (iblk m c 1 t) (iblk m c 3 t) y := by
  have h1 : ¬1 ≤ t.val := by have hN : t.val < 4 := lt_of_lt_of_eq t.isLt N_0; omega
  rw [outsAt0_A m c t h h1 h h1]
  frame_out
  rw [point_kv, zero_add]

theorem step_kv (c : Dev nD) (t : Fin cfg0.N) (h : ¬t.val % 4 = 0) (y : S1x512.Idx) :
    (outsAt0 m c t.val t.isLt).2.2 y
      = ((outsAt0 m c (t.val - 1) (Nat.lt_of_le_of_lt (Nat.sub_le _ _) t.isLt)).2.2 y : EReal) + part (iblk m c 1 t) (iblk m c 3 t) y := by
  have h1 : 1 ≤ t.val := by omega
  rw [outsAt0_B m c t h h1 h h1]
  frame_out
  rw [more_kv, point_kv]

theorem final_kv (c : Dev nD) : (dats m 0 c).arrAt 8 cfg0.N = weight (V m c main_arg1) (V m c main_arg5) := by
  refine (dats m 0 c).arrAt_eq_of_covers 8 _ (by decide +kernel) fun t hf y => ?_
  have h3 := (flush0_8 t).mp hf
  blk_simp
  rw [after0_8]
  refine (Pipeline.eq_sum_fin_of_reset_step_apply_of_flush (M := EReal) (fun n h => (outsAt0 m c n h).2.2) 4 (fun _ => 0)
    (fun t y => part (iblk m c 1 t) (iblk m c 3 t) y) (start_kv m c) (step_kv m c) t h3 y).trans ?_
  refine (zero_add _).trans ?_
  unfold weight part
  show (_ : EReal) = _
  refine Fin.sum_mul_add_congr fun s k hl => ?_
  refine congrArg₂ (fun a b : EReal => a * b) (congrArg₂ (fun a b : EReal => a * b) ?_ (congrArg scale (Finset.sum_congr rfl fun j _ =>
    congrArg₂ (fun a b : EReal => a * b) ?_ ?_))) ?_
  all_goals blk_ext [iblk, idx t, idx ⟨_, Pipeline.run_point_lt_of_flush t h3 s⟩]

theorem V_0 (c : Dev nD) : V m c main_arg0 = (m ((c.tc : Thread nD τ).loc main_arg0) : FVec Ideal S2048x512 .f32) := by
  entry_read
  rfl

theorem V_1 (c : Dev nD) : V m c main_arg1 = (m ((c.tc : Thread nD τ).loc main_arg1) : FVec Ideal S2048x512 .f32) := by
  entry_read
  rfl

theorem V_4 (c : Dev nD) : V m c main_arg4 = (m ((c.tc : Thread nD τ).loc main_arg4) : FVec Ideal S2048x512 .f32) := by
  entry_read
  rfl

theorem V_5 (c : Dev nD) : V m c main_arg5 = (m ((c.tc : Thread nD τ).loc main_arg5) : FVec Ideal S2048x512 .f32) := by
  entry_read
  rfl

theorem V_g0 (c : Dev nD) : V m c main_v0 = broadcastInDim S1x512 ![1] bcast_S512_S1x512_1 (m ((c.tc : Thread nD τ).loc main_arg2) : FVec Ideal S512 .f32) := by
  entry_read
  rfl

theorem V_g1 (c : Dev nD) : V m c main_v1 = broadcastInDim S1x512 ![1] bcast_S512_S1x512_1 (m ((c.tc : Thread nD τ).loc main_arg3) : FVec Ideal S512 .f32) := by
  entry_read
  rfl

/-- The gradients of the two norms' arguments, of the call's arguments. -/
def backOf (c : Dev nD) : FVec Ideal S2048x1024 .bf16 :=
  back (m ((c.tc : Thread nD τ).loc main_arg0) : FVec Ideal S2048x512 .f32) (m ((c.tc : Thread nD τ).loc main_arg1) : FVec Ideal S2048x512 .f32)
    (m ((c.tc : Thread nD τ).loc main_arg4) : FVec Ideal S2048x512 .f32) (m ((c.tc : Thread nD τ).loc main_arg5) : FVec Ideal S2048x512 .f32)
    (broadcastInDim S1x512 ![1] bcast_S512_S1x512_1 (m ((c.tc : Thread nD τ).loc main_arg2) : FVec Ideal S512 .f32))
    (broadcastInDim S1x512 ![1] bcast_S512_S1x512_1 (m ((c.tc : Thread nD τ).loc main_arg3) : FVec Ideal S512 .f32))

theorem left_back (c : Dev nD) : (dats m 0 c).arrAt 6 cfg0.N = backOf m c := by
  refine (final_back m c).trans ?_
  rw [V_0, V_1, V_4, V_5, V_g0, V_g1]
  rfl

/-- The gradient of the queries' norm's weight, of the call's arguments, as one row. -/
def qOf (c : Dev nD) : FVec Ideal S1x512 .f32 :=
  weight (m ((c.tc : Thread nD τ).loc main_arg0) : FVec Ideal S2048x512 .f32) (m ((c.tc : Thread nD τ).loc main_arg4) : FVec Ideal S2048x512 .f32)

theorem left_q (c : Dev nD) : (dats m 0 c).arrAt 7 cfg0.N = qOf m c := by
  refine (final_q m c).trans ?_
  rw [V_0, V_4]
  rfl

/-- The gradient of the keys' and values' norm's weight, of the call's arguments, as one row. -/
def kvOf (c : Dev nD) : FVec Ideal S1x512 .f32 :=
  weight (m ((c.tc : Thread nD τ).loc main_arg1) : FVec Ideal S2048x512 .f32) (m ((c.tc : Thread nD τ).loc main_arg5) : FVec Ideal S2048x512 .f32)

theorem left_kv (c : Dev nD) : (dats m 0 c).arrAt 8 cfg0.N = kvOf m c := by
  refine (final_kv m c).trans ?_
  rw [V_1, V_5]
  rfl

theorem arrays_distinct : Function.Injective (Pipeline.arrRef (cfgs 0).spec) := by decide

theorem region_back (c : Dev nD) : Pipeline.withArrays (cfgs 0).spec c (V0 m c) (fun w => (dats m 0 c).arrAt w (cfgs 0).N) (Proc.devRef .tc main_v2_0) = backOf m c :=
  (Pipeline.withArrays_arr (cfgs 0).spec arrays_distinct c (V0 m c) (fun w => (dats m 0 c).arrAt w (cfgs 0).N) 6).trans (left_back m c)

theorem region_q (c : Dev nD) : Pipeline.withArrays (cfgs 0).spec c (V0 m c) (fun w => (dats m 0 c).arrAt w (cfgs 0).N) (Proc.devRef .tc main_v2_1) = qOf m c :=
  (Pipeline.withArrays_arr (cfgs 0).spec arrays_distinct c (V0 m c) (fun w => (dats m 0 c).arrAt w (cfgs 0).N) 7).trans (left_q m c)

theorem region_kv (c : Dev nD) : Pipeline.withArrays (cfgs 0).spec c (V0 m c) (fun w => (dats m 0 c).arrAt w (cfgs 0).N) (Proc.devRef .tc main_v2_2) = kvOf m c :=
  (Pipeline.withArrays_arr (cfgs 0).spec arrays_distinct c (V0 m c) (fun w => (dats m 0 c).arrAt w (cfgs 0).N) 8).trans (left_kv m c)

theorem result_left_part (c : Dev nD) : Pipeline.afterTail₀ cfgs (dats m) 0 (V0 m) [hostOps1] c main_v4 = extractStridedSlice S2048x512 ![0, 0] (extf .f32 (backOf m c) bitsLt_bf16_f32) slices_S2048x1024_S2048x512_0_0 := by
  rw [← region_back m c]
  unfold Pipeline.afterTail₀
  generalize Pipeline.withArrays (cfgs 0).spec c (V0 m c) (fun w => (dats m 0 c).arrAt w (cfgs 0).N) = W
  show StableHlo.after hostOps1 W (Proc.devRef .tc main_v4) = _
  after_results

theorem result_right_part (c : Dev nD) : Pipeline.afterTail₀ cfgs (dats m) 0 (V0 m) [hostOps1] c main_v5 = extractStridedSlice S2048x512 ![0, 512] (extf .f32 (backOf m c) bitsLt_bf16_f32) slices_S2048x1024_S2048x512_0_512 := by
  rw [← region_back m c]
  unfold Pipeline.afterTail₀
  generalize Pipeline.withArrays (cfgs 0).spec c (V0 m c) (fun w => (dats m 0 c).arrAt w (cfgs 0).N) = W
  show StableHlo.after hostOps1 W (Proc.devRef .tc main_v5) = _
  after_results

theorem result_q (c : Dev nD) : Pipeline.afterTail₀ cfgs (dats m) 0 (V0 m) [hostOps1] c main_v6 = shapeCast S512 (qOf m c) shapeCasts_S1x512_S512 := by
  rw [← region_q m c]
  unfold Pipeline.afterTail₀
  generalize Pipeline.withArrays (cfgs 0).spec c (V0 m c) (fun w => (dats m 0 c).arrAt w (cfgs 0).N) = W
  show StableHlo.after hostOps1 W (Proc.devRef .tc main_v6) = _
  after_results
  rfl

theorem result_kv (c : Dev nD) : Pipeline.afterTail₀ cfgs (dats m) 0 (V0 m) [hostOps1] c main_v7 = shapeCast S512 (kvOf m c) shapeCasts_S1x512_S512 := by
  rw [← region_kv m c]
  unfold Pipeline.afterTail₀
  generalize Pipeline.withArrays (cfgs 0).spec c (V0 m c) (fun w => (dats m 0 c).arrAt w (cfgs 0).N) = W
  show StableHlo.after hostOps1 W (Proc.devRef .tc main_v7) = _
  after_results
  rfl

end Cert.Kernel25Ideal.Prod

namespace Cert.Proof

open Idealize.ShloMosaic Idealize.ShloMosaic.TcCoe Idealize.SL.Sem

theorem frame_reference25 : Cert.quiescent_Reference25Ideal := fun m ρ _ =>
  (θ_run Cert.Reference25Ideal.defs _ _).mono (fun r h => ⟨fun c => (h c).2.2.2.2, sem_eq_zero_of_no_sems rfl r.2⟩)
    (Cert.Reference25Ideal.Value.run (F := Ideal) m ρ)

theorem algebraic25 : Cert.algebraic_Kernel25Ideal_Reference25Ideal := by
  intro m g m' g' _ hargs
  refine ⟨fun c => extractStridedSlice Cert.Kernel25Ideal.S2048x512 ![0, 0] (extf .f32 (Cert.Kernel25Ideal.Prod.backOf m c) Cert.Kernel25Ideal.Gen.bitsLt_bf16_f32) Cert.Kernel25Ideal.Gen.slices_S2048x1024_S2048x512_0_0,
    fun c => extractStridedSlice Cert.Kernel25Ideal.S2048x512 ![0, 512] (extf .f32 (Cert.Kernel25Ideal.Prod.backOf m c) Cert.Kernel25Ideal.Gen.bitsLt_bf16_f32) Cert.Kernel25Ideal.Gen.slices_S2048x1024_S2048x512_0_512,
    fun c => shapeCast Cert.Kernel25Ideal.S512 (Cert.Kernel25Ideal.Prod.qOf m c) Cert.Kernel25Ideal.Gen.shapeCasts_S1x512_S512,
    fun c => shapeCast Cert.Kernel25Ideal.S512 (Cert.Kernel25Ideal.Prod.kvOf m c) Cert.Kernel25Ideal.Gen.shapeCasts_S1x512_S512, ?_, ?_⟩
  · refine (θ_run Cert.Kernel25Ideal.defs _ _).mono (fun r hr c => ?_) (θ_run_and (Cert.Kernel25Ideal.Gen.run_main m g) (Cert.Kernel25Ideal.Gen.unchanged m g))
    obtain ⟨h, hu⟩ := hr
    exact ⟨((h c).2 Cert.Kernel25Ideal.main_v4 (Pipeline.mem_restRefs_of _ (by decide) (by decide))).trans (Cert.Kernel25Ideal.Prod.result_left_part m c),
      ((h c).2 Cert.Kernel25Ideal.main_v5 (Pipeline.mem_restRefs_of _ (by decide) (by decide))).trans (Cert.Kernel25Ideal.Prod.result_right_part m c),
      ((h c).2 Cert.Kernel25Ideal.main_v6 (Pipeline.mem_restRefs_of _ (by decide) (by decide))).trans (Cert.Kernel25Ideal.Prod.result_q m c),
      ((h c).2 Cert.Kernel25Ideal.main_v7 (Pipeline.mem_restRefs_of _ (by decide) (by decide))).trans (Cert.Kernel25Ideal.Prod.result_kv m c), hu c⟩
  · refine (θ_run Cert.Reference25Ideal.defs _ _).mono (fun r hr c => ?_) (Cert.Reference25Ideal.Value.run m' g')
    obtain ⟨q0, q1, q2, q3, q4, q5⟩ := hargs c
    obtain ⟨r0, r1, r2, r3, rest⟩ := hr c
    rw [q0, q2, q4] at r0
    rw [q1, q3, q5] at r1
    rw [q0, q4] at r2
    rw [q1, q5] at r3
    refine ⟨r0.trans ?_, r1.trans ?_, r2.trans ?_, r3.trans ?_, rest⟩
    · unfold Cert.Kernel25Ideal.Prod.backOf
      funext (y : Cert.Kernel25Ideal.S2048x512.Idx)
      pointwise [Cert.Kernel25Ideal.Prod.back, Cert.Kernel25Ideal.Prod.side, Cert.Kernel25Ideal.Prod.through, Cert.Kernel25Ideal.Prod.scale, Cert.Kernel25Ideal.Prod.meanSq]
      simp only [Fin.sum_univ_one]
    · unfold Cert.Kernel25Ideal.Prod.backOf
      funext (y : Cert.Kernel25Ideal.S2048x512.Idx)
      pointwise [Cert.Kernel25Ideal.Prod.back, Cert.Kernel25Ideal.Prod.side, Cert.Kernel25Ideal.Prod.through, Cert.Kernel25Ideal.Prod.scale, Cert.Kernel25Ideal.Prod.meanSq]
      simp only [Fin.sum_univ_one]
    · unfold Cert.Kernel25Ideal.Prod.qOf
      funext y
      pointwise [Cert.Kernel25Ideal.Prod.weight, Cert.Kernel25Ideal.Prod.scale, Cert.Kernel25Ideal.Prod.meanSq]
      simp only [Fin.sum_univ_one]
    · unfold Cert.Kernel25Ideal.Prod.kvOf
      funext y
      pointwise [Cert.Kernel25Ideal.Prod.weight, Cert.Kernel25Ideal.Prod.scale, Cert.Kernel25Ideal.Prod.meanSq]
      simp only [Fin.sum_univ_one]

end Cert.Proof

end
-- ==== Proof.Prod.Head.lean ====
/- The loss head: the norm after the output projection, the loss, and the cotangents of the head's three arguments; the arrays that
   the call leaves, and the claim. The loss and the gradient of the norm's weight are sums over all rows, which the kernel adds up in
   four parts. -/
module

public import proofs.«01_k».proof.Defs
public import proofs.«01_k».proof.Proof.Gen.Kernel24Ideal.Frame
public import proofs.«01_k».proof.Proof.Gen.Reference24Ideal.Run
public import Idealize.ShloMosaic.Lib.Pipeline.ValueKit
public import Idealize.ShloMosaic.Lib.Pointwise

@[expose] public section

set_option maxRecDepth 16384

noncomputable section

namespace Cert.Kernel24Ideal.Prod

open Idealize.ShloMosaic Idealize.ShloMosaic.TcCoe Idealize.SL.Sem
open Idealize.ShloMosaic.Pipeline (Dat)
open Cert.Kernel24Ideal Cert.Kernel24Ideal.Gen

theorem half_eq : Ideal.ofBits FTy.f32 1056964608#32 = ((1 / 2 : ℝ) : EReal) := by
  simp [Ideal.ofBits, Ideal.ieee, -EReal.coe_mul]; norm_num

theorem two_eq : Ideal.ofBits FTy.f32 1073741824#32 = ((2 : ℝ) : EReal) := by
  simp [Ideal.ofBits, Ideal.ieee, -EReal.coe_mul]; norm_num

theorem width_eq : Ideal.ofBits FTy.f32 1157627904#32 = ((2048 : ℝ) : EReal) := by
  simp [Ideal.ofBits, Ideal.ieee, -EReal.coe_mul]; norm_num

theorem part_eq : Ideal.ofBits FTy.f32 973078528#32 = ((1 / 2048 : ℝ) : EReal) := by
  simp [Ideal.ofBits, Ideal.ieee, -EReal.coe_mul]; norm_num

/-- Dividing by the row's width is multiplying by its inverse. -/
theorem div_width (a : EReal) : Ideal.div a (Ideal.ofBits FTy.f32 1157627904#32) = a * Ideal.ofBits FTy.f32 973078528#32 := by
  rw [width_eq, part_eq]
  unfold Ideal.div
  rw [if_neg (by norm_num), ← EReal.coe_inv]
  norm_num

/-- The cotangent of the error as the derivative of the square gives it. -/
theorem cot_eq (e : EReal) : Ideal.div (Ideal.ofBits FTy.f32 1056964608#32) (Ideal.ofBits FTy.f32 1157627904#32) * (Ideal.ofBits FTy.f32 1073741824#32 * e)
    = e * Ideal.ofBits FTy.f32 973078528#32 := by
  rw [div_width, half_eq, two_eq, part_eq, ← mul_assoc, ← EReal.coe_mul, ← EReal.coe_mul, mul_comm e]
  norm_num

theorem real_mul_sum (r : ℝ) (hr : 0 ≤ r) {n : ℕ} (f : Fin n → EReal) : (r : EReal) * ∑ i, f i = ∑ i, (r : EReal) * f i :=
  map_sum (⟨⟨fun a => (r : EReal) * a, mul_zero _⟩,
    fun a b => EReal.left_distrib_of_nonneg_of_ne_top (by exact_mod_cast hr) (EReal.coe_ne_top r) a b⟩ : EReal →+ EReal) f Finset.univ

/-- The loss's two factors go into the sum over the rows. -/
theorem spread {n : ℕ} (f : Fin n → EReal) : Ideal.ofBits FTy.f32 1056964608#32 * (∑ i, f i) * Ideal.ofBits FTy.f32 973078528#32
    = ∑ i, Ideal.ofBits FTy.f32 1056964608#32 * f i * Ideal.ofBits FTy.f32 973078528#32 := by
  rw [half_eq, part_eq, real_mul_sum _ (by norm_num), mul_comm, real_mul_sum _ (by norm_num)]
  exact Finset.sum_congr rfl fun i _ => mul_comm _ _

theorem spread_div {n : ℕ} (f : Fin n → EReal) : Ideal.ofBits FTy.f32 1056964608#32 * (∑ i, Ideal.div (f i) (Ideal.ofBits FTy.f32 1157627904#32))
    = ∑ i, Ideal.ofBits FTy.f32 1056964608#32 * f i * Ideal.ofBits FTy.f32 973078528#32 := by
  simp only [div_width]
  rw [half_eq, real_mul_sum _ (by norm_num)]
  exact Finset.sum_congr rfl fun i _ => (mul_assoc _ _ _).symm

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

/-- The mean square of a row and the small constant, from the row's sum of squares. -/
def meanSq (s : EReal) : EReal := Ideal.div s (Ideal.ofBits FTy.f32 1157627904#32) + Ideal.ofBits FTy.f32 897988541#32

/-- What a row of the norm is multiplied by. -/
def scale (s : EReal) : EReal := Ideal.rsqrt (meanSq s)

/-- What comes to a row through its mean square, from its sum of squares and its sum of products with the cotangent. -/
def through (s p : EReal) : EReal :=
  Ideal.div (p * (Ideal.ofBits FTy.f32 3204448256#32 * Ideal.div (scale s) (meanSq s))) (Ideal.ofBits FTy.f32 1157627904#32)

/-- The error at one place: the argument `b` and the normed `a`, less the target `d`. -/
def err (a b d w s : EReal) : EReal := b + a * scale s * w - d

/-- The cotangent of the step's output at one place. -/
def cot (a b d w s : EReal) : EReal := err a b d w s * Ideal.ofBits FTy.f32 973078528#32

/-- The cotangent of the step's output. -/
def past (o x t : FVec Ideal S2048x2048 .f32) (g : FVec Ideal S1x2048 .f32) : FVec Ideal S2048x2048 .f32 := fun y =>
  cot (o y) (x y) (t y) (g (ix2 0 (y 1))) (∑ j : Fin 2048, (o (ix2 (y 0) j) : EReal) * o (ix2 (y 0) j))

/-- The cotangent of the output projection. -/
def back (o x t : FVec Ideal S2048x2048 .f32) (g : FVec Ideal S1x2048 .f32) : FVec Ideal S2048x2048 .bf16 := fun y =>
  (cot (o y) (x y) (t y) (g (ix2 0 (y 1))) (∑ j : Fin 2048, (o (ix2 (y 0) j) : EReal) * o (ix2 (y 0) j)) * g (ix2 0 (y 1)) * scale (∑ j : Fin 2048, (o (ix2 (y 0) j) : EReal) * o (ix2 (y 0) j))
      + o y * through (∑ j : Fin 2048, (o (ix2 (y 0) j) : EReal) * o (ix2 (y 0) j))
        (∑ k : Fin 2048, (o (ix2 (y 0) k) : EReal) * (cot (o (ix2 (y 0) k)) (x (ix2 (y 0) k)) (t (ix2 (y 0) k)) (g (ix2 0 k)) (∑ j : Fin 2048, (o (ix2 (y 0) j) : EReal) * o (ix2 (y 0) j)) * g (ix2 0 k)))
      + through (∑ j : Fin 2048, (o (ix2 (y 0) j) : EReal) * o (ix2 (y 0) j))
        (∑ k : Fin 2048, (o (ix2 (y 0) k) : EReal) * (cot (o (ix2 (y 0) k)) (x (ix2 (y 0) k)) (t (ix2 (y 0) k)) (g (ix2 0 k)) (∑ j : Fin 2048, (o (ix2 (y 0) j) : EReal) * o (ix2 (y 0) j)) * g (ix2 0 k))) * o y : EReal)

/-- The gradient of the norm's weight. -/
def weight (o x t : FVec Ideal S2048x2048 .f32) (g : FVec Ideal S1x2048 .f32) : FVec Ideal S1x2048 .f32 := fun y =>
  (∑ i : Fin 2048, (o (ix2 i (y 1)) * scale (∑ j : Fin 2048, (o (ix2 i j) : EReal) * o (ix2 i j))
      * cot (o (ix2 i (y 1))) (x (ix2 i (y 1))) (t (ix2 i (y 1))) (g (ix2 0 (y 1))) (∑ j : Fin 2048, (o (ix2 i j) : EReal) * o (ix2 i j)) : EReal))

/-- The part of it that comes from one block of rows. -/
def weightPart (o x t : FVec Ideal S512x2048 .f32) (g : FVec Ideal S1x2048 .f32) (y : S1x2048.Idx) : EReal :=
  (∑ i : Fin 512, (o (ix2 i (y 1)) * scale (∑ j : Fin 2048, (o (ix2 i j) : EReal) * o (ix2 i j))
      * cot (o (ix2 i (y 1))) (x (ix2 i (y 1))) (t (ix2 i (y 1))) (g (ix2 0 (y 1))) (∑ j : Fin 2048, (o (ix2 i j) : EReal) * o (ix2 i j)) : EReal))

/-- The loss, at every place of a row. -/
def loss (o x t : FVec Ideal S2048x2048 .f32) (g : FVec Ideal S1x2048 .f32) : FVec Ideal S1x128 .f32 := fun _ =>
  (∑ i : Fin 2048, Ideal.ofBits FTy.f32 1056964608#32
      * (∑ k : Fin 2048, err (o (ix2 i k)) (x (ix2 i k)) (t (ix2 i k)) (g (ix2 0 k)) (∑ j : Fin 2048, (o (ix2 i j) : EReal) * o (ix2 i j))
        * err (o (ix2 i k)) (x (ix2 i k)) (t (ix2 i k)) (g (ix2 0 k)) (∑ j : Fin 2048, (o (ix2 i j) : EReal) * o (ix2 i j))) * Ideal.ofBits FTy.f32 973078528#32 : EReal)

/-- The part of it that comes from one block of rows. -/
def lossPart (o x t : FVec Ideal S512x2048 .f32) (g : FVec Ideal S1x2048 .f32) : EReal :=
  (∑ i : Fin 512, Ideal.ofBits FTy.f32 1056964608#32
      * (∑ k : Fin 2048, err (o (ix2 i k)) (x (ix2 i k)) (t (ix2 i k)) (g (ix2 0 k)) (∑ j : Fin 2048, (o (ix2 i j) : EReal) * o (ix2 i j))
        * err (o (ix2 i k)) (x (ix2 i k)) (t (ix2 i k)) (g (ix2 0 k)) (∑ j : Fin 2048, (o (ix2 i j) : EReal) * o (ix2 i j))) * Ideal.ofBits FTy.f32 973078528#32 : EReal)

theorem point_past (o x t : FVec Ideal S512x2048 .f32) (g : FVec Ideal S1x2048 .f32) (y : S512x2048.Idx) : k0_pay10 (F := Ideal) o x t g y
    = cot (o y) (x y) (t y) (g (ix2 0 (y 1))) (∑ j : Fin 2048, (o (ix2 (y 0) j) : EReal) * o (ix2 (y 0) j)) := by
  pointwise [k0_pay14, k0_pay13, k0_pay12, k0_pay10, k0_pay9, k0_pay8, k0_pay7, k0_pay6, k0_pay5, cot, err, scale, meanSq]

theorem point_back (o x t : FVec Ideal S512x2048 .f32) (g : FVec Ideal S1x2048 .f32) (y : S512x2048.Idx) :
    k0_pay2 (F := Ideal) o (k0_pay13 (F := Ideal) o x t g) (k0_pay14 (F := Ideal) o x t g) y
      = (cot (o y) (x y) (t y) (g (ix2 0 (y 1))) (∑ j : Fin 2048, (o (ix2 (y 0) j) : EReal) * o (ix2 (y 0) j)) * g (ix2 0 (y 1)) * scale (∑ j : Fin 2048, (o (ix2 (y 0) j) : EReal) * o (ix2 (y 0) j))
      + o y * through (∑ j : Fin 2048, (o (ix2 (y 0) j) : EReal) * o (ix2 (y 0) j))
        (∑ k : Fin 2048, (o (ix2 (y 0) k) : EReal) * (cot (o (ix2 (y 0) k)) (x (ix2 (y 0) k)) (t (ix2 (y 0) k)) (g (ix2 0 k)) (∑ j : Fin 2048, (o (ix2 (y 0) j) : EReal) * o (ix2 (y 0) j)) * g (ix2 0 k)))
      + through (∑ j : Fin 2048, (o (ix2 (y 0) j) : EReal) * o (ix2 (y 0) j))
        (∑ k : Fin 2048, (o (ix2 (y 0) k) : EReal) * (cot (o (ix2 (y 0) k)) (x (ix2 (y 0) k)) (t (ix2 (y 0) k)) (g (ix2 0 k)) (∑ j : Fin 2048, (o (ix2 (y 0) j) : EReal) * o (ix2 (y 0) j)) * g (ix2 0 k))) * o y : EReal) := by
  pointwise [k0_pay2, k0_pay14, k0_pay13, k0_pay12, k0_pay10, k0_pay9, k0_pay8, k0_pay7, k0_pay6, k0_pay5, through, cot, err, scale, meanSq]
  simp only [Fin.sum_univ_one]

theorem point_weight (o x t : FVec Ideal S512x2048 .f32) (g : FVec Ideal S1x2048 .f32) (y : S1x2048.Idx) : k0_pay11 (F := Ideal) o x t g y = weightPart o x t g y := by
  pointwise [k0_pay11, k0_pay14, k0_pay13, k0_pay12, k0_pay10, k0_pay9, k0_pay8, k0_pay7, k0_pay6, k0_pay5, weightPart, cot, err, scale, meanSq]

theorem more_weight (v acc : FVec Ideal S1x2048 .f32) (y : S1x2048.Idx) : k0_pay4 (F := Ideal) v acc y = (acc y + v y : EReal) := by
  pointwise [k0_pay4]

theorem point_loss (o x t : FVec Ideal S512x2048 .f32) (g : FVec Ideal S1x2048 .f32) (y : S1x128.Idx) : k0_pay1 (F := Ideal) (k0_pay9 (F := Ideal) o x t g) y = lossPart o x t g := by
  pointwise [k0_pay1, k0_pay14, k0_pay13, k0_pay12, k0_pay10, k0_pay9, k0_pay8, k0_pay7, k0_pay6, k0_pay5, lossPart, err, scale, meanSq]
  rw [spread]

theorem more_loss (o x t : FVec Ideal S512x2048 .f32) (g : FVec Ideal S1x2048 .f32) (acc : FVec Ideal S1x128 .f32) (y : S1x128.Idx) :
    k0_pay3 (F := Ideal) (k0_pay9 (F := Ideal) o x t g) acc y = (acc y + lossPart o x t g : EReal) := by
  rw [← point_loss o x t g y]
  pointwise [k0_pay3]

theorem final_past (c : Dev nD) : (dats m 0 c).arrAt 4 cfg0.N = past (V m c main_arg0) (V m c main_arg1) (V m c main_arg2) (V m c main_v0) := by
  refine (dats m 0 c).arrAt_eq_of_covers 4 _ (by decide +kernel) fun t _ y => ?_
  blk_simp
  rw [after0_4]
  have e : (outsAt0 m c t.val t.isLt).1 = k0_pay10 (F := Ideal) (iblk m c 0 t) (iblk m c 1 t) (iblk m c 2 t) (iblk m c 3 t) := by
    by_cases h : t.val % 4 = 0
    · have h1 : ¬1 ≤ t.val := by have hN : t.val < 4 := lt_of_lt_of_eq t.isLt N_0; omega
      rw [outsAt0_A m c t h h1 h h1]
      frame_out
    · have h1 : 1 ≤ t.val := by omega
      rw [outsAt0_B m c t h h1 h h1]
      frame_out
  rw [e, point_past]
  unfold past
  blk_point [iblk, idx t]

theorem final_back (c : Dev nD) : (dats m 0 c).arrAt 5 cfg0.N = back (V m c main_arg0) (V m c main_arg1) (V m c main_arg2) (V m c main_v0) := by
  refine (dats m 0 c).arrAt_eq_of_covers 5 _ (by decide +kernel) fun t _ y => ?_
  blk_simp
  rw [after0_5]
  have e : (outsAt0 m c t.val t.isLt).2.1 = k0_pay2 (F := Ideal) (iblk m c 0 t) (k0_pay13 (F := Ideal) (iblk m c 0 t) (iblk m c 1 t) (iblk m c 2 t) (iblk m c 3 t))
      (k0_pay14 (F := Ideal) (iblk m c 0 t) (iblk m c 1 t) (iblk m c 2 t) (iblk m c 3 t)) := by
    by_cases h : t.val % 4 = 0
    · have h1 : ¬1 ≤ t.val := by have hN : t.val < 4 := lt_of_lt_of_eq t.isLt N_0; omega
      rw [outsAt0_A m c t h h1 h h1]
      frame_out
    · have h1 : 1 ≤ t.val := by omega
      rw [outsAt0_B m c t h h1 h h1]
      frame_out
  rw [e, point_back]
  unfold back
  blk_point [iblk, idx t]

theorem start_weight (c : Dev nD) (t : Fin cfg0.N) (h : t.val % 4 = 0) (y : S1x2048.Idx) :
    (outsAt0 m c t.val t.isLt).2.2.2 y = (0 : EReal) + weightPart (iblk m c 0 t) (iblk m c 1 t) (iblk m c 2 t) (iblk m c 3 t) y := by
  have h1 : ¬1 ≤ t.val := by have hN : t.val < 4 := lt_of_lt_of_eq t.isLt N_0; omega
  rw [outsAt0_A m c t h h1 h h1]
  frame_out
  rw [point_weight, zero_add]

theorem step_weight (c : Dev nD) (t : Fin cfg0.N) (h : ¬t.val % 4 = 0) (y : S1x2048.Idx) :
    (outsAt0 m c t.val t.isLt).2.2.2 y
      = ((outsAt0 m c (t.val - 1) (Nat.lt_of_le_of_lt (Nat.sub_le _ _) t.isLt)).2.2.2 y : EReal) + weightPart (iblk m c 0 t) (iblk m c 1 t) (iblk m c 2 t) (iblk m c 3 t) y := by
  have h1 : 1 ≤ t.val := by omega
  rw [outsAt0_B m c t h h1 h h1]
  frame_out
  rw [more_weight, point_weight]

theorem final_weight (c : Dev nD) : (dats m 0 c).arrAt 7 cfg0.N = weight (V m c main_arg0) (V m c main_arg1) (V m c main_arg2) (V m c main_v0) := by
  refine (dats m 0 c).arrAt_eq_of_covers 7 _ (by decide +kernel) fun t hf y => ?_
  have h3 := (flush0_7 t).mp hf
  blk_simp
  rw [after0_7]
  refine (Pipeline.eq_sum_fin_of_reset_step_apply_of_flush (M := EReal) (fun n h => (outsAt0 m c n h).2.2.2) 4 (fun _ => 0)
    (fun t y => weightPart (iblk m c 0 t) (iblk m c 1 t) (iblk m c 2 t) (iblk m c 3 t) y) (start_weight m c) (step_weight m c) t h3 y).trans ?_
  refine (zero_add _).trans ?_
  unfold weight weightPart
  show (_ : EReal) = _
  refine Fin.sum_mul_add_congr fun s k hl => ?_
  have cot_congr : ∀ {a a' b b' d d' w w' s s' : EReal}, a = a' → b = b' → d = d' → w = w' → s = s' → cot a b d w s = cot a' b' d' w' s' := by
    rintro _ _ _ _ _ _ _ _ _ _ rfl rfl rfl rfl rfl; rfl
  refine congrArg₂ (fun a b : EReal => a * b) (congrArg₂ (fun a b : EReal => a * b) ?_ (congrArg scale (Finset.sum_congr rfl fun j _ => congrArg₂ (fun a b : EReal => a * b) ?_ ?_)))
    (cot_congr ?_ ?_ ?_ ?_ (Finset.sum_congr rfl fun j _ => congrArg₂ (fun a b : EReal => a * b) ?_ ?_))
  all_goals blk_ext [iblk, idx t, idx ⟨_, Pipeline.run_point_lt_of_flush t h3 s⟩]

theorem start_loss (c : Dev nD) (t : Fin cfg0.N) (h : t.val % 4 = 0) (y : S1x128.Idx) :
    (outsAt0 m c t.val t.isLt).2.2.1 y = (0 : EReal) + lossPart (iblk m c 0 t) (iblk m c 1 t) (iblk m c 2 t) (iblk m c 3 t) := by
  have h1 : ¬1 ≤ t.val := by have hN : t.val < 4 := lt_of_lt_of_eq t.isLt N_0; omega
  rw [outsAt0_A m c t h h1 h h1]
  frame_out
  rw [point_loss, zero_add]

theorem step_loss (c : Dev nD) (t : Fin cfg0.N) (h : ¬t.val % 4 = 0) (y : S1x128.Idx) :
    (outsAt0 m c t.val t.isLt).2.2.1 y
      = ((outsAt0 m c (t.val - 1) (Nat.lt_of_le_of_lt (Nat.sub_le _ _) t.isLt)).2.2.1 y : EReal) + lossPart (iblk m c 0 t) (iblk m c 1 t) (iblk m c 2 t) (iblk m c 3 t) := by
  have h1 : 1 ≤ t.val := by omega
  rw [outsAt0_B m c t h h1 h h1]
  frame_out
  rw [more_loss]

theorem final_loss (c : Dev nD) : (dats m 0 c).arrAt 6 cfg0.N = loss (V m c main_arg0) (V m c main_arg1) (V m c main_arg2) (V m c main_v0) := by
  refine (dats m 0 c).arrAt_eq_of_covers 6 _ (by decide +kernel) fun t hf y => ?_
  have h3 := (flush0_6 t).mp hf
  blk_simp
  rw [after0_6]
  refine (Pipeline.eq_sum_fin_of_reset_step_apply_of_flush (M := EReal) (fun n h => (outsAt0 m c n h).2.2.1) 4 (fun _ => 0)
    (fun t y => lossPart (iblk m c 0 t) (iblk m c 1 t) (iblk m c 2 t) (iblk m c 3 t)) (start_loss m c) (step_loss m c) t h3 y).trans ?_
  refine (zero_add _).trans ?_
  unfold loss lossPart
  show (_ : EReal) = _
  refine Fin.sum_mul_add_congr fun s k hl => ?_
  have err_congr : ∀ {a a' b b' d d' w w' s s' : EReal}, a = a' → b = b' → d = d' → w = w' → s = s' → err a b d w s = err a' b' d' w' s' := by
    rintro _ _ _ _ _ _ _ _ _ _ rfl rfl rfl rfl rfl; rfl
  refine congrArg (fun a : EReal => Ideal.ofBits FTy.f32 1056964608#32 * a * Ideal.ofBits FTy.f32 973078528#32) (Finset.sum_congr rfl fun l _ => ?_)
  refine congrArg (fun a : EReal => a * a) (err_congr ?_ ?_ ?_ ?_ (Finset.sum_congr rfl fun j _ => congrArg₂ (fun a b : EReal => a * b) ?_ ?_))
  all_goals blk_ext [iblk, idx t, idx ⟨_, Pipeline.run_point_lt_of_flush t h3 s⟩]

theorem V_o (c : Dev nD) : V m c main_arg0 = (m ((c.tc : Thread nD τ).loc main_arg0) : FVec Ideal S2048x2048 .f32) := by
  entry_read
  rfl

theorem V_x (c : Dev nD) : V m c main_arg1 = (m ((c.tc : Thread nD τ).loc main_arg1) : FVec Ideal S2048x2048 .f32) := by
  entry_read
  rfl

theorem V_t (c : Dev nD) : V m c main_arg2 = (m ((c.tc : Thread nD τ).loc main_arg2) : FVec Ideal S2048x2048 .f32) := by
  entry_read
  rfl

theorem V_g (c : Dev nD) : V m c main_v0 = broadcastInDim S1x2048 ![1] bcast_S2048_S1x2048_1 (m ((c.tc : Thread nD τ).loc main_arg3) : FVec Ideal S2048 .f32) := by
  entry_read
  rfl

/-- The loss of the call's arguments, at every place of a row. -/
def lossOf (c : Dev nD) : FVec Ideal S1x128 .f32 :=
  loss (m ((c.tc : Thread nD τ).loc main_arg0) : FVec Ideal S2048x2048 .f32) (m ((c.tc : Thread nD τ).loc main_arg1) : FVec Ideal S2048x2048 .f32)
    (m ((c.tc : Thread nD τ).loc main_arg2) : FVec Ideal S2048x2048 .f32) (broadcastInDim S1x2048 ![1] bcast_S2048_S1x2048_1 (m ((c.tc : Thread nD τ).loc main_arg3) : FVec Ideal S2048 .f32))

theorem left_loss (c : Dev nD) : (dats m 0 c).arrAt 6 cfg0.N = lossOf m c := by
  refine (final_loss m c).trans ?_
  rw [V_o, V_x, V_t, V_g]
  rfl

/-- The cotangent of the step's output, of the call's arguments. -/
def pastOf (c : Dev nD) : FVec Ideal S2048x2048 .f32 :=
  past (m ((c.tc : Thread nD τ).loc main_arg0) : FVec Ideal S2048x2048 .f32) (m ((c.tc : Thread nD τ).loc main_arg1) : FVec Ideal S2048x2048 .f32)
    (m ((c.tc : Thread nD τ).loc main_arg2) : FVec Ideal S2048x2048 .f32) (broadcastInDim S1x2048 ![1] bcast_S2048_S1x2048_1 (m ((c.tc : Thread nD τ).loc main_arg3) : FVec Ideal S2048 .f32))

theorem left_past (c : Dev nD) : (dats m 0 c).arrAt 4 cfg0.N = pastOf m c := by
  refine (final_past m c).trans ?_
  rw [V_o, V_x, V_t, V_g]
  rfl

/-- The cotangent of the output projection, of the call's arguments. -/
def backOf (c : Dev nD) : FVec Ideal S2048x2048 .bf16 :=
  back (m ((c.tc : Thread nD τ).loc main_arg0) : FVec Ideal S2048x2048 .f32) (m ((c.tc : Thread nD τ).loc main_arg1) : FVec Ideal S2048x2048 .f32)
    (m ((c.tc : Thread nD τ).loc main_arg2) : FVec Ideal S2048x2048 .f32) (broadcastInDim S1x2048 ![1] bcast_S2048_S1x2048_1 (m ((c.tc : Thread nD τ).loc main_arg3) : FVec Ideal S2048 .f32))

theorem left_back (c : Dev nD) : (dats m 0 c).arrAt 5 cfg0.N = backOf m c := by
  refine (final_back m c).trans ?_
  rw [V_o, V_x, V_t, V_g]
  rfl

/-- The gradient of the norm's weight, of the call's arguments, as one row. -/
def weightOf (c : Dev nD) : FVec Ideal S1x2048 .f32 :=
  weight (m ((c.tc : Thread nD τ).loc main_arg0) : FVec Ideal S2048x2048 .f32) (m ((c.tc : Thread nD τ).loc main_arg1) : FVec Ideal S2048x2048 .f32)
    (m ((c.tc : Thread nD τ).loc main_arg2) : FVec Ideal S2048x2048 .f32) (broadcastInDim S1x2048 ![1] bcast_S2048_S1x2048_1 (m ((c.tc : Thread nD τ).loc main_arg3) : FVec Ideal S2048 .f32))

theorem left_weight (c : Dev nD) : (dats m 0 c).arrAt 7 cfg0.N = weightOf m c := by
  refine (final_weight m c).trans ?_
  rw [V_o, V_x, V_t, V_g]
  rfl

theorem arrays_distinct : Function.Injective (Pipeline.arrRef (cfgs 0).spec) := by decide

theorem region_loss (c : Dev nD) : Pipeline.withArrays (cfgs 0).spec c (V0 m c) (fun w => (dats m 0 c).arrAt w (cfgs 0).N) (Proc.devRef .tc main_v1_2) = lossOf m c :=
  (Pipeline.withArrays_arr (cfgs 0).spec arrays_distinct c (V0 m c) (fun w => (dats m 0 c).arrAt w (cfgs 0).N) 6).trans (left_loss m c)

theorem result_loss (c : Dev nD) : Pipeline.afterTail₀ cfgs (dats m) 0 (V0 m) [hostOps1] c main_v3 = shapeCast S_ (extractStridedSlice S1x1 ![0, 0] (lossOf m c) slices_S1x128_S1x1_0_0) shapeCasts_S1x1_S_ := by
  rw [← region_loss m c]
  unfold Pipeline.afterTail₀
  generalize Pipeline.withArrays (cfgs 0).spec c (V0 m c) (fun w => (dats m 0 c).arrAt w (cfgs 0).N) = W
  show StableHlo.after hostOps1 W (Proc.devRef .tc main_v3) = _
  after_results
  rfl

theorem region_back (c : Dev nD) : Pipeline.withArrays (cfgs 0).spec c (V0 m c) (fun w => (dats m 0 c).arrAt w (cfgs 0).N) (Proc.devRef .tc main_v1_1) = backOf m c :=
  (Pipeline.withArrays_arr (cfgs 0).spec arrays_distinct c (V0 m c) (fun w => (dats m 0 c).arrAt w (cfgs 0).N) 5).trans (left_back m c)

theorem result_back (c : Dev nD) : Pipeline.afterTail₀ cfgs (dats m) 0 (V0 m) [hostOps1] c main_v4 = extf .f32 (backOf m c) bitsLt_bf16_f32 := by
  rw [← region_back m c]
  unfold Pipeline.afterTail₀
  generalize Pipeline.withArrays (cfgs 0).spec c (V0 m c) (fun w => (dats m 0 c).arrAt w (cfgs 0).N) = W
  show StableHlo.after hostOps1 W (Proc.devRef .tc main_v4) = _
  after_results

theorem region_weight (c : Dev nD) : Pipeline.withArrays (cfgs 0).spec c (V0 m c) (fun w => (dats m 0 c).arrAt w (cfgs 0).N) (Proc.devRef .tc main_v1_3) = weightOf m c :=
  (Pipeline.withArrays_arr (cfgs 0).spec arrays_distinct c (V0 m c) (fun w => (dats m 0 c).arrAt w (cfgs 0).N) 7).trans (left_weight m c)

theorem result_weight (c : Dev nD) : Pipeline.afterTail₀ cfgs (dats m) 0 (V0 m) [hostOps1] c main_v5 = shapeCast S2048 (weightOf m c) shapeCasts_S1x2048_S2048 := by
  rw [← region_weight m c]
  unfold Pipeline.afterTail₀
  generalize Pipeline.withArrays (cfgs 0).spec c (V0 m c) (fun w => (dats m 0 c).arrAt w (cfgs 0).N) = W
  show StableHlo.after hostOps1 W (Proc.devRef .tc main_v5) = _
  after_results
  rfl

end Cert.Kernel24Ideal.Prod

namespace Cert.Proof

open Idealize.ShloMosaic Idealize.ShloMosaic.TcCoe Idealize.SL.Sem

theorem frame_reference24 : Cert.quiescent_Reference24Ideal := fun m ρ _ =>
  (θ_run Cert.Reference24Ideal.defs _ _).mono (fun r h => ⟨fun c => (h c).2.2.2.2, sem_eq_zero_of_no_sems rfl r.2⟩)
    (Cert.Reference24Ideal.Value.run (F := Ideal) m ρ)

theorem algebraic24 : Cert.algebraic_Kernel24Ideal_Reference24Ideal := by
  intro m g m' g' _ hargs
  refine ⟨fun c => shapeCast Cert.Kernel24Ideal.S_ (extractStridedSlice Cert.Kernel24Ideal.S1x1 ![0, 0] (Cert.Kernel24Ideal.Prod.lossOf m c) Cert.Kernel24Ideal.Gen.slices_S1x128_S1x1_0_0) Cert.Kernel24Ideal.Gen.shapeCasts_S1x1_S_,
    fun c => Cert.Kernel24Ideal.Prod.pastOf m c,
    fun c => extf .f32 (Cert.Kernel24Ideal.Prod.backOf m c) Cert.Kernel24Ideal.Gen.bitsLt_bf16_f32,
    fun c => shapeCast Cert.Kernel24Ideal.S2048 (Cert.Kernel24Ideal.Prod.weightOf m c) Cert.Kernel24Ideal.Gen.shapeCasts_S1x2048_S2048, ?_, ?_⟩
  · refine (θ_run Cert.Kernel24Ideal.defs _ _).mono (fun r hr c => ?_) (θ_run_and (Cert.Kernel24Ideal.Gen.run_main m g) (Cert.Kernel24Ideal.Gen.unchanged m g))
    obtain ⟨h, hu⟩ := hr
    exact ⟨((h c).2 Cert.Kernel24Ideal.main_v3 (Pipeline.mem_restRefs_of _ (by decide) (by decide))).trans (Cert.Kernel24Ideal.Prod.result_loss m c),
      ((h c).1 4).trans (Cert.Kernel24Ideal.Prod.left_past m c),
      ((h c).2 Cert.Kernel24Ideal.main_v4 (Pipeline.mem_restRefs_of _ (by decide) (by decide))).trans (Cert.Kernel24Ideal.Prod.result_back m c),
      ((h c).2 Cert.Kernel24Ideal.main_v5 (Pipeline.mem_restRefs_of _ (by decide) (by decide))).trans (Cert.Kernel24Ideal.Prod.result_weight m c), hu c⟩
  · refine (θ_run Cert.Reference24Ideal.defs _ _).mono (fun r hr c => ?_) (Cert.Reference24Ideal.Value.run m' g')
    obtain ⟨q0, q1, q2, q3⟩ := hargs c
    obtain ⟨r0, r1, r2, r3, rest⟩ := hr c
    unfold Cert.Reference24Ideal.Value.res_main_v51 at r2
    rw [q0, q1, q2, q3] at r0 r1 r2 r3
    refine ⟨r0.trans ?_, r1.trans ?_, r2.trans ?_, r3.trans ?_, rest⟩
    · unfold Cert.Kernel24Ideal.Prod.lossOf
      funext y
      pointwise [Cert.Kernel24Ideal.Prod.loss, Cert.Kernel24Ideal.Prod.err, Cert.Kernel24Ideal.Prod.scale, Cert.Kernel24Ideal.Prod.meanSq]
      rw [Cert.Kernel24Ideal.Prod.spread_div]
    · unfold Cert.Kernel24Ideal.Prod.pastOf
      funext y
      pointwise [Cert.Kernel24Ideal.Prod.past, Cert.Kernel24Ideal.Prod.cot, Cert.Kernel24Ideal.Prod.err, Cert.Kernel24Ideal.Prod.scale, Cert.Kernel24Ideal.Prod.meanSq]
      rw [Cert.Kernel24Ideal.Prod.cot_eq]
    · unfold Cert.Kernel24Ideal.Prod.backOf
      funext (y : Cert.Kernel24Ideal.S2048x2048.Idx)
      pointwise [Cert.Kernel24Ideal.Prod.back, Cert.Kernel24Ideal.Prod.through, Cert.Kernel24Ideal.Prod.cot, Cert.Kernel24Ideal.Prod.err, Cert.Kernel24Ideal.Prod.scale, Cert.Kernel24Ideal.Prod.meanSq]
      simp only [Fin.sum_univ_one, Cert.Kernel24Ideal.Prod.cot_eq]
    · unfold Cert.Kernel24Ideal.Prod.weightOf
      funext y
      pointwise [Cert.Kernel24Ideal.Prod.weight, Cert.Kernel24Ideal.Prod.cot, Cert.Kernel24Ideal.Prod.err, Cert.Kernel24Ideal.Prod.scale, Cert.Kernel24Ideal.Prod.meanSq]
      simp only [Fin.sum_univ_one, Cert.Kernel24Ideal.Prod.cot_eq]

end Cert.Proof

end
-- ==== Proof.Prod.PreNorm.lean ====
/- The norm before the input projection: the array that the call leaves, and the claim. -/
module

public import proofs.«01_k».proof.Defs
public import proofs.«01_k».proof.Proof.Gen.Kernel20Ideal.Frame
public import proofs.«01_k».proof.Proof.Gen.Reference20Ideal.Run
public import Idealize.ShloMosaic.Lib.Pipeline.ValueKit
public import Idealize.ShloMosaic.Lib.Pointwise

@[expose] public section

set_option maxRecDepth 16384

noncomputable section

namespace Cert.Kernel20Ideal.Prod

open Idealize.ShloMosaic Idealize.ShloMosaic.TcCoe Idealize.SL.Sem
open Idealize.ShloMosaic.Pipeline (Dat)
open Cert.Kernel20Ideal Cert.Kernel20Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- What a row of the norm is multiplied by, from the row's sum of squares. -/
def scale (s : EReal) : EReal :=
  Ideal.rsqrt (Ideal.div s (Ideal.ofBits FTy.f32 1157627904#32) + Ideal.ofBits FTy.f32 897988541#32)

/-- The norm of the rows. -/
def norm (a : FVec Ideal S2048x2048 .f32) (g : FVec Ideal S1x2048 .f32) : FVec Ideal S2048x2048 .bf16 :=
  fun y => (a y * scale (∑ k : Fin 2048, (a (ix2 (y 0) k) : EReal) * a (ix2 (y 0) k)) * g (ix2 0 (y 1)) : EReal)

theorem point (a : FVec Ideal S512x2048 .f32) (g : FVec Ideal S1x2048 .f32) (y : S512x2048.Idx) :
    k0_pay1 (F := Ideal) a g y
      = (a y * scale (∑ k : Fin 2048, (a (ix2 (y 0) k) : EReal) * a (ix2 (y 0) k)) * g (ix2 0 (y 1)) : EReal) := by
  pointwise [k0_pay1, scale]

theorem final (c : Dev nD) : (dats m 0 c).arrAt 2 cfg0.N = norm (V m c main_arg0) (V m c main_v0) := by
  refine (dats m 0 c).arrAt_eq_of_covers 2 _ (by decide +kernel) fun t _ y => ?_
  blk_simp
  rw [after0_2]
  frame_out
  rw [point]
  unfold norm
  blk_point [iblk, idx t]

theorem V_x (c : Dev nD) : V m c main_arg0 = (m ((c.tc : Thread nD τ).loc main_arg0) : FVec Ideal S2048x2048 .f32) := by
  entry_read
  rfl

theorem V_g (c : Dev nD) : V m c main_v0 = broadcastInDim S1x2048 ![1] bcast_S2048_S1x2048_1 (m ((c.tc : Thread nD τ).loc main_arg1) : FVec Ideal S2048 .f32) := by
  entry_read
  rfl

/-- The norm of the call's arguments. -/
def normed (c : Dev nD) : FVec Ideal S2048x2048 .bf16 :=
  norm (m ((c.tc : Thread nD τ).loc main_arg0) : FVec Ideal S2048x2048 .f32)
    (broadcastInDim S1x2048 ![1] bcast_S2048_S1x2048_1 (m ((c.tc : Thread nD τ).loc main_arg1) : FVec Ideal S2048 .f32))

theorem left (c : Dev nD) : (dats m 0 c).arrAt 2 cfg0.N = normed m c := by
  refine (final m c).trans ?_
  rw [V_x, V_g]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v1) = normed m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v2 = extf .f32 (normed m c) bitsLt_bf16_f32 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v2) = _
  after_results

end Cert.Kernel20Ideal.Prod

namespace Cert.Proof

open Idealize.ShloMosaic Idealize.ShloMosaic.TcCoe Idealize.SL.Sem

theorem frame_reference20 : Cert.quiescent_Reference20Ideal := fun m ρ _ =>
  (θ_run Cert.Reference20Ideal.defs _ _).mono (fun r h => ⟨fun c => (h c).2, sem_eq_zero_of_no_sems rfl r.2⟩)
    (Cert.Reference20Ideal.Value.run (F := Ideal) m ρ)

theorem algebraic20 : Cert.algebraic_Kernel20Ideal_Reference20Ideal := by
  intro m g m' g' _ hargs
  refine ⟨fun c => extf .f32 (Cert.Kernel20Ideal.Prod.normed m c) Cert.Kernel20Ideal.Gen.bitsLt_bf16_f32, ?_, ?_⟩
  · refine (θ_run Cert.Kernel20Ideal.defs _ _).mono (fun r hr c => ?_) (θ_run_and (Cert.Kernel20Ideal.Gen.run_main m g) (Cert.Kernel20Ideal.Gen.unchanged m g))
    obtain ⟨h, hu⟩ := hr
    exact ⟨((h c).2 Cert.Kernel20Ideal.main_v2 (Pipeline.mem_restRefs_of _ (by decide) (by decide))).trans (Cert.Kernel20Ideal.Prod.result m c), hu c⟩
  · refine (θ_run Cert.Reference20Ideal.defs _ _).mono (fun r hr c => ?_) (Cert.Reference20Ideal.Value.run m' g')
    obtain ⟨q0, q1⟩ := hargs c
    obtain ⟨r0, rest⟩ := hr c
    rw [q0, q1] at r0
    refine ⟨r0.trans ?_, rest⟩
    unfold Cert.Kernel20Ideal.Prod.normed
    funext y
    pointwise [Cert.Kernel20Ideal.Prod.norm, Cert.Kernel20Ideal.Prod.scale]

end Cert.Proof

end
-- ==== Proof.Prod.MlaNorm.lean ====
/- The two norms before the up projections of the latent attention: the arrays that the call leaves, and the claim. -/
module

public import proofs.«01_k».proof.Defs
public import proofs.«01_k».proof.Proof.Gen.Kernel21Ideal.Frame
public import proofs.«01_k».proof.Proof.Gen.Reference21Ideal.Run
public import Idealize.ShloMosaic.Lib.Pipeline.ValueKit
public import Idealize.ShloMosaic.Lib.Pointwise

@[expose] public section

set_option maxRecDepth 16384

noncomputable section

namespace Cert.Kernel21Ideal.Prod

open Idealize.ShloMosaic Idealize.ShloMosaic.TcCoe Idealize.SL.Sem
open Idealize.ShloMosaic.Pipeline (Dat)
open Cert.Kernel21Ideal Cert.Kernel21Ideal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- What a row of the norm is multiplied by, from the row's sum of squares. -/
def scale (s : EReal) : EReal :=
  Ideal.rsqrt (Ideal.div s (Ideal.ofBits FTy.f32 1140850688#32) + Ideal.ofBits FTy.f32 897988541#32)

/-- The norm of the rows. -/
def norm (a : FVec Ideal S2048x512 .f32) (g : FVec Ideal S1x512 .f32) : FVec Ideal S2048x512 .bf16 :=
  fun y => (a y * scale (∑ k : Fin 512, (a (ix2 (y 0) k) : EReal) * a (ix2 (y 0) k)) * g (ix2 0 (y 1)) : EReal)

theorem point1 (a : FVec Ideal S512x512 .f32) (g : FVec Ideal S1x512 .f32) (y : S512x512.Idx) :
    k0_pay1 (F := Ideal) a g y = (a y * scale (∑ k : Fin 512, (a (ix2 (y 0) k) : EReal) * a (ix2 (y 0) k)) * g (ix2 0 (y 1)) : EReal) := by
  pointwise [k0_pay1, scale]

theorem point2 (a : FVec Ideal S512x512 .f32) (g : FVec Ideal S1x512 .f32) (y : S512x512.Idx) :
    k0_pay2 (F := Ideal) a g y = (a y * scale (∑ k : Fin 512, (a (ix2 (y 0) k) : EReal) * a (ix2 (y 0) k)) * g (ix2 0 (y 1)) : EReal) := by
  pointwise [k0_pay2, scale]

theorem final1 (c : Dev nD) : (dats m 0 c).arrAt 4 cfg0.N = norm (V m c main_arg0) (V m c main_v0) := by
  refine (dats m 0 c).arrAt_eq_of_covers 4 _ (by decide +kernel) fun t _ y => ?_
  blk_simp
  rw [after0_4]
  frame_out
  rw [point1]
  unfold norm
  blk_point [iblk, idx t]

theorem final2 (c : Dev nD) : (dats m 0 c).arrAt 5 cfg0.N = norm (V m c main_arg1) (V m c main_v1) := by
  refine (dats m 0 c).arrAt_eq_of_covers 5 _ (by decide +kernel) fun t _ y => ?_
  blk_simp
  rw [after0_5]
  frame_out
  rw [point2]
  unfold norm
  blk_point [iblk, idx t]

theorem V_q (c : Dev nD) : V m c main_arg0 = (m ((c.tc : Thread nD τ).loc main_arg0) : FVec Ideal S2048x512 .f32) := by
  entry_read
  rfl

theorem V_qg (c : Dev nD) : V m c main_v0 = broadcastInDim S1x512 ![1] bcast_S512_S1x512_1 (m ((c.tc : Thread nD τ).loc main_arg2) : FVec Ideal S512 .f32) := by
  entry_read
  rfl

/-- The norm of the queries passed to the call. -/
def normed1 (c : Dev nD) : FVec Ideal S2048x512 .bf16 :=
  norm (m ((c.tc : Thread nD τ).loc main_arg0) : FVec Ideal S2048x512 .f32)
    (broadcastInDim S1x512 ![1] bcast_S512_S1x512_1 (m ((c.tc : Thread nD τ).loc main_arg2) : FVec Ideal S512 .f32))

theorem left1 (c : Dev nD) : (dats m 0 c).arrAt 4 cfg0.N = normed1 m c := by
  refine (final1 m c).trans ?_
  rw [V_q, V_qg]
  rfl

theorem V_kv (c : Dev nD) : V m c main_arg1 = (m ((c.tc : Thread nD τ).loc main_arg1) : FVec Ideal S2048x512 .f32) := by
  entry_read
  rfl

theorem V_kvg (c : Dev nD) : V m c main_v1 = broadcastInDim S1x512 ![1] bcast_S512_S1x512_1 (m ((c.tc : Thread nD τ).loc main_arg3) : FVec Ideal S512 .f32) := by
  entry_read
  rfl

/-- The norm of the keys and values passed to the call. -/
def normed2 (c : Dev nD) : FVec Ideal S2048x512 .bf16 :=
  norm (m ((c.tc : Thread nD τ).loc main_arg1) : FVec Ideal S2048x512 .f32)
    (broadcastInDim S1x512 ![1] bcast_S512_S1x512_1 (m ((c.tc : Thread nD τ).loc main_arg3) : FVec Ideal S512 .f32))

theorem left2 (c : Dev nD) : (dats m 0 c).arrAt 5 cfg0.N = normed2 m c := by
  refine (final2 m c).trans ?_
  rw [V_kv, V_kvg]
  rfl

theorem arrays_distinct : Function.Injective (Pipeline.arrRef (cfgs 0).spec) := by decide

theorem region1 (c : Dev nD) : Pipeline.withArrays (cfgs 0).spec c (V0 m c) (fun w => (dats m 0 c).arrAt w (cfgs 0).N) (Proc.devRef .tc main_v2_0) = normed1 m c :=
  (Pipeline.withArrays_arr (cfgs 0).spec arrays_distinct c (V0 m c) (fun w => (dats m 0 c).arrAt w (cfgs 0).N) 4).trans (left1 m c)

theorem result1 (c : Dev nD) : Pipeline.afterTail₀ cfgs (dats m) 0 (V0 m) [hostOps1] c main_v3 = extf .f32 (normed1 m c) bitsLt_bf16_f32 := by
  rw [← region1 m c]
  unfold Pipeline.afterTail₀
  generalize Pipeline.withArrays (cfgs 0).spec c (V0 m c) (fun w => (dats m 0 c).arrAt w (cfgs 0).N) = W
  show StableHlo.after hostOps1 W (Proc.devRef .tc main_v3) = _
  after_results

theorem region2 (c : Dev nD) : Pipeline.withArrays (cfgs 0).spec c (V0 m c) (fun w => (dats m 0 c).arrAt w (cfgs 0).N) (Proc.devRef .tc main_v2_1) = normed2 m c :=
  (Pipeline.withArrays_arr (cfgs 0).spec arrays_distinct c (V0 m c) (fun w => (dats m 0 c).arrAt w (cfgs 0).N) 5).trans (left2 m c)

theorem result2 (c : Dev nD) : Pipeline.afterTail₀ cfgs (dats m) 0 (V0 m) [hostOps1] c main_v4 = extf .f32 (normed2 m c) bitsLt_bf16_f32 := by
  rw [← region2 m c]
  unfold Pipeline.afterTail₀
  generalize Pipeline.withArrays (cfgs 0).spec c (V0 m c) (fun w => (dats m 0 c).arrAt w (cfgs 0).N) = W
  show StableHlo.after hostOps1 W (Proc.devRef .tc main_v4) = _
  after_results

end Cert.Kernel21Ideal.Prod

namespace Cert.Proof

open Idealize.ShloMosaic Idealize.ShloMosaic.TcCoe Idealize.SL.Sem

theorem frame_reference21 : Cert.quiescent_Reference21Ideal := fun m ρ _ =>
  (θ_run Cert.Reference21Ideal.defs _ _).mono (fun r h => ⟨fun c => (h c).2.2, sem_eq_zero_of_no_sems rfl r.2⟩)
    (Cert.Reference21Ideal.Value.run (F := Ideal) m ρ)

theorem algebraic21 : Cert.algebraic_Kernel21Ideal_Reference21Ideal := by
  intro m g m' g' _ hargs
  refine ⟨fun c => extf .f32 (Cert.Kernel21Ideal.Prod.normed1 m c) Cert.Kernel21Ideal.Gen.bitsLt_bf16_f32,
    fun c => extf .f32 (Cert.Kernel21Ideal.Prod.normed2 m c) Cert.Kernel21Ideal.Gen.bitsLt_bf16_f32, ?_, ?_⟩
  · refine (θ_run Cert.Kernel21Ideal.defs _ _).mono (fun r hr c => ?_) (θ_run_and (Cert.Kernel21Ideal.Gen.run_main m g) (Cert.Kernel21Ideal.Gen.unchanged m g))
    obtain ⟨h, hu⟩ := hr
    exact ⟨((h c).2 Cert.Kernel21Ideal.main_v3 (Pipeline.mem_restRefs_of _ (by decide) (by decide))).trans (Cert.Kernel21Ideal.Prod.result1 m c),
      ((h c).2 Cert.Kernel21Ideal.main_v4 (Pipeline.mem_restRefs_of _ (by decide) (by decide))).trans (Cert.Kernel21Ideal.Prod.result2 m c), hu c⟩
  · refine (θ_run Cert.Reference21Ideal.defs _ _).mono (fun r hr c => ?_) (Cert.Reference21Ideal.Value.run m' g')
    obtain ⟨q0, q1, q2, q3⟩ := hargs c
    obtain ⟨r0, r1, rest⟩ := hr c
    rw [q0, q2] at r0
    rw [q1, q3] at r1
    refine ⟨r0.trans ?_, r1.trans ?_, rest⟩
    · unfold Cert.Kernel21Ideal.Prod.normed1
      funext y
      pointwise [Cert.Kernel21Ideal.Prod.norm, Cert.Kernel21Ideal.Prod.scale]
    · unfold Cert.Kernel21Ideal.Prod.normed2
      funext y
      pointwise [Cert.Kernel21Ideal.Prod.norm, Cert.Kernel21Ideal.Prod.scale]

end Cert.Proof

end
-- ==== Proof.Prod.PreNormGrad.lean ====
/- The gradient of the norm before the input projection, added to what comes past it: the two arrays that the call leaves, and the
   claim. The gradient of the norm's weight is a sum over all rows, which the kernel adds up in four parts. -/
module

public import proofs.«01_k».proof.Defs
public import proofs.«01_k».proof.Proof.Gen.Kernel22Ideal.Frame
public import proofs.«01_k».proof.Proof.Gen.Reference22Ideal.Run
public import Idealize.ShloMosaic.Lib.Pipeline.ValueKit
public import Idealize.ShloMosaic.Lib.Pointwise

@[expose] public section

set_option maxRecDepth 16384

noncomputable section

namespace Cert.Kernel22Ideal.Prod

open Idealize.ShloMosaic Idealize.ShloMosaic.TcCoe Idealize.SL.Sem
open Idealize.ShloMosaic.Pipeline (Dat)
open Cert.Kernel22Ideal Cert.Kernel22Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- The mean square of a row and the small constant, from the row's sum of squares. -/
def meanSq (s : EReal) : EReal := Ideal.div s (Ideal.ofBits FTy.f32 1157627904#32) + Ideal.ofBits FTy.f32 897988541#32

/-- What a row of the norm is multiplied by. -/
def scale (s : EReal) : EReal := Ideal.rsqrt (meanSq s)

/-- What comes to a row through its mean square, from its sum of squares and its sum of products with the cotangent. -/
def through (s p : EReal) : EReal :=
  Ideal.div (p * (Ideal.ofBits FTy.f32 3204448256#32 * Ideal.div (scale s) (meanSq s))) (Ideal.ofBits FTy.f32 1157627904#32)

/-- The gradient of the argument: what comes past the norm, and what comes through it. -/
def back (x dy dh : FVec Ideal S2048x2048 .f32) (g : FVec Ideal S1x2048 .f32) : FVec Ideal S2048x2048 .f32 := fun y =>
  (dy y + (dh y * g (ix2 0 (y 1)) * scale (∑ k : Fin 2048, (x (ix2 (y 0) k) : EReal) * x (ix2 (y 0) k))
    + x y * through (∑ k : Fin 2048, (x (ix2 (y 0) k) : EReal) * x (ix2 (y 0) k))
        (∑ k : Fin 2048, (x (ix2 (y 0) k) : EReal) * (dh (ix2 (y 0) k) * g (ix2 0 k)))
    + through (∑ k : Fin 2048, (x (ix2 (y 0) k) : EReal) * x (ix2 (y 0) k))
        (∑ k : Fin 2048, (x (ix2 (y 0) k) : EReal) * (dh (ix2 (y 0) k) * g (ix2 0 k))) * x y) : EReal)

theorem point (x dy dh : FVec Ideal S512x2048 .f32) (g : FVec Ideal S1x2048 .f32) (y : S512x2048.Idx) :
    k0_pay5 (F := Ideal) x dy dh g y
      = (dy y + (dh y * g (ix2 0 (y 1)) * scale (∑ k : Fin 2048, (x (ix2 (y 0) k) : EReal) * x (ix2 (y 0) k))
        + x y * through (∑ k : Fin 2048, (x (ix2 (y 0) k) : EReal) * x (ix2 (y 0) k))
            (∑ k : Fin 2048, (x (ix2 (y 0) k) : EReal) * (dh (ix2 (y 0) k) * g (ix2 0 k)))
        + through (∑ k : Fin 2048, (x (ix2 (y 0) k) : EReal) * x (ix2 (y 0) k))
            (∑ k : Fin 2048, (x (ix2 (y 0) k) : EReal) * (dh (ix2 (y 0) k) * g (ix2 0 k))) * x y) : EReal) := by
  pointwise [k0_pay5, k0_pay3, k0_pay2, through, scale, meanSq]
  simp only [Fin.sum_univ_one]

theorem final_back (c : Dev nD) :
    (dats m 0 c).arrAt 4 cfg0.N = back (V m c main_arg0) (V m c main_arg2) (V m c main_arg3) (V m c main_v0) := by
  refine (dats m 0 c).arrAt_eq_of_covers 4 _ (by decide +kernel) fun t _ y => ?_
  blk_simp
  rw [after0_4]
  have e : (outsAt0 m c t.val t.isLt).1 = k0_pay5 (F := Ideal) (iblk m c 0 t) (iblk m c 1 t) (iblk m c 2 t) (iblk m c 3 t) := by
    by_cases h : t.val % 4 = 0
    · rw [outsAt0_A m c t h (by have hN : t.val < 4 := lt_of_lt_of_eq t.isLt N_0; omega)]
      frame_out
    · rw [outsAt0_B m c t h (by omega)]
      frame_out
  rw [e, point]
  unfold back
  blk_point [iblk, idx t]

/-- The gradient of the norm's weight. -/
def weight (x dh : FVec Ideal S2048x2048 .f32) : FVec Ideal S1x2048 .f32 := fun y =>
  (∑ i : Fin 2048, (x (ix2 i (y 1)) * scale (∑ k : Fin 2048, (x (ix2 i k) : EReal) * x (ix2 i k)) * dh (ix2 i (y 1)) : EReal))

/-- The part of it that comes from one block of rows. -/
def part (x dh : FVec Ideal S512x2048 .f32) (y : S1x2048.Idx) : EReal :=
  ∑ i : Fin 512, (x (ix2 i (y 1)) * scale (∑ k : Fin 2048, (x (ix2 i k) : EReal) * x (ix2 i k)) * dh (ix2 i (y 1)) : EReal)

theorem first (x dh : FVec Ideal S512x2048 .f32) (y : S1x2048.Idx) : k0_pay4 (F := Ideal) x dh y = part x dh y := by
  pointwise [k0_pay4, k0_pay3, k0_pay2, part, scale, meanSq]

theorem further (x dh : FVec Ideal S512x2048 .f32) (acc : FVec Ideal S1x2048 .f32) (y : S1x2048.Idx) :
    k0_pay1 (F := Ideal) (k0_pay4 (F := Ideal) x dh) acc y = acc y + part x dh y := by
  rw [← first]
  pointwise [k0_pay1]

theorem start (c : Dev nD) (t : Fin cfg0.N) (h : t.val % 4 = 0) (y : S1x2048.Idx) :
    (outsAt0 m c t.val t.isLt).2 y = (0 : EReal) + part (iblk m c 0 t) (iblk m c 2 t) y := by
  rw [outsAt0_A m c t h (by have hN : t.val < 4 := lt_of_lt_of_eq t.isLt N_0; omega)]
  frame_out
  rw [first, zero_add]

theorem step (c : Dev nD) (t : Fin cfg0.N) (h : ¬t.val % 4 = 0) (y : S1x2048.Idx) :
    (outsAt0 m c t.val t.isLt).2 y
      = ((outsAt0 m c (t.val - 1) (Nat.lt_of_le_of_lt (Nat.sub_le _ _) t.isLt)).2 y : EReal) + part (iblk m c 0 t) (iblk m c 2 t) y := by
  rw [outsAt0_B m c t h (by omega)]
  frame_out
  rw [further]

theorem final_weight (c : Dev nD) : (dats m 0 c).arrAt 5 cfg0.N = weight (V m c main_arg0) (V m c main_arg3) := by
  refine (dats m 0 c).arrAt_eq_of_covers 5 _ (by decide +kernel) fun t hf y => ?_
  have h3 := (flush0_5 t).mp hf
  blk_simp
  rw [after0_5]
  refine (Pipeline.eq_sum_fin_of_reset_step_apply_of_flush (M := EReal) (fun n h => (outsAt0 m c n h).2) 4 (fun _ => 0)
    (fun t y => part (iblk m c 0 t) (iblk m c 2 t) y) (start m c) (step m c) t h3 y).trans ?_
  refine (zero_add _).trans ?_
  unfold weight part
  show (_ : EReal) = _
  refine Fin.sum_mul_add_congr fun s k hl => ?_
  refine congrArg₂ (fun a b : EReal => a * b) (congrArg₂ (fun a b : EReal => a * b) ?_ (congrArg scale (Finset.sum_congr rfl fun j _ =>
    congrArg₂ (fun a b : EReal => a * b) ?_ ?_))) ?_
  · blk_ext [iblk, idx t, idx ⟨_, Pipeline.run_point_lt_of_flush t h3 s⟩]
  · blk_ext [iblk, idx t, idx ⟨_, Pipeline.run_point_lt_of_flush t h3 s⟩]
  · blk_ext [iblk, idx t, idx ⟨_, Pipeline.run_point_lt_of_flush t h3 s⟩]
  · blk_ext [iblk, idx t, idx ⟨_, Pipeline.run_point_lt_of_flush t h3 s⟩]

theorem V_x (c : Dev nD) : V m c main_arg0 = (m ((c.tc : Thread nD τ).loc main_arg0) : FVec Ideal S2048x2048 .f32) := by
  entry_read
  rfl

theorem V_dy (c : Dev nD) : V m c main_arg2 = (m ((c.tc : Thread nD τ).loc main_arg2) : FVec Ideal S2048x2048 .f32) := by
  entry_read
  rfl

theorem V_dh (c : Dev nD) : V m c main_arg3 = (m ((c.tc : Thread nD τ).loc main_arg3) : FVec Ideal S2048x2048 .f32) := by
  entry_read
  rfl

theorem V_g (c : Dev nD) : V m c main_v0 = broadcastInDim S1x2048 ![1] bcast_S2048_S1x2048_1 (m ((c.tc : Thread nD τ).loc main_arg1) : FVec Ideal S2048 .f32) := by
  entry_read
  rfl

/-- The gradient of the call's argument. -/
def backOf (c : Dev nD) : FVec Ideal S2048x2048 .f32 :=
  back (m ((c.tc : Thread nD τ).loc main_arg0) : FVec Ideal S2048x2048 .f32) (m ((c.tc : Thread nD τ).loc main_arg2) : FVec Ideal S2048x2048 .f32)
    (m ((c.tc : Thread nD τ).loc main_arg3) : FVec Ideal S2048x2048 .f32)
    (broadcastInDim S1x2048 ![1] bcast_S2048_S1x2048_1 (m ((c.tc : Thread nD τ).loc main_arg1) : FVec Ideal S2048 .f32))

/-- The gradient of the call's weight, as one row. -/
def weightOf (c : Dev nD) : FVec Ideal S1x2048 .f32 :=
  weight (m ((c.tc : Thread nD τ).loc main_arg0) : FVec Ideal S2048x2048 .f32) (m ((c.tc : Thread nD τ).loc main_arg3) : FVec Ideal S2048x2048 .f32)

theorem left_back (c : Dev nD) : (dats m 0 c).arrAt 4 cfg0.N = backOf m c := by
  refine (final_back m c).trans ?_
  rw [V_x, V_dy, V_dh, V_g]
  rfl

theorem left_weight (c : Dev nD) : (dats m 0 c).arrAt 5 cfg0.N = weightOf m c := by
  refine (final_weight m c).trans ?_
  rw [V_x, V_dh]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v1_1) = weightOf m c :=
  (Pipeline.withArrays_arr (cfgs 0).spec arrays_distinct c (V0 m c) (fun w => (dats m 0 c).arrAt w (cfgs 0).N) 5).trans (left_weight m c)

theorem result (c : Dev nD) : Pipeline.afterTail₀ cfgs (dats m) 0 (V0 m) [hostOps1] c main_v2 = shapeCast S2048 (weightOf m c) shapeCasts_S1x2048_S2048 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v2) = _
  after_results
  rfl

end Cert.Kernel22Ideal.Prod

namespace Cert.Proof

open Idealize.ShloMosaic Idealize.ShloMosaic.TcCoe Idealize.SL.Sem

theorem frame_reference22 : Cert.quiescent_Reference22Ideal := fun m ρ _ =>
  (θ_run Cert.Reference22Ideal.defs _ _).mono (fun r h => ⟨fun c => (h c).2.2, sem_eq_zero_of_no_sems rfl r.2⟩)
    (Cert.Reference22Ideal.Value.run (F := Ideal) m ρ)

theorem algebraic22 : Cert.algebraic_Kernel22Ideal_Reference22Ideal := by
  intro m g m' g' _ hargs
  refine ⟨fun c => Cert.Kernel22Ideal.Prod.backOf m c,
    fun c => shapeCast Cert.Kernel22Ideal.S2048 (Cert.Kernel22Ideal.Prod.weightOf m c) Cert.Kernel22Ideal.Gen.shapeCasts_S1x2048_S2048, ?_, ?_⟩
  · refine (θ_run Cert.Kernel22Ideal.defs _ _).mono (fun r hr c => ?_) (θ_run_and (Cert.Kernel22Ideal.Gen.run_main m g) (Cert.Kernel22Ideal.Gen.unchanged m g))
    obtain ⟨h, hu⟩ := hr
    exact ⟨((h c).1 4).trans (Cert.Kernel22Ideal.Prod.left_back m c),
      ((h c).2 Cert.Kernel22Ideal.main_v2 (Pipeline.mem_restRefs_of _ (by decide) (by decide))).trans (Cert.Kernel22Ideal.Prod.result m c), hu c⟩
  · refine (θ_run Cert.Reference22Ideal.defs _ _).mono (fun r hr c => ?_) (Cert.Reference22Ideal.Value.run m' g')
    obtain ⟨q0, q1, q2, q3⟩ := hargs c
    obtain ⟨r0, r1, rest⟩ := hr c
    rw [q0, q1, q2, q3] at r0
    rw [q0, q3] at r1
    refine ⟨r0.trans ?_, r1.trans ?_, rest⟩
    · unfold Cert.Kernel22Ideal.Prod.backOf
      funext y
      pointwise [Cert.Kernel22Ideal.Prod.back, Cert.Kernel22Ideal.Prod.through, Cert.Kernel22Ideal.Prod.scale, Cert.Kernel22Ideal.Prod.meanSq]
      simp only [Fin.sum_univ_one, add_assoc]
    · unfold Cert.Kernel22Ideal.Prod.weightOf
      funext y
      pointwise [Cert.Kernel22Ideal.Prod.weight, Cert.Kernel22Ideal.Prod.scale, Cert.Kernel22Ideal.Prod.meanSq]
      simp only [Fin.sum_univ_one]

end Cert.Proof

end
-- ==== Proof.Prod.Merge.lean ====
/- The sum of the two branches behind their gates: the array that the call leaves, and the claim. -/
module

public import proofs.«01_k».proof.Defs
public import proofs.«01_k».proof.Proof.Gen.Kernel23Ideal.Frame
public import proofs.«01_k».proof.Proof.Gen.Reference23Ideal.Run
public import Idealize.ShloMosaic.Lib.Pipeline.ValueKit
public import Idealize.ShloMosaic.Lib.Pointwise

@[expose] public section

set_option maxRecDepth 16384

noncomputable section

namespace Cert.Kernel23Ideal.Prod

open Idealize.ShloMosaic Idealize.ShloMosaic.TcCoe Idealize.SL.Sem
open Idealize.ShloMosaic.Pipeline (Dat)
open Cert.Kernel23Ideal Cert.Kernel23Ideal.Gen

variable (m : (ℓ : Loc nD τ sig) → Buf (Elt Ideal) ℓ)

theorem half_eq : Ideal.ofBits FTy.f32 1056964608#32 = ((1 / 2 : ℝ) : EReal) := by
  simp [Ideal.ofBits, Ideal.ieee, -EReal.coe_mul]; norm_num

/-- The gate, through the hyperbolic tangent of half its argument. -/
def gate (x : EReal) : EReal :=
  Ideal.ofBits FTy.f32 1056964608#32 * Ideal.tanh (Ideal.ofBits FTy.f32 1056964608#32 * x) + Ideal.ofBits FTy.f32 1056964608#32

theorem gate_real (x : ℝ) : 1 / 2 * Real.tanh (1 / 2 * x) + 1 / 2 = (1 + Real.exp (-x))⁻¹ := by
  have e : Real.exp (-x) = Real.exp (-(1 / 2 * x)) * Real.exp (-(1 / 2 * x)) := by
    rw [← Real.exp_add]
    congr 1
    ring
  have i : Real.exp (1 / 2 * x) * Real.exp (-(1 / 2 * x)) = 1 := by
    rw [← Real.exp_add]
    simp
  rw [Real.tanh_eq_sinh_div_cosh, Real.sinh_eq, Real.cosh_eq, e]
  have p := Real.exp_pos (1 / 2 * x)
  have q := Real.exp_pos (-(1 / 2 * x))
  generalize Real.exp (1 / 2 * x) = a at *
  generalize Real.exp (-(1 / 2 * x)) = b at *
  have s : a + b ≠ 0 := by positivity
  have r : 1 + b * b ≠ 0 := by positivity
  field_simp
  nlinarith [i]

/-- The gate is the logistic function. -/
theorem gate_eq (x : EReal) : gate x = Ideal.logistic x := by
  unfold gate
  rw [half_eq]
  induction x using EReal.rec with
  | bot =>
    rw [EReal.coe_mul_bot_of_pos (by norm_num), Ideal.logistic_bot]
    show (((1 / 2 : ℝ) : EReal) * (-1) + ((1 / 2 : ℝ) : EReal)) = 0
    have : (-1 : EReal) = ((-1 : ℝ) : EReal) := rfl
    rw [this, ← EReal.coe_mul, ← EReal.coe_add]
    norm_num
  | top =>
    rw [EReal.coe_mul_top_of_pos (by norm_num), Ideal.logistic_top]
    show (((1 / 2 : ℝ) : EReal) * 1 + ((1 / 2 : ℝ) : EReal)) = 1
    rw [mul_one, ← EReal.coe_add]
    norm_num
  | coe r =>
    rw [Ideal.logistic_coe, ← gate_real, ← EReal.coe_mul]
    show (((1 / 2 : ℝ) : EReal) * ((Real.tanh (1 / 2 * r) : ℝ) : EReal) + ((1 / 2 : ℝ) : EReal)) = _
    rw [← EReal.coe_mul, ← EReal.coe_add]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The sum of the two branches behind their gates. -/
def merged (a b : FVec Ideal S2048x2048 .bf16) (p q : FVec Ideal S2048x2048 .f32) : FVec Ideal S2048x2048 .bf16 :=
  fun y => (Ideal.logistic (p y) * a y + Ideal.logistic (q y) * b y : EReal)

theorem point (a b : FVec Ideal S256x2048 .bf16) (p q : FVec Ideal S256x2048 .f32) (y : S256x2048.Idx) :
    k0_pay1 (F := Ideal) a b p q y = (Ideal.logistic (p y) * a y + Ideal.logistic (q y) * b y : EReal) := by
  rw [← gate_eq, ← gate_eq]
  pointwise [k0_pay1, gate]

theorem final (c : Dev nD) : (dats m 0 c).arrAt 4 cfg0.N = merged (V m c main_v0) (V m c main_v1) (V m c main_arg2) (V m c main_arg3) := by
  refine (dats m 0 c).arrAt_eq_of_covers 4 _ (by decide +kernel) fun t _ y => ?_
  blk_simp
  rw [after0_4]
  frame_out
  rw [point]
  unfold merged
  blk_point [iblk, idx t]

theorem V_a (c : Dev nD) : V m c main_v0 = (truncf .bf16 (m ((c.tc : Thread nD τ).loc main_arg0) : FVec Ideal S2048x2048 .f32) bitsLt_bf16_f32 : FVec Ideal S2048x2048 .bf16) := by
  entry_read
  rfl

theorem V_b (c : Dev nD) : V m c main_v1 = (truncf .bf16 (m ((c.tc : Thread nD τ).loc main_arg1) : FVec Ideal S2048x2048 .f32) bitsLt_bf16_f32 : FVec Ideal S2048x2048 .bf16) := by
  entry_read
  rfl

theorem V_p (c : Dev nD) : V m c main_arg2 = (m ((c.tc : Thread nD τ).loc main_arg2) : FVec Ideal S2048x2048 .f32) := by
  entry_read
  rfl

theorem V_q (c : Dev nD) : V m c main_arg3 = (m ((c.tc : Thread nD τ).loc main_arg3) : FVec Ideal S2048x2048 .f32) := by
  entry_read
  rfl

/-- The sum for the call's arguments. -/
def mergedOf (c : Dev nD) : FVec Ideal S2048x2048 .bf16 :=
  merged (truncf .bf16 (m ((c.tc : Thread nD τ).loc main_arg0) : FVec Ideal S2048x2048 .f32) bitsLt_bf16_f32)
    (truncf .bf16 (m ((c.tc : Thread nD τ).loc main_arg1) : FVec Ideal S2048x2048 .f32) bitsLt_bf16_f32)
    (m ((c.tc : Thread nD τ).loc main_arg2) : FVec Ideal S2048x2048 .f32) (m ((c.tc : Thread nD τ).loc main_arg3) : FVec Ideal S2048x2048 .f32)

theorem left (c : Dev nD) : (dats m 0 c).arrAt 4 cfg0.N = mergedOf m c := by
  refine (final m c).trans ?_
  rw [V_a, V_b, V_p, V_q]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v2) = mergedOf m c :=
  (Pipeline.withArrays_arr (cfgs 0).spec arrays_distinct c (V0 m c) (fun w => (dats m 0 c).arrAt w (cfgs 0).N) 4).trans (left m c)

theorem result (c : Dev nD) : Pipeline.afterTail₀ cfgs (dats m) 0 (V0 m) [hostOps1] c main_v3 = extf .f32 (mergedOf m c) bitsLt_bf16_f32 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v3) = _
  after_results

end Cert.Kernel23Ideal.Prod

namespace Cert.Proof

open Idealize.ShloMosaic Idealize.ShloMosaic.TcCoe Idealize.SL.Sem

theorem frame_reference23 : Cert.quiescent_Reference23Ideal := fun m ρ _ =>
  (θ_run Cert.Reference23Ideal.defs _ _).mono (fun r h => ⟨fun c => (h c).2, sem_eq_zero_of_no_sems rfl r.2⟩)
    (Cert.Reference23Ideal.Value.run (F := Ideal) m ρ)

theorem algebraic23 : Cert.algebraic_Kernel23Ideal_Reference23Ideal := by
  intro m g m' g' _ hargs
  refine ⟨fun c => extf .f32 (Cert.Kernel23Ideal.Prod.mergedOf m c) Cert.Kernel23Ideal.Gen.bitsLt_bf16_f32, ?_, ?_⟩
  · refine (θ_run Cert.Kernel23Ideal.defs _ _).mono (fun r hr c => ?_) (θ_run_and (Cert.Kernel23Ideal.Gen.run_main m g) (Cert.Kernel23Ideal.Gen.unchanged m g))
    obtain ⟨h, hu⟩ := hr
    exact ⟨((h c).2 Cert.Kernel23Ideal.main_v3 (Pipeline.mem_restRefs_of _ (by decide) (by decide))).trans (Cert.Kernel23Ideal.Prod.result m c), hu c⟩
  · refine (θ_run Cert.Reference23Ideal.defs _ _).mono (fun r hr c => ?_) (Cert.Reference23Ideal.Value.run m' g')
    obtain ⟨q0, q1, q2, q3⟩ := hargs c
    obtain ⟨r0, rest⟩ := hr c
    rw [q0, q1, q2, q3] at r0
    refine ⟨r0.trans ?_, rest⟩
    unfold Cert.Kernel23Ideal.Prod.mergedOf
    funext y
    pointwise [Cert.Kernel23Ideal.Prod.merged, Ideal.logistic]

end Cert.Proof

end
-- ==== Proof.Prod.Heads.lean ====
/- The order in which the kernels take the lanes of the attention's projections. A head's 192 query lanes are followed by 64 zeros;
   the keys of all the heads come before the values of all the heads. -/
module

public import Mathlib.Data.EReal.Operations
public import Mathlib.Algebra.BigOperators.Fin

@[expose] public section

set_option maxRecDepth 16384

namespace Cert.Heads

/-- The query lane that stands at place `j`, -/
def orig (j : ℕ) : ℕ := j / 256 * 192 + j % 256

/-- and the place of query lane `i`. -/
def place (i : ℕ) : ℕ := i / 192 * 256 + i % 192

theorem orig_lt {j : ℕ} (h : j < 2048) (h' : j % 256 < 192) : orig j < 1536 := by unfold orig; omega
theorem place_lt {i : ℕ} (h : i < 1536) : place i < 2048 := by unfold place; omega
theorem place_lane (i : ℕ) : place i % 256 < 192 := by unfold place; omega
theorem orig_place (i : ℕ) : orig (place i) = i := by unfold orig place; omega
theorem place_orig {j : ℕ} (h : j % 256 < 192) : place (orig j) = j := by unfold orig place; omega

/-- The query lanes in the kernels' order, zeros after each head. -/
noncomputable def padded (f : Fin 1536 → EReal) (j : Fin 2048) : EReal :=
  if h : j.val % 256 < 192 then f ⟨orig j.val, orig_lt j.isLt h⟩ else 0

theorem padded_of_lt (f : Fin 1536 → EReal) (j : Fin 2048) (i : Fin 1536) (hj : j.val % 256 < 192) (h : orig j.val = i.val) : padded f j = f i := by
  unfold padded
  rw [dif_pos hj]
  exact congrArg f (Fin.ext h)

/-- A sum over the places is the sum over the lanes. -/
theorem sum_padded (f g : Fin 1536 → EReal) : (∑ j : Fin 2048, padded f j * padded g j) = ∑ i : Fin 1536, f i * g i := by
  symm
  refine Fintype.sum_of_injective (fun i : Fin 1536 => (⟨place i.val, place_lt i.isLt⟩ : Fin 2048)) ?_ _ _ ?_ ?_
  · intro a b h
    have h' : place a.val = place b.val := congrArg Fin.val h
    exact Fin.ext (by rw [← orig_place a.val, h', orig_place])
  · intro j hj
    have : ¬ j.val % 256 < 192 := fun h => hj ⟨⟨orig j.val, orig_lt j.isLt h⟩, Fin.ext (place_orig h)⟩
    unfold padded
    rw [dif_neg this, zero_mul]
  · intro i
    rw [padded_of_lt f ⟨place i.val, place_lt i.isLt⟩ i (place_lane i.val) (orig_place i.val), padded_of_lt g ⟨place i.val, place_lt i.isLt⟩ i (place_lane i.val) (orig_place i.val)]

/-- The lane of the keys and values that stands at place `j`, -/
def laneAt (j : ℕ) : ℕ := j % 1024 / 128 * 256 + j / 1024 * 128 + j % 128

/-- and the place of lane `i`. -/
def placeOf (i : ℕ) : ℕ := i % 256 / 128 * 1024 + i / 256 * 128 + i % 128

theorem laneAt_lt {j : ℕ} (h : j < 2048) : laneAt j < 2048 := by unfold laneAt; omega
theorem placeOf_lt {i : ℕ} (h : i < 2048) : placeOf i < 2048 := by unfold placeOf; omega
theorem laneAt_placeOf {i : ℕ} (h : i < 2048) : laneAt (placeOf i) = i := by unfold laneAt placeOf; omega
theorem placeOf_laneAt {j : ℕ} (h : j < 2048) : placeOf (laneAt j) = j := by unfold laneAt placeOf; omega

/-- The lanes of the keys and values in the kernels' order. -/
def sorted (f : Fin 2048 → EReal) (j : Fin 2048) : EReal := f ⟨laneAt j.val, laneAt_lt j.isLt⟩

theorem sum_sorted (f g : Fin 2048 → EReal) : (∑ j : Fin 2048, sorted f j * sorted g j) = ∑ i : Fin 2048, f i * g i :=
  Fintype.sum_equiv ⟨fun j => ⟨laneAt j.val, laneAt_lt j.isLt⟩, fun i => ⟨placeOf i.val, placeOf_lt i.isLt⟩,
    fun j => Fin.ext (placeOf_laneAt j.isLt), fun i => Fin.ext (laneAt_placeOf i.isLt)⟩ _ _ fun _ => rfl

end Cert.Heads

end
-- ==== Proof.Prod.QUp.lean ====
/- The queries' projection: the padding of each head, the array that the call leaves, and the claim. -/
module

public import proofs.«01_k».proof.Defs
public import proofs.«01_k».proof.Proof.Prod.Heads
public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise

@[expose] public section

set_option maxRecDepth 65536

noncomputable section

namespace Cert.Kernel5Ideal.Prod

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The rows of the first array against the rows of the second. -/
def byRows (a : FVec Ideal S2048x512 .bf16) (b : FVec Ideal S2048x512 .bf16) : FVec Ideal S2048x2048 .f32 :=
  fun y => (∑ k : Fin 512, (a (ix2 (y 0) k) : EReal) * b (ix2 (y 1) k) : EReal)

theorem point (a : FVec Ideal S1024x512 .bf16) (b : FVec Ideal S512x512 .bf16) (y : S1024x512.Idx) :
    k0_pay2 (F := Ideal) a b y = (∑ k : Fin 512, (a (ix2 (y 0) k) : EReal) * b (ix2 (y 1) k) : EReal) := by
  pointwise [k0_pay2, k0_pay1]

theorem final (c : Dev nD) : (dats m 0 c).arrAt 2 cfg0.N = byRows (V m c main_v0) (V m c main_v6) := by
  refine (dats m 0 c).arrAt_eq_of_covers 2 _ (by decide +kernel) fun t _ y => ?_
  blk_simp
  rw [after0_2]
  unfold outsAt0
  frame_out
  rw [point]
  unfold byRows
  blk_point [iblk, idx t]

/-- The weight as rows, 64 rows of zeros after each head's 192. -/
def packW (w : FVec Ideal S512x1536 .f32) : FVec Ideal S2048x512 .bf16 :=
  shapeCast S2048x512 (concatenate S8x256x512 1 [
    ⟨S8x192x512, shapeCast S8x192x512 (truncf .bf16 (transpose S1536x512 [1, 0] w transposes_S512x1536_S1536x512_1_0) bitsLt_bf16_f32) shapeCasts_S1536x512_S8x192x512⟩,
    ⟨S8x64x512, broadcastInDim S8x64x512 ![] bcast_S_S8x64x512 (constant S_ .bf16 0x0000#16)⟩]
    concatenates_S8x192x512_S8x64x512_S8x256x512_d1) shapeCasts_S8x256x512_S2048x512

/-- The padding cut off again. -/
def tail (p : FVec Ideal S2048x2048 .f32) : FVec Ideal S2048x8x192 .f32 :=
  extractStridedSlice S2048x8x192 ![0, 0, 0] (shapeCast S2048x8x256 p shapeCasts_S2048x2048_S2048x8x256) slices_S2048x8x256_S2048x8x192_0_0_0

theorem V_first (c : Dev nD) : V m c main_v0 = (m ((c.tc : Thread nD τ).loc main_arg0) : FVec Ideal S2048x512 .f32) := by
  show StableHlo.after hostOps0 (fun b => m (c, b)) (Proc.devRef .tc main_v0) = _
  after_results_simp
  rfl

theorem V_second (c : Dev nD) : V m c main_v6 = packW (m ((c.tc : Thread nD τ).loc main_arg1)) := by
  show StableHlo.after hostOps0 (fun b => m (c, b)) (Proc.devRef .tc main_v6) = _
  after_results_simp
  rfl

/-- The product of what the host hands to the call. -/
def product (c : Dev nD) : FVec Ideal S2048x2048 .f32 := byRows (m ((c.tc : Thread nD τ).loc main_arg0) : FVec Ideal S2048x512 .f32) (packW (m ((c.tc : Thread nD τ).loc main_arg1)))

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v7) = product m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v9 = tail (product m c) := by
  rw [← region m c]
  unfold Pipeline.afterTail₀
  generalize Pipeline.withArrays (cfgs 0).spec c (V0 m c) (fun w => (dats m 0 c).arrAt w (cfgs 0).N) = W
  show StableHlo.after hostOps1 W (Proc.devRef .tc main_v9) = _
  after_results_simp
  rfl

theorem packW_at (w : FVec Ideal S512x1536 .f32) (k : Fin 512) (j : Fin 2048) : packW w (ix2 j k) = Heads.padded (fun i => w (ix2 k i)) j := by
  pointwise [packW]
  unfold Heads.padded Heads.orig
  rfl

theorem same (x : FVec Ideal S2048x512 .f32) (w : FVec Ideal S512x1536 .f32) : tail (byRows x (packW w))
    = shapeCast Cert.Reference5Ideal.S2048x8x192 (Host.dotGeneral (φ₂ := .f32) Cert.Reference5Ideal.dot_S2048x512_S512x1536_S2048x1536_1_0_0_1_n_n none x w)
        Cert.Reference5Ideal.Gen.shapeCasts_S2048x1536_S2048x8x192 := by
  funext y
  obtain ⟨s, h, d, rfl⟩ : ∃ (s : Fin 2048) (h : Fin 8) (d : Fin 192), y = ix3 s h d := ⟨y 0, y 1, y 2, eq_ix3 y⟩
  pointwise [tail, byRows]
  refine Finset.sum_congr rfl fun k _ => congrArg (fun z : EReal => x (ix2 s k) * z) ?_
  refine (packW_at w k _).trans ?_
  exact Heads.padded_of_lt _ _ _ (by dsimp only; omega) (by unfold Heads.orig; dsimp only; omega)

end Cert.Kernel5Ideal.Prod

namespace Cert.Proof

open Idealize.ShloMosaic Idealize.ShloMosaic.TcCoe Idealize.SL.Sem

theorem frame_reference5 : Cert.quiescent_Reference5Ideal := fun m ρ _ =>
  (θ_run Cert.Reference5Ideal.defs _ _).mono (fun r h => ⟨fun c => (h c).2, sem_eq_zero_of_no_sems rfl r.2⟩)
    (Cert.Reference5Ideal.Value.run (F := Ideal) m ρ)

theorem algebraic5 : Cert.algebraic_Kernel5Ideal_Reference5Ideal := by
  intro m g m' g' _ hargs
  refine ⟨fun c => Cert.Kernel5Ideal.Prod.tail (Cert.Kernel5Ideal.Prod.product m c), ?_, ?_⟩
  · refine (θ_run Cert.Kernel5Ideal.defs _ _).mono (fun r hr c => ?_) (θ_run_and (Cert.Kernel5Ideal.Gen.run_main m g) (Cert.Kernel5Ideal.Gen.unchanged m g))
    obtain ⟨h, hu⟩ := hr
    exact ⟨((h c).2 Cert.Kernel5Ideal.main_v9 (Pipeline.mem_restRefs_of _ (by decide) (by decide))).trans (Cert.Kernel5Ideal.Prod.result m c), hu c⟩
  · refine (θ_run Cert.Reference5Ideal.defs _ _).mono (fun r hr c => ?_) (Cert.Reference5Ideal.Value.run m' g')
    obtain ⟨q0, q1⟩ := hargs c
    obtain ⟨r0, rest⟩ := hr c
    rw [q0, q1] at r0
    exact ⟨r0.trans (Cert.Kernel5Ideal.Prod.same _ _).symm, rest⟩

end Cert.Proof

end
-- ==== Proof.Prod.QUpIn.lean ====
/- The gradient of what the queries' projection takes: the padding of each head, the array that the call leaves, and the claim. -/
module

public import proofs.«01_k».proof.Defs
public import proofs.«01_k».proof.Proof.Prod.Heads
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 65536

noncomputable section

namespace Cert.Kernel6Ideal.Prod

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

/-- The rows of the first array against the columns of the second. -/
def plain (a : FVec Ideal S2048x2048 .bf16) (b : FVec Ideal S2048x512 .bf16) : FVec Ideal S2048x512 .f32 :=
  fun y => (∑ k : Fin 2048, (a (ix2 (y 0) k) : EReal) * b (ix2 k (y 1)) : EReal)

theorem point (a : FVec Ideal S1024x2048 .bf16) (b : FVec Ideal S2048x512 .bf16) (y : S1024x512.Idx) :
    k0_pay2 (F := Ideal) a b y = (∑ k : Fin 2048, (a (ix2 (y 0) k) : EReal) * b (ix2 k (y 1)) : EReal) := by
  pointwise [k0_pay2, k0_pay1]

theorem final (c : Dev nD) : (dats m 0 c).arrAt 2 cfg0.N = plain (V m c main_v3) (V m c main_v9) := by
  refine (dats m 0 c).arrAt_eq_of_covers 2 _ (by decide +kernel) fun t _ y => ?_
  blk_simp
  rw [after0_2]
  unfold outsAt0
  frame_out
  rw [point]
  unfold plain
  blk_point [iblk, idx t]

/-- The weight as rows, 64 rows of zeros after each head's 192. -/
def packW (w : FVec Ideal S512x1536 .f32) : FVec Ideal S2048x512 .bf16 :=
  shapeCast S2048x512 (concatenate S8x256x512 1 [
    ⟨S8x192x512, shapeCast S8x192x512 (truncf .bf16 (transpose S1536x512 [1, 0] w transposes_S512x1536_S1536x512_1_0) bitsLt_bf16_f32) shapeCasts_S1536x512_S8x192x512⟩,
    ⟨S8x64x512, broadcastInDim S8x64x512 ![] bcast_S_S8x64x512 (constant S_ .bf16 0x0000#16)⟩]
    concatenates_S8x192x512_S8x64x512_S8x256x512_d1) shapeCasts_S8x256x512_S2048x512

/-- The cotangent, 64 zeros after each head's 192 lanes. -/
def packD (d : FVec Ideal S2048x8x192 .f32) : FVec Ideal S2048x2048 .bf16 :=
  truncf .bf16 (shapeCast S2048x2048 (concatenate S2048x8x256 2 [⟨S2048x8x192, d⟩,
    ⟨S2048x8x64, broadcastInDim S2048x8x64 ![] bcast_S_S2048x8x64 (constant S_ .f32 0x00000000#32)⟩]
    concatenates_S2048x8x192_S2048x8x64_S2048x8x256_d2) shapeCasts_S2048x8x256_S2048x2048) bitsLt_bf16_f32

theorem V_first (c : Dev nD) : V m c main_v3 = packD (m ((c.tc : Thread nD τ).loc main_arg2)) := by
  show StableHlo.after hostOps0 (fun b => m (c, b)) (Proc.devRef .tc main_v3) = _
  after_results_simp
  rfl

theorem V_second (c : Dev nD) : V m c main_v9 = packW (m ((c.tc : Thread nD τ).loc main_arg1)) := by
  show StableHlo.after hostOps0 (fun b => m (c, b)) (Proc.devRef .tc main_v9) = _
  after_results_simp
  rfl

/-- The product of what the host hands to the call. -/
def product (c : Dev nD) : FVec Ideal S2048x512 .f32 := plain (packD (m ((c.tc : Thread nD τ).loc main_arg2))) (packW (m ((c.tc : Thread nD τ).loc main_arg1)))

theorem left (c : Dev nD) : (dats m 0 c).arrAt 2 cfg0.N = product m c := by
  refine (final m c).trans ?_
  rw [V_first, V_second]
  rfl

theorem packW_at (w : FVec Ideal S512x1536 .f32) (k : Fin 512) (j : Fin 2048) : packW w (ix2 j k) = Heads.padded (fun i => w (ix2 k i)) j := by
  pointwise [packW]
  unfold Heads.padded Heads.orig
  rfl

theorem packD_at (d : FVec Ideal S2048x8x192 .f32) (s j : Fin 2048) :
    packD d (ix2 s j) = Heads.padded (fun i => d (ix3 s ⟨i.val / 192, by omega⟩ ⟨i.val % 192, by omega⟩)) j := by
  pointwise [packD]
  unfold Heads.padded Heads.orig
  by_cases h : j.val % 256 < 192
  · rw [dif_pos h, dif_pos h]
    refine congrArg d ?_
    congr 1 <;> exact Fin.ext (by dsimp only; omega)
  · rw [dif_neg h, dif_neg h]

theorem same (d : FVec Ideal S2048x8x192 .f32) (w : FVec Ideal S512x1536 .f32) : plain (packD d) (packW w)
    = Host.dotGeneral (φ₂ := .f32) Cert.Reference6Ideal.dot_S2048x1536_S512x1536_S2048x512_1_1_0_0_n_n none
        (shapeCast Cert.Reference6Ideal.S2048x1536 d Cert.Reference6Ideal.Gen.shapeCasts_S2048x8x192_S2048x1536) w := by
  funext y
  obtain ⟨s, k, rfl⟩ : ∃ (s : Fin 2048) (k : Fin 512), y = ix2 s k := ⟨y 0, y 1, eq_ix2 y⟩
  pointwise [plain]
  refine Eq.trans (Finset.sum_congr rfl fun j _ => congrArg₂ (fun a b : EReal => a * b) (packD_at d s j) (packW_at w k j)) ?_
  exact Heads.sum_padded _ _

end Cert.Kernel6Ideal.Prod

namespace Cert.Proof

open Idealize.ShloMosaic Idealize.ShloMosaic.TcCoe Idealize.SL.Sem

theorem frame_reference6 : Cert.quiescent_Reference6Ideal := fun m ρ _ =>
  (θ_run Cert.Reference6Ideal.defs _ _).mono (fun r h => ⟨fun c => (h c).2, sem_eq_zero_of_no_sems rfl r.2⟩)
    (Cert.Reference6Ideal.Value.run (F := Ideal) m ρ)

theorem algebraic6 : Cert.algebraic_Kernel6Ideal_Reference6Ideal := by
  intro m g m' g' _ hargs
  refine ⟨fun c => Cert.Kernel6Ideal.Prod.product m c, ?_, ?_⟩
  · refine (θ_run Cert.Kernel6Ideal.defs _ _).mono (fun r hr c => ?_) (Cert.Kernel6Ideal.Value.run_blocks m g)
    obtain ⟨h, hu⟩ := hr c
    exact ⟨h.trans (Cert.Kernel6Ideal.Prod.left m c), hu⟩
  · refine (θ_run Cert.Reference6Ideal.defs _ _).mono (fun r hr c => ?_) (Cert.Reference6Ideal.Value.run m' g')
    obtain ⟨q0, q1, q2⟩ := hargs c
    obtain ⟨r0, rest⟩ := hr c
    rw [q2, q1] at r0
    exact ⟨r0.trans (Cert.Kernel6Ideal.Prod.same _ _).symm, rest⟩

end Cert.Proof

end
-- ==== Proof.Prod.QUpWeight.lean ====
/- The gradient of the weight of the queries' projection: the padding of each head, the array that the call leaves, and the claim. -/
module

public import proofs.«01_k».proof.Defs
public import proofs.«01_k».proof.Proof.Prod.Heads
public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise

@[expose] public section

set_option maxRecDepth 65536

noncomputable section

namespace Cert.Kernel7Ideal.Prod

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

theorem idx : ∀ t : Fin cfg0.N, win0_0.index t = ![0, t.val / 1] ∧ win0_1.index t = ![0, t.val % 1] ∧ win0_2.index t = ![t.val / 1, t.val % 1] :=
  (by decide +kernel : ∀ t : Fin grid0.N, _)

/-- The columns of the first array against the columns of the second. -/
def byColumns (a : FVec Ideal S2048x2048 .bf16) (b : FVec Ideal S2048x512 .bf16) : FVec Ideal S2048x512 .bf16 :=
  fun y => (∑ k : Fin 2048, (a (ix2 k (y 0)) : EReal) * b (ix2 k (y 1)) : EReal)

theorem point (a : FVec Ideal S2048x1024 .bf16) (b : FVec Ideal S2048x512 .bf16) (y : S1024x512.Idx) :
    k0_pay4 (F := Ideal) (k0_pay2 (F := Ideal) a b) y = (∑ k : Fin 2048, (a (ix2 k (y 0)) : EReal) * b (ix2 k (y 1)) : EReal) := by
  pointwise [k0_pay4, k0_pay2, k0_pay1]

theorem final (c : Dev nD) : (dats m 0 c).arrAt 2 cfg0.N = byColumns (V m c main_v3) (V m c main_v4) := by
  refine (dats m 0 c).arrAt_eq_of_covers 2 _ (by decide +kernel) fun t _ y => ?_
  blk_simp
  rw [after0_2]
  unfold outsAt0
  frame_out
  rw [point]
  unfold byColumns
  blk_point [iblk, idx t]

/-- The cotangent, 64 zeros after each head's 192 lanes. -/
def packD (d : FVec Ideal S2048x8x192 .f32) : FVec Ideal S2048x2048 .bf16 :=
  truncf .bf16 (shapeCast S2048x2048 (concatenate S2048x8x256 2 [⟨S2048x8x192, d⟩,
    ⟨S2048x8x64, broadcastInDim S2048x8x64 ![] bcast_S_S2048x8x64 (constant S_ .f32 0x00000000#32)⟩]
    concatenates_S2048x8x192_S2048x8x64_S2048x8x256_d2) shapeCasts_S2048x8x256_S2048x2048) bitsLt_bf16_f32

/-- The rows of the padding cut out, and the rows written as columns. -/
def tail (p : FVec Ideal S2048x512 .bf16) : FVec Ideal S512x1536 .f32 :=
  extf .f32 (transpose S512x1536 [1, 0] (shapeCast S1536x512 (extractStridedSlice S8x192x512 ![0, 0, 0] (shapeCast S8x256x512 p shapeCasts_S2048x512_S8x256x512)
    slices_S8x256x512_S8x192x512_0_0_0) shapeCasts_S8x192x512_S1536x512) transposes_S1536x512_S512x1536_1_0) bitsLt_bf16_f32

theorem V_first (c : Dev nD) : V m c main_v3 = packD (m ((c.tc : Thread nD τ).loc main_arg2)) := by
  show StableHlo.after hostOps0 (fun b => m (c, b)) (Proc.devRef .tc main_v3) = _
  after_results_simp
  rfl

theorem V_second (c : Dev nD) : V m c main_v4 = (m ((c.tc : Thread nD τ).loc main_arg0) : FVec Ideal S2048x512 .f32) := by
  show StableHlo.after hostOps0 (fun b => m (c, b)) (Proc.devRef .tc main_v4) = _
  after_results_simp
  rfl

/-- The product of what the host hands to the call. -/
def product (c : Dev nD) : FVec Ideal S2048x512 .bf16 := byColumns (packD (m ((c.tc : Thread nD τ).loc main_arg2))) (m ((c.tc : Thread nD τ).loc main_arg0) : FVec Ideal S2048x512 .f32)

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v5) = product m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v10 = tail (product m c) := by
  rw [← region m c]
  unfold Pipeline.afterTail₀
  generalize Pipeline.withArrays (cfgs 0).spec c (V0 m c) (fun w => (dats m 0 c).arrAt w (cfgs 0).N) = W
  show StableHlo.after hostOps1 W (Proc.devRef .tc main_v10) = _
  after_results_simp
  rfl

theorem packD_at (d : FVec Ideal S2048x8x192 .f32) (s j : Fin 2048) :
    packD d (ix2 s j) = Heads.padded (fun i => d (ix3 s ⟨i.val / 192, by omega⟩ ⟨i.val % 192, by omega⟩)) j := by
  pointwise [packD]
  unfold Heads.padded Heads.orig
  by_cases h : j.val % 256 < 192
  · rw [dif_pos h, dif_pos h]
    refine congrArg d ?_
    congr 1 <;> exact Fin.ext (by dsimp only; omega)
  · rw [dif_neg h, dif_neg h]

theorem same (d : FVec Ideal S2048x8x192 .f32) (x : FVec Ideal S2048x512 .f32) : tail (byColumns (packD d) x)
    = transpose Cert.Reference7Ideal.S512x1536 [1, 0] (Host.dotGeneral (φ₂ := .f32) Cert.Reference7Ideal.dot_S2048x1536_S2048x512_S1536x512_0_0_1_1_n_n none
        (shapeCast Cert.Reference7Ideal.S2048x1536 d Cert.Reference7Ideal.Gen.shapeCasts_S2048x8x192_S2048x1536) x) Cert.Reference7Ideal.Gen.transposes_S1536x512_S512x1536_1_0 := by
  funext y
  obtain ⟨k, i, rfl⟩ : ∃ (k : Fin 512) (i : Fin 1536), y = ix2 k i := ⟨y 0, y 1, eq_ix2 y⟩
  pointwise [tail, byColumns]
  refine Finset.sum_congr rfl fun s _ => congrArg (fun z : EReal => z * x (ix2 s k)) ?_
  refine (packD_at d s _).trans ?_
  exact Heads.padded_of_lt _ _ i (by dsimp only; omega) (by unfold Heads.orig; dsimp only; omega)

end Cert.Kernel7Ideal.Prod

namespace Cert.Proof

open Idealize.ShloMosaic Idealize.ShloMosaic.TcCoe Idealize.SL.Sem

theorem frame_reference7 : Cert.quiescent_Reference7Ideal := fun m ρ _ =>
  (θ_run Cert.Reference7Ideal.defs _ _).mono (fun r h => ⟨fun c => (h c).2, sem_eq_zero_of_no_sems rfl r.2⟩)
    (Cert.Reference7Ideal.Value.run (F := Ideal) m ρ)

theorem algebraic7 : Cert.algebraic_Kernel7Ideal_Reference7Ideal := by
  intro m g m' g' _ hargs
  refine ⟨fun c => Cert.Kernel7Ideal.Prod.tail (Cert.Kernel7Ideal.Prod.product m c), ?_, ?_⟩
  · refine (θ_run Cert.Kernel7Ideal.defs _ _).mono (fun r hr c => ?_) (θ_run_and (Cert.Kernel7Ideal.Gen.run_main m g) (Cert.Kernel7Ideal.Gen.unchanged m g))
    obtain ⟨h, hu⟩ := hr
    exact ⟨((h c).2 Cert.Kernel7Ideal.main_v10 (Pipeline.mem_restRefs_of _ (by decide) (by decide))).trans (Cert.Kernel7Ideal.Prod.result m c), hu c⟩
  · refine (θ_run Cert.Reference7Ideal.defs _ _).mono (fun r hr c => ?_) (Cert.Reference7Ideal.Value.run m' g')
    obtain ⟨q0, q1, q2⟩ := hargs c
    obtain ⟨r0, rest⟩ := hr c
    rw [q2, q0] at r0
    exact ⟨r0.trans (Cert.Kernel7Ideal.Prod.same _ _).symm, rest⟩

end Cert.Proof

end
-- ==== Proof.Prod.KvUp.lean ====
/- The projection of the keys and values: the order of the heads, the array that the call leaves, and the claim. -/
module

public import proofs.«01_k».proof.Defs
public import proofs.«01_k».proof.Proof.Prod.Heads
public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise

@[expose] public section

set_option maxRecDepth 65536

noncomputable section

namespace Cert.Kernel8Ideal.Prod

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The rows of the first array against the columns of the second. -/
def plain (a : FVec Ideal S2048x512 .bf16) (b : FVec Ideal S512x2048 .bf16) : FVec Ideal S2048x2048 .bf16 :=
  fun y => (∑ k : Fin 512, (a (ix2 (y 0) k) : EReal) * b (ix2 k (y 1)) : EReal)

theorem point (a : FVec Ideal S1024x512 .bf16) (b : FVec Ideal S512x512 .bf16) (y : S1024x512.Idx) :
    k0_pay4 (F := Ideal) (k0_pay2 (F := Ideal) a b) y = (∑ k : Fin 512, (a (ix2 (y 0) k) : EReal) * b (ix2 k (y 1)) : EReal) := by
  pointwise [k0_pay4, k0_pay2, k0_pay1]

theorem final (c : Dev nD) : (dats m 0 c).arrAt 2 cfg0.N = plain (V m c main_v0) (V m c main_v4) := by
  refine (dats m 0 c).arrAt_eq_of_covers 2 _ (by decide +kernel) fun t _ y => ?_
  blk_simp
  rw [after0_2]
  unfold outsAt0
  frame_out
  rw [point]
  unfold plain
  blk_point [iblk, idx t]

/-- The weight, the columns of all the heads' keys before those of all the heads' values. -/
def packW (w : FVec Ideal S512x2048 .f32) : FVec Ideal S512x2048 .bf16 :=
  shapeCast S512x2048 (transpose S512x2x8x128 [0, 2, 1, 3] (shapeCast S512x8x2x128 (truncf .bf16 w bitsLt_bf16_f32) shapeCasts_S512x2048_S512x8x2x128)
    transposes_S512x8x2x128_S512x2x8x128_0_2_1_3) shapeCasts_S512x2x8x128_S512x2048

/-- The keys and the values of the heads. -/
def keys (p : FVec Ideal S2048x2048 .bf16) : FVec Ideal S2048x8x128 .f32 :=
  extf .f32 (shapeCast S2048x8x128 (extractStridedSlice S2048x1024 ![0, 0] p slices_S2048x2048_S2048x1024_0_0) shapeCasts_S2048x1024_S2048x8x128) bitsLt_bf16_f32

def values (p : FVec Ideal S2048x2048 .bf16) : FVec Ideal S2048x8x128 .f32 :=
  extf .f32 (shapeCast S2048x8x128 (extractStridedSlice S2048x1024 ![0, 1024] p slices_S2048x2048_S2048x1024_0_1024) shapeCasts_S2048x1024_S2048x8x128) bitsLt_bf16_f32

theorem V_first (c : Dev nD) : V m c main_v0 = (m ((c.tc : Thread nD τ).loc main_arg0) : FVec Ideal S2048x512 .f32) := by
  show StableHlo.after hostOps0 (fun b => m (c, b)) (Proc.devRef .tc main_v0) = _
  after_results_simp
  rfl

theorem V_second (c : Dev nD) : V m c main_v4 = packW (m ((c.tc : Thread nD τ).loc main_arg1)) := by
  show StableHlo.after hostOps0 (fun b => m (c, b)) (Proc.devRef .tc main_v4) = _
  after_results_simp
  rfl

/-- The product of what the host hands to the call. -/
def product (c : Dev nD) : FVec Ideal S2048x2048 .bf16 := plain (m ((c.tc : Thread nD τ).loc main_arg0) : FVec Ideal S2048x512 .f32) (packW (m ((c.tc : Thread nD τ).loc main_arg1)))

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v5) = product m c :=
  (Pipeline.withArrays_arr (cfgs 0).spec arrays_distinct c (V0 m c) (fun w => (dats m 0 c).arrAt w (cfgs 0).N) 2).trans (left m c)

theorem result_keys (c : Dev nD) : Pipeline.afterTail₀ cfgs (dats m) 0 (V0 m) [hostOps1] c main_v8 = keys (product m c) := by
  rw [← region m c]
  unfold Pipeline.afterTail₀
  generalize Pipeline.withArrays (cfgs 0).spec c (V0 m c) (fun w => (dats m 0 c).arrAt w (cfgs 0).N) = W
  show StableHlo.after hostOps1 W (Proc.devRef .tc main_v8) = _
  after_results_simp
  rfl

theorem result_values (c : Dev nD) : Pipeline.afterTail₀ cfgs (dats m) 0 (V0 m) [hostOps1] c main_v11 = values (product m c) := by
  rw [← region m c]
  unfold Pipeline.afterTail₀
  generalize Pipeline.withArrays (cfgs 0).spec c (V0 m c) (fun w => (dats m 0 c).arrAt w (cfgs 0).N) = W
  show StableHlo.after hostOps1 W (Proc.devRef .tc main_v11) = _
  after_results_simp
  rfl

theorem packW_at (w : FVec Ideal S512x2048 .f32) (k : Fin 512) (j : Fin 2048) : packW w (ix2 k j) = Heads.sorted (fun i => w (ix2 k i)) j := by
  pointwise [packW]
  unfold Heads.sorted Heads.laneAt
  refine congrArg (fun i => w (ix2 k i)) (Fin.ext ?_)
  dsimp only
  omega

theorem same_keys (x : FVec Ideal S2048x512 .f32) (w : FVec Ideal S512x2048 .f32) : keys (plain x (packW w))
    = extractStridedSlice Cert.Reference8Ideal.S2048x8x128 ![0, 0, 0] (shapeCast Cert.Reference8Ideal.S2048x8x256 (Host.dotGeneral (φ₂ := .f32) Cert.Reference8Ideal.dot_S2048x512_S512x2048_S2048x2048_1_0_0_1_n_n none x w)
        Cert.Reference8Ideal.Gen.shapeCasts_S2048x2048_S2048x8x256) Cert.Reference8Ideal.Gen.slices_S2048x8x256_S2048x8x128_0_0_0 := by
  funext y
  obtain ⟨s, h, d, rfl⟩ : ∃ (s : Fin 2048) (h : Fin 8) (d : Fin 128), y = ix3 s h d := ⟨y 0, y 1, y 2, eq_ix3 y⟩
  pointwise [keys, plain]
  refine Finset.sum_congr rfl fun k _ => congrArg (fun z : EReal => x (ix2 s k) * z) ?_
  refine (packW_at w k _).trans ?_
  unfold Heads.sorted Heads.laneAt
  refine congrArg (fun i => w (ix2 k i)) (Fin.ext ?_)
  dsimp only
  omega

theorem same_values (x : FVec Ideal S2048x512 .f32) (w : FVec Ideal S512x2048 .f32) : values (plain x (packW w))
    = extractStridedSlice Cert.Reference8Ideal.S2048x8x128 ![0, 0, 128] (shapeCast Cert.Reference8Ideal.S2048x8x256 (Host.dotGeneral (φ₂ := .f32) Cert.Reference8Ideal.dot_S2048x512_S512x2048_S2048x2048_1_0_0_1_n_n none x w)
        Cert.Reference8Ideal.Gen.shapeCasts_S2048x2048_S2048x8x256) Cert.Reference8Ideal.Gen.slices_S2048x8x256_S2048x8x128_0_0_128 := by
  funext y
  obtain ⟨s, h, d, rfl⟩ : ∃ (s : Fin 2048) (h : Fin 8) (d : Fin 128), y = ix3 s h d := ⟨y 0, y 1, y 2, eq_ix3 y⟩
  pointwise [values, plain]
  refine Finset.sum_congr rfl fun k _ => congrArg (fun z : EReal => x (ix2 s k) * z) ?_
  refine (packW_at w k _).trans ?_
  unfold Heads.sorted Heads.laneAt
  refine congrArg (fun i => w (ix2 k i)) (Fin.ext ?_)
  dsimp only
  omega

end Cert.Kernel8Ideal.Prod

namespace Cert.Proof

open Idealize.ShloMosaic Idealize.ShloMosaic.TcCoe Idealize.SL.Sem

theorem frame_reference8 : Cert.quiescent_Reference8Ideal := fun m ρ _ =>
  (θ_run Cert.Reference8Ideal.defs _ _).mono (fun r h => ⟨fun c => (h c).2.2, sem_eq_zero_of_no_sems rfl r.2⟩)
    (Cert.Reference8Ideal.Value.run (F := Ideal) m ρ)

theorem algebraic8 : Cert.algebraic_Kernel8Ideal_Reference8Ideal := by
  intro m g m' g' _ hargs
  refine ⟨fun c => Cert.Kernel8Ideal.Prod.keys (Cert.Kernel8Ideal.Prod.product m c), fun c => Cert.Kernel8Ideal.Prod.values (Cert.Kernel8Ideal.Prod.product m c), ?_, ?_⟩
  · refine (θ_run Cert.Kernel8Ideal.defs _ _).mono (fun r hr c => ?_) (θ_run_and (Cert.Kernel8Ideal.Gen.run_main m g) (Cert.Kernel8Ideal.Gen.unchanged m g))
    obtain ⟨h, hu⟩ := hr
    exact ⟨((h c).2 Cert.Kernel8Ideal.main_v8 (Pipeline.mem_restRefs_of _ (by decide) (by decide))).trans (Cert.Kernel8Ideal.Prod.result_keys m c), ((h c).2 Cert.Kernel8Ideal.main_v11 (Pipeline.mem_restRefs_of _ (by decide) (by decide))).trans (Cert.Kernel8Ideal.Prod.result_values m c), (hu c).1, (hu c).2⟩
  · refine (θ_run Cert.Reference8Ideal.defs _ _).mono (fun r hr c => ?_) (Cert.Reference8Ideal.Value.run m' g')
    obtain ⟨q0, q1⟩ := hargs c
    obtain ⟨r0, r1, rest⟩ := hr c
    rw [q0, q1] at r0 r1
    exact ⟨r0.trans (Cert.Kernel8Ideal.Prod.same_keys _ _).symm, r1.trans (Cert.Kernel8Ideal.Prod.same_values _ _).symm, rest⟩

end Cert.Proof

end
-- ==== Proof.Prod.KvUpIn.lean ====
/- The gradient of what the projection of the keys and values takes: the order of the heads, the array that the call leaves, and the claim. -/
module

public import proofs.«01_k».proof.Defs
public import proofs.«01_k».proof.Proof.Prod.Heads
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 65536

noncomputable section

namespace Cert.Kernel9Ideal.Prod

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

/-- The rows of the first array against the rows of the second. -/
def byRows (a : FVec Ideal S2048x2048 .bf16) (b : FVec Ideal S512x2048 .bf16) : FVec Ideal S2048x512 .f32 :=
  fun y => (∑ k : Fin 2048, (a (ix2 (y 0) k) : EReal) * b (ix2 (y 1) k) : EReal)

theorem point (a : FVec Ideal S1024x2048 .bf16) (b : FVec Ideal S512x2048 .bf16) (y : S1024x512.Idx) :
    k0_pay2 (F := Ideal) a b y = (∑ k : Fin 2048, (a (ix2 (y 0) k) : EReal) * b (ix2 (y 1) k) : EReal) := by
  pointwise [k0_pay2, k0_pay1]

theorem final (c : Dev nD) : (dats m 0 c).arrAt 2 cfg0.N = byRows (V m c main_v5) (V m c main_v9) := by
  refine (dats m 0 c).arrAt_eq_of_covers 2 _ (by decide +kernel) fun t _ y => ?_
  blk_simp
  rw [after0_2]
  unfold outsAt0
  frame_out
  rw [point]
  unfold byRows
  blk_point [iblk, idx t]

/-- The weight, the columns of all the heads' keys before those of all the heads' values. -/
def packW (w : FVec Ideal S512x2048 .f32) : FVec Ideal S512x2048 .bf16 :=
  shapeCast S512x2048 (transpose S512x2x8x128 [0, 2, 1, 3] (shapeCast S512x8x2x128 (truncf .bf16 w bitsLt_bf16_f32) shapeCasts_S512x2048_S512x8x2x128)
    transposes_S512x8x2x128_S512x2x8x128_0_2_1_3) shapeCasts_S512x2x8x128_S512x2048

/-- The cotangent, all the heads' keys before all the heads' values. -/
def packD (d : FVec Ideal S2048x8x256 .f32) : FVec Ideal S2048x2048 .bf16 :=
  truncf .bf16 (concatenate S2048x2048 1 [
    ⟨S2048x1024, shapeCast S2048x1024 (extractStridedSlice S2048x8x128 ![0, 0, 0] d slices_S2048x8x256_S2048x8x128_0_0_0) shapeCasts_S2048x8x128_S2048x1024⟩,
    ⟨S2048x1024, shapeCast S2048x1024 (extractStridedSlice S2048x8x128 ![0, 0, 128] d slices_S2048x8x256_S2048x8x128_0_0_128) shapeCasts_S2048x8x128_S2048x1024⟩]
    concatenates_S2048x1024_S2048x1024_S2048x2048_d1) bitsLt_bf16_f32

theorem V_first (c : Dev nD) : V m c main_v5 = packD (m ((c.tc : Thread nD τ).loc main_arg2)) := by
  show StableHlo.after hostOps0 (fun b => m (c, b)) (Proc.devRef .tc main_v5) = _
  after_results_simp
  rfl

theorem V_second (c : Dev nD) : V m c main_v9 = packW (m ((c.tc : Thread nD τ).loc main_arg1)) := by
  show StableHlo.after hostOps0 (fun b => m (c, b)) (Proc.devRef .tc main_v9) = _
  after_results_simp
  rfl

/-- The product of what the host hands to the call. -/
def product (c : Dev nD) : FVec Ideal S2048x512 .f32 := byRows (packD (m ((c.tc : Thread nD τ).loc main_arg2))) (packW (m ((c.tc : Thread nD τ).loc main_arg1)))

theorem left (c : Dev nD) : (dats m 0 c).arrAt 2 cfg0.N = product m c := by
  refine (final m c).trans ?_
  rw [V_first, V_second]
  rfl

theorem packW_at (w : FVec Ideal S512x2048 .f32) (k : Fin 512) (j : Fin 2048) : packW w (ix2 k j) = Heads.sorted (fun i => w (ix2 k i)) j := by
  pointwise [packW]
  unfold Heads.sorted Heads.laneAt
  refine congrArg (fun i => w (ix2 k i)) (Fin.ext ?_)
  dsimp only
  omega

theorem packD_at (d : FVec Ideal S2048x8x256 .f32) (s j : Fin 2048) :
    packD d (ix2 s j) = Heads.sorted (fun i => d (ix3 s ⟨i.val / 256, by omega⟩ ⟨i.val % 256, by omega⟩)) j := by
  pointwise [packD]
  unfold Heads.sorted Heads.laneAt
  by_cases h : j.val < 1024
  · rw [dif_pos h]
    refine congrArg d ?_
    congr 1 <;> exact Fin.ext (by dsimp only; omega)
  · rw [dif_neg h]
    refine congrArg d ?_
    congr 1 <;> exact Fin.ext (by dsimp only; omega)

theorem same (d : FVec Ideal S2048x8x256 .f32) (w : FVec Ideal S512x2048 .f32) : byRows (packD d) (packW w)
    = Host.dotGeneral (φ₂ := .f32) Cert.Reference9Ideal.dot_S2048x2048_S512x2048_S2048x512_1_1_0_0_n_n none
        (shapeCast Cert.Reference9Ideal.S2048x2048 d Cert.Reference9Ideal.Gen.shapeCasts_S2048x8x256_S2048x2048) w := by
  funext y
  obtain ⟨s, k, rfl⟩ : ∃ (s : Fin 2048) (k : Fin 512), y = ix2 s k := ⟨y 0, y 1, eq_ix2 y⟩
  pointwise [byRows]
  refine Eq.trans (Finset.sum_congr rfl fun j _ => congrArg₂ (fun a b : EReal => a * b) (packD_at d s j) (packW_at w k j)) ?_
  exact Heads.sum_sorted _ _

end Cert.Kernel9Ideal.Prod

namespace Cert.Proof

open Idealize.ShloMosaic Idealize.ShloMosaic.TcCoe Idealize.SL.Sem

theorem frame_reference9 : Cert.quiescent_Reference9Ideal := fun m ρ _ =>
  (θ_run Cert.Reference9Ideal.defs _ _).mono (fun r h => ⟨fun c => (h c).2, sem_eq_zero_of_no_sems rfl r.2⟩)
    (Cert.Reference9Ideal.Value.run (F := Ideal) m ρ)

theorem algebraic9 : Cert.algebraic_Kernel9Ideal_Reference9Ideal := by
  intro m g m' g' _ hargs
  refine ⟨fun c => Cert.Kernel9Ideal.Prod.product m c, ?_, ?_⟩
  · refine (θ_run Cert.Kernel9Ideal.defs _ _).mono (fun r hr c => ?_) (Cert.Kernel9Ideal.Value.run_blocks m g)
    obtain ⟨h, hu⟩ := hr c
    exact ⟨h.trans (Cert.Kernel9Ideal.Prod.left m c), hu⟩
  · refine (θ_run Cert.Reference9Ideal.defs _ _).mono (fun r hr c => ?_) (Cert.Reference9Ideal.Value.run m' g')
    obtain ⟨q0, q1, q2⟩ := hargs c
    obtain ⟨r0, rest⟩ := hr c
    rw [q2, q1] at r0
    exact ⟨r0.trans (Cert.Kernel9Ideal.Prod.same _ _).symm, rest⟩

end Cert.Proof

end
-- ==== Proof.Prod.KvUpWeight.lean ====
/- The gradient of the weight of the projection of the keys and values: the order of the heads, the array that the call leaves, and the claim. -/
module

public import proofs.«01_k».proof.Defs
public import proofs.«01_k».proof.Proof.Prod.Heads
public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise

@[expose] public section

set_option maxRecDepth 65536

noncomputable section

namespace Cert.Kernel10Ideal.Prod

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The columns of the first array against the columns of the second. -/
def byColumns (a : FVec Ideal S2048x512 .bf16) (b : FVec Ideal S2048x2048 .bf16) : FVec Ideal S512x2048 .bf16 :=
  fun y => (∑ k : Fin 2048, (a (ix2 k (y 0)) : EReal) * b (ix2 k (y 1)) : EReal)

theorem point (a : FVec Ideal S2048x512 .bf16) (b : FVec Ideal S2048x512 .bf16) (y : S512x512.Idx) :
    k0_pay4 (F := Ideal) (k0_pay2 (F := Ideal) a b) y = (∑ k : Fin 2048, (a (ix2 k (y 0)) : EReal) * b (ix2 k (y 1)) : EReal) := by
  pointwise [k0_pay4, k0_pay2, k0_pay1]

theorem final (c : Dev nD) : (dats m 0 c).arrAt 2 cfg0.N = byColumns (V m c main_v0) (V m c main_v6) := by
  refine (dats m 0 c).arrAt_eq_of_covers 2 _ (by decide +kernel) fun t _ y => ?_
  blk_simp
  rw [after0_2]
  unfold outsAt0
  frame_out
  rw [point]
  unfold byColumns
  blk_point [iblk, idx t]

/-- The cotangent, all the heads' keys before all the heads' values. -/
def packD (d : FVec Ideal S2048x8x256 .f32) : FVec Ideal S2048x2048 .bf16 :=
  truncf .bf16 (concatenate S2048x2048 1 [
    ⟨S2048x1024, shapeCast S2048x1024 (extractStridedSlice S2048x8x128 ![0, 0, 0] d slices_S2048x8x256_S2048x8x128_0_0_0) shapeCasts_S2048x8x128_S2048x1024⟩,
    ⟨S2048x1024, shapeCast S2048x1024 (extractStridedSlice S2048x8x128 ![0, 0, 128] d slices_S2048x8x256_S2048x8x128_0_0_128) shapeCasts_S2048x8x128_S2048x1024⟩]
    concatenates_S2048x1024_S2048x1024_S2048x2048_d1) bitsLt_bf16_f32

/-- The columns back in the weight's order. -/
def tail (p : FVec Ideal S512x2048 .bf16) : FVec Ideal S512x2048 .f32 :=
  extf .f32 (shapeCast S512x2048 (transpose S512x8x2x128 [0, 2, 1, 3] (shapeCast S512x2x8x128 p shapeCasts_S512x2048_S512x2x8x128)
    transposes_S512x2x8x128_S512x8x2x128_0_2_1_3) shapeCasts_S512x8x2x128_S512x2048) bitsLt_bf16_f32

theorem V_first (c : Dev nD) : V m c main_v0 = (m ((c.tc : Thread nD τ).loc main_arg0) : FVec Ideal S2048x512 .f32) := by
  show StableHlo.after hostOps0 (fun b => m (c, b)) (Proc.devRef .tc main_v0) = _
  after_results_simp
  rfl

theorem V_second (c : Dev nD) : V m c main_v6 = packD (m ((c.tc : Thread nD τ).loc main_arg2)) := by
  show StableHlo.after hostOps0 (fun b => m (c, b)) (Proc.devRef .tc main_v6) = _
  after_results_simp
  rfl

/-- The product of what the host hands to the call. -/
def product (c : Dev nD) : FVec Ideal S512x2048 .bf16 := byColumns (m ((c.tc : Thread nD τ).loc main_arg0) : FVec Ideal S2048x512 .f32) (packD (m ((c.tc : Thread nD τ).loc main_arg2)))

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v7) = product m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v11 = tail (product m c) := by
  rw [← region m c]
  unfold Pipeline.afterTail₀
  generalize Pipeline.withArrays (cfgs 0).spec c (V0 m c) (fun w => (dats m 0 c).arrAt w (cfgs 0).N) = W
  show StableHlo.after hostOps1 W (Proc.devRef .tc main_v11) = _
  after_results_simp
  rfl

theorem packD_at (d : FVec Ideal S2048x8x256 .f32) (s j : Fin 2048) :
    packD d (ix2 s j) = Heads.sorted (fun i => d (ix3 s ⟨i.val / 256, by omega⟩ ⟨i.val % 256, by omega⟩)) j := by
  pointwise [packD]
  unfold Heads.sorted Heads.laneAt
  by_cases h : j.val < 1024
  · rw [dif_pos h]
    refine congrArg d ?_
    congr 1 <;> exact Fin.ext (by dsimp only; omega)
  · rw [dif_neg h]
    refine congrArg d ?_
    congr 1 <;> exact Fin.ext (by dsimp only; omega)

theorem same (d : FVec Ideal S2048x8x256 .f32) (x : FVec Ideal S2048x512 .f32) : tail (byColumns x (packD d))
    = transpose Cert.Reference10Ideal.S512x2048 [1, 0] (Host.dotGeneral (φ₂ := .f32) Cert.Reference10Ideal.dot_S2048x2048_S2048x512_S2048x512_0_0_1_1_n_n none
        (shapeCast Cert.Reference10Ideal.S2048x2048 d Cert.Reference10Ideal.Gen.shapeCasts_S2048x8x256_S2048x2048) x) Cert.Reference10Ideal.Gen.transposes_S2048x512_S512x2048_1_0 := by
  funext y
  obtain ⟨k, i, rfl⟩ : ∃ (k : Fin 512) (i : Fin 2048), y = ix2 k i := ⟨y 0, y 1, eq_ix2 y⟩
  pointwise [tail, byColumns]
  refine Finset.sum_congr rfl fun s _ => ?_
  refine Eq.trans (congrArg (fun z : EReal => x (ix2 s k) * z) ((packD_at d s _).trans ?_)) (mul_comm _ _)
  have e : Heads.laneAt (i.val / 128 % 2 * 1024 + i.val / 256 * 128 + i.val % 128) = i.val := by
    rw [show i.val / 128 % 2 = i.val % 256 / 128 by omega]
    exact Heads.laneAt_placeOf i.isLt
  exact congrArg₂ (fun a b => d (ix3 s a b)) (Fin.ext (congrArg (fun n => n / 256) e)) (Fin.ext (congrArg (fun n => n % 256) e))

end Cert.Kernel10Ideal.Prod

namespace Cert.Proof

open Idealize.ShloMosaic Idealize.ShloMosaic.TcCoe Idealize.SL.Sem

theorem frame_reference10 : Cert.quiescent_Reference10Ideal := fun m ρ _ =>
  (θ_run Cert.Reference10Ideal.defs _ _).mono (fun r h => ⟨fun c => (h c).2, sem_eq_zero_of_no_sems rfl r.2⟩)
    (Cert.Reference10Ideal.Value.run (F := Ideal) m ρ)

theorem algebraic10 : Cert.algebraic_Kernel10Ideal_Reference10Ideal := by
  intro m g m' g' _ hargs
  refine ⟨fun c => Cert.Kernel10Ideal.Prod.tail (Cert.Kernel10Ideal.Prod.product m c), ?_, ?_⟩
  · refine (θ_run Cert.Kernel10Ideal.defs _ _).mono (fun r hr c => ?_) (θ_run_and (Cert.Kernel10Ideal.Gen.run_main m g) (Cert.Kernel10Ideal.Gen.unchanged m g))
    obtain ⟨h, hu⟩ := hr
    exact ⟨((h c).2 Cert.Kernel10Ideal.main_v11 (Pipeline.mem_restRefs_of _ (by decide) (by decide))).trans (Cert.Kernel10Ideal.Prod.result m c), hu c⟩
  · refine (θ_run Cert.Reference10Ideal.defs _ _).mono (fun r hr c => ?_) (Cert.Reference10Ideal.Value.run m' g')
    obtain ⟨q0, q1, q2⟩ := hargs c
    obtain ⟨r0, rest⟩ := hr c
    rw [q2, q0] at r0
    exact ⟨r0.trans (Cert.Kernel10Ideal.Prod.same _ _).symm, rest⟩

end Cert.Proof

end
-- ==== Proof.Prod.BranchMla.lean ====
/- The projection of the MLA branch: the array that the call leaves, and the claim. -/
module

public import proofs.«01_k».proof.Defs
public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Kernel11Ideal.Prod

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The rows of the first array against the columns of the second. -/
def plain (a : FVec Ideal S2048x1024 .bf16) (b : FVec Ideal S1024x2048 .bf16) : FVec Ideal S2048x2048 .bf16 :=
  fun y => (∑ k : Fin 1024, (a (ix2 (y 0) k) : EReal) * b (ix2 k (y 1)) : EReal)

theorem point (a : FVec Ideal S1024x1024 .bf16) (b : FVec Ideal S1024x512 .bf16) (y : S1024x512.Idx) :
    k0_pay4 (F := Ideal) (k0_pay2 (F := Ideal) a b) y = (∑ k : Fin 1024, (a (ix2 (y 0) k) : EReal) * b (ix2 k (y 1)) : EReal) := by
  pointwise [k0_pay4, k0_pay2, k0_pay1]

theorem final (c : Dev nD) : (dats m 0 c).arrAt 2 cfg0.N = plain (V m c main_v0) (V m c main_v1) := by
  refine (dats m 0 c).arrAt_eq_of_covers 2 _ (by decide +kernel) fun t _ y => ?_
  blk_simp
  rw [after0_2]
  unfold outsAt0
  frame_out
  rw [point]
  unfold plain
  blk_point [iblk, idx t]

theorem V_first (c : Dev nD) : V m c main_v0 = (m ((c.tc : Thread nD τ).loc main_arg0) : FVec Ideal S2048x1024 .f32) := by
  entry_read
  rfl

theorem V_second (c : Dev nD) : V m c main_v1 = (m ((c.tc : Thread nD τ).loc main_arg1) : FVec Ideal S1024x2048 .f32) := by
  entry_read
  rfl

/-- The product of the call's two arguments. -/
def product (c : Dev nD) : FVec Ideal S2048x2048 .bf16 :=
  plain (m ((c.tc : Thread nD τ).loc main_arg0) : FVec Ideal S2048x1024 .f32) (m ((c.tc : Thread nD τ).loc main_arg1) : FVec Ideal S1024x2048 .f32)

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v2) = product m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v3 = extf .f32 (product m c) bitsLt_bf16_f32 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v3) = _
  after_results

theorem same (a : FVec Ideal S2048x1024 .f32) (b : FVec Ideal S1024x2048 .f32) : extf .f32 (plain a b) bitsLt_bf16_f32
    = Host.dotGeneral (φ₂ := .f32) Cert.Reference11Ideal.dot_S2048x1024_S1024x2048_S2048x2048_1_0_0_1_n_n none a b := by
  funext y
  pointwise [plain]

end Cert.Kernel11Ideal.Prod

namespace Cert.Proof

open Idealize.ShloMosaic Idealize.ShloMosaic.TcCoe Idealize.SL.Sem

theorem frame_reference11 : Cert.quiescent_Reference11Ideal := fun m ρ _ =>
  (θ_run Cert.Reference11Ideal.defs _ _).mono (fun r h => ⟨fun c => (h c).2, sem_eq_zero_of_no_sems rfl r.2⟩)
    (Cert.Reference11Ideal.Value.run (F := Ideal) m ρ)

theorem algebraic11 : Cert.algebraic_Kernel11Ideal_Reference11Ideal := by
  intro m g m' g' _ hargs
  refine ⟨fun c => extf .f32 (Cert.Kernel11Ideal.Prod.product m c) Cert.Kernel11Ideal.Gen.bitsLt_bf16_f32, ?_, ?_⟩
  · refine (θ_run Cert.Kernel11Ideal.defs _ _).mono (fun r hr c => ?_) (θ_run_and (Cert.Kernel11Ideal.Gen.run_main m g) (Cert.Kernel11Ideal.Gen.unchanged m g))
    obtain ⟨h, hu⟩ := hr
    exact ⟨((h c).2 Cert.Kernel11Ideal.main_v3 (Pipeline.mem_restRefs_of _ (by decide) (by decide))).trans (Cert.Kernel11Ideal.Prod.result m c), hu c⟩
  · refine (θ_run Cert.Reference11Ideal.defs _ _).mono (fun r hr c => ?_) (Cert.Reference11Ideal.Value.run m' g')
    obtain ⟨q0, q1⟩ := hargs c
    obtain ⟨r0, rest⟩ := hr c
    rw [q0, q1] at r0
    exact ⟨r0.trans (Cert.Kernel11Ideal.Prod.same _ _).symm, rest⟩

end Cert.Proof

end
-- ==== Proof.Prod.BranchMlaIn.lean ====
/- The gradient of the MLA branch: the array that the call leaves, and the claim. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Kernel12Ideal.Prod

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The rows of the first array against the rows of the second. -/
def byRows (a : FVec Ideal S2048x2048 .bf16) (b : FVec Ideal S1024x2048 .bf16) : FVec Ideal S2048x1024 .f32 :=
  fun y => (∑ k : Fin 2048, (a (ix2 (y 0) k) : EReal) * b (ix2 (y 1) k) : EReal)

theorem point (a : FVec Ideal S1024x2048 .bf16) (b : FVec Ideal S512x2048 .bf16) (y : S1024x512.Idx) :
    k0_pay2 (F := Ideal) a b y = (∑ k : Fin 2048, (a (ix2 (y 0) k) : EReal) * b (ix2 (y 1) k) : EReal) := by
  pointwise [k0_pay2, k0_pay1]

theorem final (c : Dev nD) : (dats m 0 c).arrAt 2 cfg0.N = byRows (V m c main_v0) (V m c main_v1) := by
  refine (dats m 0 c).arrAt_eq_of_covers 2 _ (by decide +kernel) fun t _ y => ?_
  blk_simp
  rw [after0_2]
  unfold outsAt0
  frame_out
  rw [point]
  unfold byRows
  blk_point [iblk, idx t]

theorem V_first (c : Dev nD) : V m c main_v0 = (m ((c.tc : Thread nD τ).loc main_arg2) : FVec Ideal S2048x2048 .f32) := by
  entry_read
  rfl

theorem V_second (c : Dev nD) : V m c main_v1 = (m ((c.tc : Thread nD τ).loc main_arg1) : FVec Ideal S1024x2048 .f32) := by
  entry_read
  rfl

/-- The product of the call's two arguments. -/
def product (c : Dev nD) : FVec Ideal S2048x1024 .f32 :=
  byRows (m ((c.tc : Thread nD τ).loc main_arg2) : FVec Ideal S2048x2048 .f32) (m ((c.tc : Thread nD τ).loc main_arg1) : FVec Ideal S1024x2048 .f32)

theorem left (c : Dev nD) : (dats m 0 c).arrAt 2 cfg0.N = product m c := by
  refine (final m c).trans ?_
  rw [V_first, V_second]
  rfl

theorem same (a : FVec Ideal S2048x2048 .f32) (b : FVec Ideal S1024x2048 .f32) : byRows a b
    = Host.dotGeneral (φ₂ := .f32) Cert.Reference12Ideal.dot_S2048x2048_S1024x2048_S2048x1024_1_1_0_0_n_n none a b := by
  funext y
  pointwise [byRows]

end Cert.Kernel12Ideal.Prod

namespace Cert.Proof

open Idealize.ShloMosaic Idealize.ShloMosaic.TcCoe Idealize.SL.Sem

theorem frame_reference12 : Cert.quiescent_Reference12Ideal := fun m ρ _ =>
  (θ_run Cert.Reference12Ideal.defs _ _).mono (fun r h => ⟨fun c => (h c).2, sem_eq_zero_of_no_sems rfl r.2⟩)
    (Cert.Reference12Ideal.Value.run (F := Ideal) m ρ)

theorem algebraic12 : Cert.algebraic_Kernel12Ideal_Reference12Ideal := by
  intro m g m' g' _ hargs
  refine ⟨fun c => Cert.Kernel12Ideal.Prod.product m c, ?_, ?_⟩
  · refine (θ_run Cert.Kernel12Ideal.defs _ _).mono (fun r hr c => ?_) (Cert.Kernel12Ideal.Value.run_blocks m g)
    obtain ⟨h, hu⟩ := hr c
    exact ⟨h.trans (Cert.Kernel12Ideal.Prod.left m c), hu⟩
  · refine (θ_run Cert.Reference12Ideal.defs _ _).mono (fun r hr c => ?_) (Cert.Reference12Ideal.Value.run m' g')
    obtain ⟨q0, q1, q2⟩ := hargs c
    obtain ⟨r0, rest⟩ := hr c
    rw [q2, q1] at r0
    exact ⟨r0.trans (Cert.Kernel12Ideal.Prod.same _ _).symm, rest⟩

end Cert.Proof

end
-- ==== Proof.Prod.BranchMlaWeight.lean ====
/- The gradient of the weight of the MLA branch: the array that the call leaves, and the claim. -/
module

public import proofs.«01_k».proof.Defs
public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.Kernel13Ideal.Prod

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The columns of the first array against the columns of the second. -/
def byColumns (a : FVec Ideal S2048x1024 .bf16) (b : FVec Ideal S2048x2048 .bf16) : FVec Ideal S1024x2048 .bf16 :=
  fun y => (∑ k : Fin 2048, (a (ix2 k (y 0)) : EReal) * b (ix2 k (y 1)) : EReal)

theorem point (a : FVec Ideal S2048x1024 .bf16) (b : FVec Ideal S2048x512 .bf16) (y : S1024x512.Idx) :
    k0_pay4 (F := Ideal) (k0_pay2 (F := Ideal) a b) y = (∑ k : Fin 2048, (a (ix2 k (y 0)) : EReal) * b (ix2 k (y 1)) : EReal) := by
  pointwise [k0_pay4, k0_pay2, k0_pay1]

theorem final (c : Dev nD) : (dats m 0 c).arrAt 2 cfg0.N = byColumns (V m c main_v0) (V m c main_v1) := by
  refine (dats m 0 c).arrAt_eq_of_covers 2 _ (by decide +kernel) fun t _ y => ?_
  blk_simp
  rw [after0_2]
  unfold outsAt0
  frame_out
  rw [point]
  unfold byColumns
  blk_point [iblk, idx t]

theorem V_first (c : Dev nD) : V m c main_v0 = (m ((c.tc : Thread nD τ).loc main_arg0) : FVec Ideal S2048x1024 .f32) := by
  entry_read
  rfl

theorem V_second (c : Dev nD) : V m c main_v1 = (m ((c.tc : Thread nD τ).loc main_arg2) : FVec Ideal S2048x2048 .f32) := by
  entry_read
  rfl

/-- The product of the call's two arguments. -/
def product (c : Dev nD) : FVec Ideal S1024x2048 .bf16 :=
  byColumns (m ((c.tc : Thread nD τ).loc main_arg0) : FVec Ideal S2048x1024 .f32) (m ((c.tc : Thread nD τ).loc main_arg2) : FVec Ideal S2048x2048 .f32)

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v2) = product m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v3 = extf .f32 (product m c) bitsLt_bf16_f32 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v3) = _
  after_results

theorem same (a : FVec Ideal S2048x1024 .f32) (b : FVec Ideal S2048x2048 .f32) : extf .f32 (byColumns a b) bitsLt_bf16_f32
    = transpose Cert.Reference13Ideal.S1024x2048 [1, 0] (Host.dotGeneral (φ₂ := .f32) Cert.Reference13Ideal.dot_S2048x2048_S2048x1024_S2048x1024_0_0_1_1_n_n none b a)
        Cert.Reference13Ideal.Gen.transposes_S2048x1024_S1024x2048_1_0 := by
  funext y
  pointwise [byColumns]
  exact Finset.sum_congr rfl fun k _ => mul_comm _ _

end Cert.Kernel13Ideal.Prod

namespace Cert.Proof

open Idealize.ShloMosaic Idealize.ShloMosaic.TcCoe Idealize.SL.Sem

theorem frame_reference13 : Cert.quiescent_Reference13Ideal := fun m ρ _ =>
  (θ_run Cert.Reference13Ideal.defs _ _).mono (fun r h => ⟨fun c => (h c).2, sem_eq_zero_of_no_sems rfl r.2⟩)
    (Cert.Reference13Ideal.Value.run (F := Ideal) m ρ)

theorem algebraic13 : Cert.algebraic_Kernel13Ideal_Reference13Ideal := by
  intro m g m' g' _ hargs
  refine ⟨fun c => extf .f32 (Cert.Kernel13Ideal.Prod.product m c) Cert.Kernel13Ideal.Gen.bitsLt_bf16_f32, ?_, ?_⟩
  · refine (θ_run Cert.Kernel13Ideal.defs _ _).mono (fun r hr c => ?_) (θ_run_and (Cert.Kernel13Ideal.Gen.run_main m g) (Cert.Kernel13Ideal.Gen.unchanged m g))
    obtain ⟨h, hu⟩ := hr
    exact ⟨((h c).2 Cert.Kernel13Ideal.main_v3 (Pipeline.mem_restRefs_of _ (by decide) (by decide))).trans (Cert.Kernel13Ideal.Prod.result m c), hu c⟩
  · refine (θ_run Cert.Reference13Ideal.defs _ _).mono (fun r hr c => ?_) (Cert.Reference13Ideal.Value.run m' g')
    obtain ⟨q0, q1, q2⟩ := hargs c
    obtain ⟨r0, rest⟩ := hr c
    rw [q0, q2] at r0
    exact ⟨r0.trans (Cert.Kernel13Ideal.Prod.same _ _).symm, rest⟩

end Cert.Proof

end
-- ==== Proof.Prod.BranchRwkv.lean ====
/- The projection of the RWKV branch: the array that the call leaves, and the claim. -/
module

public import proofs.«01_k».proof.Defs
public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise

@[expose] public section

set_option maxRecDepth 16384

noncomputable section

namespace Cert.Kernel14Ideal.Prod

open Idealize.ShloMosaic Idealize.ShloMosaic.TcCoe Idealize.SL.Sem
open Idealize.ShloMosaic.Pipeline (Dat)
open Cert.Kernel14Ideal Cert.Kernel14Ideal.Gen

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The rows of the first array against the columns of the second. -/
def plain (a : FVec Ideal S2048x1024 .bf16) (b : FVec Ideal S1024x2048 .bf16) : FVec Ideal S2048x2048 .bf16 :=
  fun y => (∑ k : Fin 1024, (a (ix2 (y 0) k) : EReal) * b (ix2 k (y 1)) : EReal)

theorem point (a : FVec Ideal S1024x1024 .bf16) (b : FVec Ideal S1024x512 .bf16) (y : S1024x512.Idx) :
    k0_pay4 (F := Ideal) (k0_pay2 (F := Ideal) a b) y = (∑ k : Fin 1024, (a (ix2 (y 0) k) : EReal) * b (ix2 k (y 1)) : EReal) := by
  pointwise [k0_pay4, k0_pay2, k0_pay1]

theorem final (c : Dev nD) : (dats m 0 c).arrAt 2 cfg0.N = plain (V m c main_v0) (V m c main_v1) := by
  refine (dats m 0 c).arrAt_eq_of_covers 2 _ (by decide +kernel) fun t _ y => ?_
  blk_simp
  rw [after0_2]
  unfold outsAt0
  frame_out
  rw [point]
  unfold plain
  blk_point [iblk, idx t]

theorem V_first (c : Dev nD) : V m c main_v0 = (m ((c.tc : Thread nD τ).loc main_arg0) : FVec Ideal S2048x1024 .f32) := by
  entry_read
  rfl

theorem V_second (c : Dev nD) : V m c main_v1 = (m ((c.tc : Thread nD τ).loc main_arg1) : FVec Ideal S1024x2048 .f32) := by
  entry_read
  rfl

/-- The product of the call's two arguments. -/
def product (c : Dev nD) : FVec Ideal S2048x2048 .bf16 :=
  plain (m ((c.tc : Thread nD τ).loc main_arg0) : FVec Ideal S2048x1024 .f32) (m ((c.tc : Thread nD τ).loc main_arg1) : FVec Ideal S1024x2048 .f32)

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v2) = product m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v3 = extf .f32 (product m c) bitsLt_bf16_f32 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v3) = _
  after_results

theorem same (a : FVec Ideal S2048x1024 .f32) (b : FVec Ideal S1024x2048 .f32) : extf .f32 (plain a b) bitsLt_bf16_f32
    = Host.dotGeneral (φ₂ := .f32) Cert.Reference14Ideal.dot_S2048x1024_S1024x2048_S2048x2048_1_0_0_1_n_n none a b := by
  funext y
  pointwise [plain]

end Cert.Kernel14Ideal.Prod

namespace Cert.Proof

open Idealize.ShloMosaic Idealize.ShloMosaic.TcCoe Idealize.SL.Sem

theorem frame_reference14 : Cert.quiescent_Reference14Ideal := fun m ρ _ =>
  (θ_run Cert.Reference14Ideal.defs _ _).mono (fun r h => ⟨fun c => (h c).2, sem_eq_zero_of_no_sems rfl r.2⟩)
    (Cert.Reference14Ideal.Value.run (F := Ideal) m ρ)

theorem algebraic14 : Cert.algebraic_Kernel14Ideal_Reference14Ideal := by
  intro m g m' g' _ hargs
  refine ⟨fun c => extf .f32 (Cert.Kernel14Ideal.Prod.product m c) Cert.Kernel14Ideal.Gen.bitsLt_bf16_f32, ?_, ?_⟩
  · refine (θ_run Cert.Kernel14Ideal.defs _ _).mono (fun r hr c => ?_) (θ_run_and (Cert.Kernel14Ideal.Gen.run_main m g) (Cert.Kernel14Ideal.Gen.unchanged m g))
    obtain ⟨h, hu⟩ := hr
    exact ⟨((h c).2 Cert.Kernel14Ideal.main_v3 (Pipeline.mem_restRefs_of _ (by decide) (by decide))).trans (Cert.Kernel14Ideal.Prod.result m c), hu c⟩
  · refine (θ_run Cert.Reference14Ideal.defs _ _).mono (fun r hr c => ?_) (Cert.Reference14Ideal.Value.run m' g')
    obtain ⟨q0, q1⟩ := hargs c
    obtain ⟨r0, rest⟩ := hr c
    rw [q0, q1] at r0
    exact ⟨r0.trans (Cert.Kernel14Ideal.Prod.same _ _).symm, rest⟩

end Cert.Proof

end
-- ==== Proof.Prod.BranchRwkvIn.lean ====
/- The gradient of the RWKV branch: the array that the call leaves, and the claim. -/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.Kernel15Ideal.Prod

open Idealize.ShloMosaic Idealize.ShloMosaic.TcCoe Idealize.SL.Sem
open Idealize.ShloMosaic.Pipeline (Dat)
open Cert.Kernel15Ideal Cert.Kernel15Ideal.Gen

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The rows of the first array against the rows of the second. -/
def byRows (a : FVec Ideal S2048x2048 .bf16) (b : FVec Ideal S1024x2048 .bf16) : FVec Ideal S2048x1024 .f32 :=
  fun y => (∑ k : Fin 2048, (a (ix2 (y 0) k) : EReal) * b (ix2 (y 1) k) : EReal)

theorem point (a : FVec Ideal S1024x2048 .bf16) (b : FVec Ideal S512x2048 .bf16) (y : S1024x512.Idx) :
    k0_pay2 (F := Ideal) a b y = (∑ k : Fin 2048, (a (ix2 (y 0) k) : EReal) * b (ix2 (y 1) k) : EReal) := by
  pointwise [k0_pay2, k0_pay1]

theorem final (c : Dev nD) : (dats m 0 c).arrAt 2 cfg0.N = byRows (V m c main_v0) (V m c main_v1) := by
  refine (dats m 0 c).arrAt_eq_of_covers 2 _ (by decide +kernel) fun t _ y => ?_
  blk_simp
  rw [after0_2]
  unfold outsAt0
  frame_out
  rw [point]
  unfold byRows
  blk_point [iblk, idx t]

theorem V_first (c : Dev nD) : V m c main_v0 = (m ((c.tc : Thread nD τ).loc main_arg2) : FVec Ideal S2048x2048 .f32) := by
  entry_read
  rfl

theorem V_second (c : Dev nD) : V m c main_v1 = (m ((c.tc : Thread nD τ).loc main_arg1) : FVec Ideal S1024x2048 .f32) := by
  entry_read
  rfl

/-- The product of the call's two arguments. -/
def product (c : Dev nD) : FVec Ideal S2048x1024 .f32 :=
  byRows (m ((c.tc : Thread nD τ).loc main_arg2) : FVec Ideal S2048x2048 .f32) (m ((c.tc : Thread nD τ).loc main_arg1) : FVec Ideal S1024x2048 .f32)

theorem left (c : Dev nD) : (dats m 0 c).arrAt 2 cfg0.N = product m c := by
  refine (final m c).trans ?_
  rw [V_first, V_second]
  rfl

theorem same (a : FVec Ideal S2048x2048 .f32) (b : FVec Ideal S1024x2048 .f32) : byRows a b
    = Host.dotGeneral (φ₂ := .f32) Cert.Reference15Ideal.dot_S2048x2048_S1024x2048_S2048x1024_1_1_0_0_n_n none a b := by
  funext y
  pointwise [byRows]

end Cert.Kernel15Ideal.Prod

namespace Cert.Proof

open Idealize.ShloMosaic Idealize.ShloMosaic.TcCoe Idealize.SL.Sem

theorem frame_reference15 : Cert.quiescent_Reference15Ideal := fun m ρ _ =>
  (θ_run Cert.Reference15Ideal.defs _ _).mono (fun r h => ⟨fun c => (h c).2, sem_eq_zero_of_no_sems rfl r.2⟩)
    (Cert.Reference15Ideal.Value.run (F := Ideal) m ρ)

theorem algebraic15 : Cert.algebraic_Kernel15Ideal_Reference15Ideal := by
  intro m g m' g' _ hargs
  refine ⟨fun c => Cert.Kernel15Ideal.Prod.product m c, ?_, ?_⟩
  · refine (θ_run Cert.Kernel15Ideal.defs _ _).mono (fun r hr c => ?_) (Cert.Kernel15Ideal.Value.run_blocks m g)
    obtain ⟨h, hu⟩ := hr c
    exact ⟨h.trans (Cert.Kernel15Ideal.Prod.left m c), hu⟩
  · refine (θ_run Cert.Reference15Ideal.defs _ _).mono (fun r hr c => ?_) (Cert.Reference15Ideal.Value.run m' g')
    obtain ⟨q0, q1, q2⟩ := hargs c
    obtain ⟨r0, rest⟩ := hr c
    rw [q2, q1] at r0
    exact ⟨r0.trans (Cert.Kernel15Ideal.Prod.same _ _).symm, rest⟩

end Cert.Proof

end
-- ==== Proof.Prod.BranchRwkvWeight.lean ====
/- The gradient of the weight of the RWKV branch: the array that the call leaves, and the claim. -/
module

public import proofs.«01_k».proof.Defs
public import proofs.«01_k».proof.Proof.Gen.Kernel16Ideal.Frame
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.Kernel16Ideal.Prod

open Idealize.ShloMosaic Idealize.ShloMosaic.TcCoe Idealize.SL.Sem
open Idealize.ShloMosaic.Pipeline (Dat)
open Cert.Kernel16Ideal Cert.Kernel16Ideal.Gen

variable (m : (ℓ : Loc nD τ sig) → Buf (Elt Ideal) ℓ)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The columns of the first array against the columns of the second. -/
def byColumns (a : FVec Ideal S2048x1024 .bf16) (b : FVec Ideal S2048x2048 .bf16) : FVec Ideal S1024x2048 .bf16 :=
  fun y => (∑ k : Fin 2048, (a (ix2 k (y 0)) : EReal) * b (ix2 k (y 1)) : EReal)

theorem point (a : FVec Ideal S2048x1024 .bf16) (b : FVec Ideal S2048x512 .bf16) (y : S1024x512.Idx) :
    k0_pay4 (F := Ideal) (k0_pay2 (F := Ideal) a b) y = (∑ k : Fin 2048, (a (ix2 k (y 0)) : EReal) * b (ix2 k (y 1)) : EReal) := by
  pointwise [k0_pay4, k0_pay2, k0_pay1]

theorem final (c : Dev nD) : (dats m 0 c).arrAt 2 cfg0.N = byColumns (V m c main_v0) (V m c main_v1) := by
  refine (dats m 0 c).arrAt_eq_of_covers 2 _ (by decide +kernel) fun t _ y => ?_
  blk_simp
  rw [after0_2]
  unfold outsAt0
  frame_out
  rw [point]
  unfold byColumns
  blk_point [iblk, idx t]

theorem V_first (c : Dev nD) : V m c main_v0 = (m ((c.tc : Thread nD τ).loc main_arg0) : FVec Ideal S2048x1024 .f32) := by
  entry_read
  rfl

theorem V_second (c : Dev nD) : V m c main_v1 = (m ((c.tc : Thread nD τ).loc main_arg2) : FVec Ideal S2048x2048 .f32) := by
  entry_read
  rfl

/-- The product of the call's two arguments. -/
def product (c : Dev nD) : FVec Ideal S1024x2048 .bf16 :=
  byColumns (m ((c.tc : Thread nD τ).loc main_arg0) : FVec Ideal S2048x1024 .f32) (m ((c.tc : Thread nD τ).loc main_arg2) : FVec Ideal S2048x2048 .f32)

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v2) = product m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v3 = extf .f32 (product m c) bitsLt_bf16_f32 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v3) = _
  after_results

theorem same (a : FVec Ideal S2048x1024 .f32) (b : FVec Ideal S2048x2048 .f32) : extf .f32 (byColumns a b) bitsLt_bf16_f32
    = transpose Cert.Reference16Ideal.S1024x2048 [1, 0] (Host.dotGeneral (φ₂ := .f32) Cert.Reference16Ideal.dot_S2048x2048_S2048x1024_S2048x1024_0_0_1_1_n_n none b a)
        Cert.Reference16Ideal.Gen.transposes_S2048x1024_S1024x2048_1_0 := by
  funext y
  pointwise [byColumns]
  exact Finset.sum_congr rfl fun k _ => mul_comm _ _

end Cert.Kernel16Ideal.Prod

namespace Cert.Proof

open Idealize.ShloMosaic Idealize.ShloMosaic.TcCoe Idealize.SL.Sem

theorem frame_reference16 : Cert.quiescent_Reference16Ideal := fun m ρ _ =>
  (θ_run Cert.Reference16Ideal.defs _ _).mono (fun r h => ⟨fun c => (h c).2, sem_eq_zero_of_no_sems rfl r.2⟩)
    (Cert.Reference16Ideal.Value.run (F := Ideal) m ρ)

theorem algebraic16 : Cert.algebraic_Kernel16Ideal_Reference16Ideal := by
  intro m g m' g' _ hargs
  refine ⟨fun c => extf .f32 (Cert.Kernel16Ideal.Prod.product m c) Cert.Kernel16Ideal.Gen.bitsLt_bf16_f32, ?_, ?_⟩
  · refine (θ_run Cert.Kernel16Ideal.defs _ _).mono (fun r hr c => ?_) (θ_run_and (Cert.Kernel16Ideal.Gen.run_main m g) (Cert.Kernel16Ideal.Gen.unchanged m g))
    obtain ⟨h, hu⟩ := hr
    exact ⟨((h c).2 Cert.Kernel16Ideal.main_v3 (Pipeline.mem_restRefs_of _ (by decide) (by decide))).trans (Cert.Kernel16Ideal.Prod.result m c), hu c⟩
  · refine (θ_run Cert.Reference16Ideal.defs _ _).mono (fun r hr c => ?_) (Cert.Reference16Ideal.Value.run m' g')
    obtain ⟨q0, q1, q2⟩ := hargs c
    obtain ⟨r0, rest⟩ := hr c
    rw [q0, q2] at r0
    exact ⟨r0.trans (Cert.Kernel16Ideal.Prod.same _ _).symm, rest⟩

end Cert.Proof

end
-- ==== Proof.Prod.OutProj.lean ====
/- The output projection: the array that the call leaves, and the claim. -/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

namespace Cert.Kernel17Ideal.Prod

open Idealize.ShloMosaic Idealize.ShloMosaic.TcCoe Idealize.SL.Sem
open Idealize.ShloMosaic.Pipeline (Dat)
open Cert.Kernel17Ideal Cert.Kernel17Ideal.Gen

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The rows of the first array against the columns of the second. -/
def plain (a : FVec Ideal S2048x2048 .bf16) (b : FVec Ideal S2048x2048 .bf16) : FVec Ideal S2048x2048 .f32 :=
  fun y => (∑ k : Fin 2048, (a (ix2 (y 0) k) : EReal) * b (ix2 k (y 1)) : EReal)

theorem point (a : FVec Ideal S1024x2048 .bf16) (b : FVec Ideal S2048x512 .bf16) (y : S1024x512.Idx) :
    k0_pay2 (F := Ideal) a b y = (∑ k : Fin 2048, (a (ix2 (y 0) k) : EReal) * b (ix2 k (y 1)) : EReal) := by
  pointwise [k0_pay2, k0_pay1]

theorem final (c : Dev nD) : (dats m 0 c).arrAt 2 cfg0.N = plain (V m c main_v0) (V m c main_v1) := by
  refine (dats m 0 c).arrAt_eq_of_covers 2 _ (by decide +kernel) fun t _ y => ?_
  blk_simp
  rw [after0_2]
  unfold outsAt0
  frame_out
  rw [point]
  unfold plain
  blk_point [iblk, idx t]

theorem V_first (c : Dev nD) : V m c main_v0 = (m ((c.tc : Thread nD τ).loc main_arg0) : FVec Ideal S2048x2048 .f32) := by
  entry_read
  rfl

theorem V_second (c : Dev nD) : V m c main_v1 = (m ((c.tc : Thread nD τ).loc main_arg1) : FVec Ideal S2048x2048 .f32) := by
  entry_read
  rfl

/-- The product of the call's two arguments. -/
def product (c : Dev nD) : FVec Ideal S2048x2048 .f32 :=
  plain (m ((c.tc : Thread nD τ).loc main_arg0) : FVec Ideal S2048x2048 .f32) (m ((c.tc : Thread nD τ).loc main_arg1) : FVec Ideal S2048x2048 .f32)

theorem left (c : Dev nD) : (dats m 0 c).arrAt 2 cfg0.N = product m c := by
  refine (final m c).trans ?_
  rw [V_first, V_second]
  rfl

theorem same (a : FVec Ideal S2048x2048 .f32) (b : FVec Ideal S2048x2048 .f32) : plain a b
    = Host.dotGeneral (φ₂ := .f32) Cert.Reference17Ideal.dot_S2048x2048_S2048x2048_S2048x2048_1_0_0_1_n_n none a b := by
  funext y
  pointwise [plain]

end Cert.Kernel17Ideal.Prod

namespace Cert.Proof

open Idealize.ShloMosaic Idealize.ShloMosaic.TcCoe Idealize.SL.Sem

theorem frame_reference17 : Cert.quiescent_Reference17Ideal := fun m ρ _ =>
  (θ_run Cert.Reference17Ideal.defs _ _).mono (fun r h => ⟨fun c => (h c).2, sem_eq_zero_of_no_sems rfl r.2⟩)
    (Cert.Reference17Ideal.Value.run (F := Ideal) m ρ)

theorem algebraic17 : Cert.algebraic_Kernel17Ideal_Reference17Ideal := by
  intro m g m' g' _ hargs
  refine ⟨fun c => Cert.Kernel17Ideal.Prod.product m c, ?_, ?_⟩
  · refine (θ_run Cert.Kernel17Ideal.defs _ _).mono (fun r hr c => ?_) (Cert.Kernel17Ideal.Value.run_blocks m g)
    obtain ⟨h, hu⟩ := hr c
    exact ⟨h.trans (Cert.Kernel17Ideal.Prod.left m c), hu⟩
  · refine (θ_run Cert.Reference17Ideal.defs _ _).mono (fun r hr c => ?_) (Cert.Reference17Ideal.Value.run m' g')
    obtain ⟨q0, q1⟩ := hargs c
    obtain ⟨r0, rest⟩ := hr c
    rw [q0, q1] at r0
    exact ⟨r0.trans (Cert.Kernel17Ideal.Prod.same _ _).symm, rest⟩

end Cert.Proof

end
-- ==== Proof.Prod.OutProjIn.lean ====
/- The gradient of what the output projection takes: the array that the call leaves, and the claim. -/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

namespace Cert.Kernel18Ideal.Prod

open Idealize.ShloMosaic Idealize.ShloMosaic.TcCoe Idealize.SL.Sem
open Idealize.ShloMosaic.Pipeline (Dat)
open Cert.Kernel18Ideal Cert.Kernel18Ideal.Gen

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The rows of the first array against the rows of the second. -/
def byRows (a : FVec Ideal S2048x2048 .bf16) (b : FVec Ideal S2048x2048 .bf16) : FVec Ideal S2048x2048 .f32 :=
  fun y => (∑ k : Fin 2048, (a (ix2 (y 0) k) : EReal) * b (ix2 (y 1) k) : EReal)

theorem point (a : FVec Ideal S1024x2048 .bf16) (b : FVec Ideal S512x2048 .bf16) (y : S1024x512.Idx) :
    k0_pay2 (F := Ideal) a b y = (∑ k : Fin 2048, (a (ix2 (y 0) k) : EReal) * b (ix2 (y 1) k) : EReal) := by
  pointwise [k0_pay2, k0_pay1]

theorem final (c : Dev nD) : (dats m 0 c).arrAt 2 cfg0.N = byRows (V m c main_v0) (V m c main_v1) := by
  refine (dats m 0 c).arrAt_eq_of_covers 2 _ (by decide +kernel) fun t _ y => ?_
  blk_simp
  rw [after0_2]
  unfold outsAt0
  frame_out
  rw [point]
  unfold byRows
  blk_point [iblk, idx t]

theorem V_first (c : Dev nD) : V m c main_v0 = (m ((c.tc : Thread nD τ).loc main_arg2) : FVec Ideal S2048x2048 .f32) := by
  entry_read
  rfl

theorem V_second (c : Dev nD) : V m c main_v1 = (m ((c.tc : Thread nD τ).loc main_arg1) : FVec Ideal S2048x2048 .f32) := by
  entry_read
  rfl

/-- The product of the call's two arguments. -/
def product (c : Dev nD) : FVec Ideal S2048x2048 .f32 :=
  byRows (m ((c.tc : Thread nD τ).loc main_arg2) : FVec Ideal S2048x2048 .f32) (m ((c.tc : Thread nD τ).loc main_arg1) : FVec Ideal S2048x2048 .f32)

theorem left (c : Dev nD) : (dats m 0 c).arrAt 2 cfg0.N = product m c := by
  refine (final m c).trans ?_
  rw [V_first, V_second]
  rfl

theorem same (a : FVec Ideal S2048x2048 .f32) (b : FVec Ideal S2048x2048 .f32) : byRows a b
    = Host.dotGeneral (φ₂ := .f32) Cert.Reference18Ideal.dot_S2048x2048_S2048x2048_S2048x2048_1_1_0_0_n_n none a b := by
  funext y
  pointwise [byRows]

end Cert.Kernel18Ideal.Prod

namespace Cert.Proof

open Idealize.ShloMosaic Idealize.ShloMosaic.TcCoe Idealize.SL.Sem

theorem frame_reference18 : Cert.quiescent_Reference18Ideal := fun m ρ _ =>
  (θ_run Cert.Reference18Ideal.defs _ _).mono (fun r h => ⟨fun c => (h c).2, sem_eq_zero_of_no_sems rfl r.2⟩)
    (Cert.Reference18Ideal.Value.run (F := Ideal) m ρ)

theorem algebraic18 : Cert.algebraic_Kernel18Ideal_Reference18Ideal := by
  intro m g m' g' _ hargs
  refine ⟨fun c => Cert.Kernel18Ideal.Prod.product m c, ?_, ?_⟩
  · refine (θ_run Cert.Kernel18Ideal.defs _ _).mono (fun r hr c => ?_) (Cert.Kernel18Ideal.Value.run_blocks m g)
    obtain ⟨h, hu⟩ := hr c
    exact ⟨h.trans (Cert.Kernel18Ideal.Prod.left m c), hu⟩
  · refine (θ_run Cert.Reference18Ideal.defs _ _).mono (fun r hr c => ?_) (Cert.Reference18Ideal.Value.run m' g')
    obtain ⟨q0, q1, q2⟩ := hargs c
    obtain ⟨r0, rest⟩ := hr c
    rw [q2, q1] at r0
    exact ⟨r0.trans (Cert.Kernel18Ideal.Prod.same _ _).symm, rest⟩

end Cert.Proof

end
-- ==== Proof.Prod.OutProjWeight.lean ====
/- The gradient of the weight of the output projection: the array that the call leaves, and the claim. -/
module

public import proofs.«01_k».proof.Defs
public import proofs.«01_k».proof.Proof.Gen.Kernel19Ideal.Frame
public import proofs.«01_k».proof.Proof.Gen.Reference19Ideal.Run
public import Idealize.ShloMosaic.Lib.Pipeline.ValueKit
public import Idealize.ShloMosaic.Lib.Pointwise

@[expose] public section

set_option maxRecDepth 16384

noncomputable section

namespace Cert.Kernel19Ideal.Prod

open Idealize.ShloMosaic Idealize.ShloMosaic.TcCoe Idealize.SL.Sem
open Idealize.ShloMosaic.Pipeline (Dat)
open Cert.Kernel19Ideal Cert.Kernel19Ideal.Gen

variable (m : (ℓ : Loc nD τ sig) → Buf (Elt Ideal) ℓ)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The columns of the first array against the columns of the second. -/
def byColumns (a : FVec Ideal S2048x2048 .bf16) (b : FVec Ideal S2048x2048 .bf16) : FVec Ideal S2048x2048 .bf16 :=
  fun y => (∑ k : Fin 2048, (a (ix2 k (y 0)) : EReal) * b (ix2 k (y 1)) : EReal)

theorem point (a : FVec Ideal S2048x1024 .bf16) (b : FVec Ideal S2048x512 .bf16) (y : S1024x512.Idx) :
    k0_pay4 (F := Ideal) (k0_pay2 (F := Ideal) a b) y = (∑ k : Fin 2048, (a (ix2 k (y 0)) : EReal) * b (ix2 k (y 1)) : EReal) := by
  pointwise [k0_pay4, k0_pay2, k0_pay1]

theorem final (c : Dev nD) : (dats m 0 c).arrAt 2 cfg0.N = byColumns (V m c main_v0) (V m c main_v1) := by
  refine (dats m 0 c).arrAt_eq_of_covers 2 _ (by decide +kernel) fun t _ y => ?_
  blk_simp
  rw [after0_2]
  unfold outsAt0
  frame_out
  rw [point]
  unfold byColumns
  blk_point [iblk, idx t]

theorem V_first (c : Dev nD) : V m c main_v0 = (m ((c.tc : Thread nD τ).loc main_arg0) : FVec Ideal S2048x2048 .f32) := by
  entry_read
  rfl

theorem V_second (c : Dev nD) : V m c main_v1 = (m ((c.tc : Thread nD τ).loc main_arg2) : FVec Ideal S2048x2048 .f32) := by
  entry_read
  rfl

/-- The product of the call's two arguments. -/
def product (c : Dev nD) : FVec Ideal S2048x2048 .bf16 :=
  byColumns (m ((c.tc : Thread nD τ).loc main_arg0) : FVec Ideal S2048x2048 .f32) (m ((c.tc : Thread nD τ).loc main_arg2) : FVec Ideal S2048x2048 .f32)

theorem left (c : Dev nD) : (dats m 0 c).arrAt 2 cfg0.N = product m c := by
  refine (final m c).trans ?_
  rw [V_first, V_second]
  rfl

theorem arrays_distinct : Function.Injective (Pipeline.arrRef (cfgs 0).spec) := by decide

theorem region (c : Dev nD) : Pipeline.withArrays (cfgs 0).spec c (V0 m c) (fun w => (dats m 0 c).arrAt w (cfgs 0).N) (Proc.devRef .tc main_v2) = product m c :=
  (Pipeline.withArrays_arr (cfgs 0).spec arrays_distinct c (V0 m c) (fun w => (dats m 0 c).arrAt w (cfgs 0).N) 2).trans (left m c)

theorem result (c : Dev nD) : Pipeline.afterTail₀ cfgs (dats m) 0 (V0 m) [hostOps1] c main_v3 = extf .f32 (product m c) bitsLt_bf16_f32 := by
  rw [← region m c]
  unfold Pipeline.afterTail₀
  generalize Pipeline.withArrays (cfgs 0).spec c (V0 m c) (fun w => (dats m 0 c).arrAt w (cfgs 0).N) = W
  show StableHlo.after hostOps1 W (Proc.devRef .tc main_v3) = _
  after_results

theorem same (a : FVec Ideal S2048x2048 .f32) (b : FVec Ideal S2048x2048 .f32) : extf .f32 (byColumns a b) bitsLt_bf16_f32
    = transpose Cert.Reference19Ideal.S2048x2048 [1, 0] (Host.dotGeneral (φ₂ := .f32) Cert.Reference19Ideal.dot_S2048x2048_S2048x2048_S2048x2048_0_0_1_1_n_n none b a)
        Cert.Reference19Ideal.Gen.transposes_S2048x2048_S2048x2048_1_0 := by
  funext y
  pointwise [byColumns]
  exact Finset.sum_congr rfl fun k _ => mul_comm _ _

end Cert.Kernel19Ideal.Prod

namespace Cert.Proof

open Idealize.ShloMosaic Idealize.ShloMosaic.TcCoe Idealize.SL.Sem

theorem frame_reference19 : Cert.quiescent_Reference19Ideal := fun m ρ _ =>
  (θ_run Cert.Reference19Ideal.defs _ _).mono (fun r h => ⟨fun c => (h c).2, sem_eq_zero_of_no_sems rfl r.2⟩)
    (Cert.Reference19Ideal.Value.run (F := Ideal) m ρ)

theorem algebraic19 : Cert.algebraic_Kernel19Ideal_Reference19Ideal := by
  intro m g m' g' _ hargs
  refine ⟨fun c => extf .f32 (Cert.Kernel19Ideal.Prod.product m c) Cert.Kernel19Ideal.Gen.bitsLt_bf16_f32, ?_, ?_⟩
  · refine (θ_run Cert.Kernel19Ideal.defs _ _).mono (fun r hr c => ?_) (θ_run_and (Cert.Kernel19Ideal.Gen.run_main m g) (Cert.Kernel19Ideal.Gen.unchanged m g))
    obtain ⟨h, hu⟩ := hr
    exact ⟨((h c).2 Cert.Kernel19Ideal.main_v3 (Pipeline.mem_restRefs_of _ (by decide) (by decide))).trans (Cert.Kernel19Ideal.Prod.result m c), hu c⟩
  · refine (θ_run Cert.Reference19Ideal.defs _ _).mono (fun r hr c => ?_) (Cert.Reference19Ideal.Value.run m' g')
    obtain ⟨q0, q1, q2⟩ := hargs c
    obtain ⟨r0, rest⟩ := hr c
    rw [q0, q2] at r0
    exact ⟨r0.trans (Cert.Kernel19Ideal.Prod.same _ _).symm, rest⟩

end Cert.Proof

end
-- ==== Proof.lean ====
/- The certificate: the attention's two calls keep their arguments, end with every counter at zero, and leave the gradients
   of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import Idealize.ShloMosaic.Adequacy
public import Idealize.ShloMosaic.Init
public import proofs.«01_k».proof.Proof.Attn.Frames
public import proofs.«01_k».proof.Proof.Attn.Value
public import proofs.«01_k».proof.Proof.Prod.Frames
public import proofs.«01_k».proof.Proof.Prod.Shift
public import proofs.«01_k».proof.Proof.Prod.MlaNormGrad
public import proofs.«01_k».proof.Proof.Prod.Head
public import proofs.«01_k».proof.Proof.Prod.PreNorm
public import proofs.«01_k».proof.Proof.Prod.MlaNorm
public import proofs.«01_k».proof.Proof.Prod.PreNormGrad
public import proofs.«01_k».proof.Proof.Prod.Merge
public import proofs.«01_k».proof.Proof.Prod.QUp
public import proofs.«01_k».proof.Proof.Prod.QUpIn
public import proofs.«01_k».proof.Proof.Prod.QUpWeight
public import proofs.«01_k».proof.Proof.Prod.KvUp
public import proofs.«01_k».proof.Proof.Prod.KvUpIn
public import proofs.«01_k».proof.Proof.Prod.KvUpWeight
public import proofs.«01_k».proof.Proof.Prod.BranchMla
public import proofs.«01_k».proof.Proof.Prod.BranchMlaIn
public import proofs.«01_k».proof.Proof.Prod.BranchMlaWeight
public import proofs.«01_k».proof.Proof.Prod.BranchRwkv
public import proofs.«01_k».proof.Proof.Prod.BranchRwkvIn
public import proofs.«01_k».proof.Proof.Prod.BranchRwkvWeight
public import proofs.«01_k».proof.Proof.Prod.OutProj
public import proofs.«01_k».proof.Proof.Prod.OutProjIn
public import proofs.«01_k».proof.Proof.Prod.OutProjWeight

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    finite_facts,
    frame_kernel, frame_ideal, frame_ideal_finite, frame_reference, frame_reference_finite,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    trivial, algebraic,
    trivial, algebraic2, trivial, algebraic3, trivial, algebraic4, trivial, algebraic5, trivial, algebraic6, trivial,
    algebraic7, trivial, algebraic8, trivial, algebraic9, trivial, algebraic10, trivial, algebraic11, trivial,
    algebraic12, trivial, algebraic13, trivial, algebraic14, trivial, algebraic15, trivial, algebraic16, trivial,
    algebraic17, trivial, algebraic18, trivial, algebraic19, trivial, algebraic20, trivial, algebraic21, trivial,
    algebraic22, trivial, algebraic23, trivial, algebraic24, trivial, algebraic25, trivial, algebraic26⟩

end Cert.Proof

end
